-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x1024 : Shape := ⟨3, ![2, 1, 1024]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩
abbrev S1x1x1024 : Shape := ⟨3, ![1, 1, 1024]⟩
abbrev S2 : Shape := ⟨1, ![2]⟩
abbrev S1x1 : Shape := ⟨2, ![1, 1]⟩
abbrev S1x32768 : Shape := ⟨2, ![1, 32768]⟩
abbrev S4 : Shape := ⟨1, ![4]⟩
abbrev S1x4 : Shape := ⟨2, ![1, 4]⟩
abbrev S4x2048x1024 : Shape := ⟨3, ![4, 2048, 1024]⟩
abbrev S1x512x1024 : Shape := ⟨3, ![1, 512, 1024]⟩
abbrev S512x1024 : Shape := ⟨2, ![512, 1024]⟩
abbrev S1x2048x1024 : Shape := ⟨3, ![1, 2048, 1024]⟩
abbrev S2048x1024 : Shape := ⟨2, ![2048, 1024]⟩
abbrev S1x2048 : Shape := ⟨2, ![1, 2048]⟩
abbrev S2048 : Shape := ⟨1, ![2048]⟩
abbrev S1x1x2048 : Shape := ⟨3, ![1, 1, 2048]⟩
abbrev S1x1x1 : Shape := ⟨3, ![1, 1, 1]⟩

abbrev nBuf : Space → Nat
  | .hbm => 302
  | .vmem => 9
  | .smem => 4
  | _ => 0

abbrev hbmTy0_0 (i : Nat) : BufTy := match i % 128 with
  | 0 => ⟨S2x1x1024, .f32⟩
  | 1 => ⟨S32768x1024, .f32⟩
  | 2 => ⟨S1024x1024, .f32⟩
  | 3 => ⟨S1024, .f32⟩
  | 4 => ⟨S1x1024, .f32⟩
  | 5 => ⟨S1, .f32⟩
  | 6 => ⟨S_, .i32⟩
  | 7 => ⟨S_, .i32⟩
  | 8 => ⟨S1x1x1024, .f32⟩
  | 9 => ⟨S1x1024, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S_, .f32⟩
  | 21 => ⟨S_, .f32⟩
  | 22 => ⟨S_, .f32⟩
  | 23 => ⟨S1x1, .f32⟩
  | 24 => ⟨S1x1, .f32⟩
  | 25 => ⟨S1, .i32⟩
  | 26 => ⟨S_, .i32⟩
  | 27 => ⟨S1, .i32⟩
  | 28 => ⟨S_, .i32⟩
  | 29 => ⟨S1x32768, .i64⟩
  | 30 => ⟨S1x32768, .i64⟩
  | 31 => ⟨S_, .i64⟩
  | 32 => ⟨S1x32768, .i64⟩
  | 33 => ⟨S1x32768, .i64⟩
  | 34 => ⟨S_, .i64⟩
  | 35 => ⟨S1x32768, .i64⟩
  | 36 => ⟨S1x32768, .i64⟩
  | 37 => ⟨S1x32768, .i64⟩
  | 38 => ⟨S_, .i64⟩
  | 39 => ⟨S1x32768, .i64⟩
  | 40 => ⟨S1x32768, .i64⟩
  | 41 => ⟨S1x32768, .i32⟩
  | 42 => ⟨S1x32768, .i32⟩
  | 43 => ⟨S_, .i32⟩
  | 44 => ⟨S_, .i32⟩
  | 45 => ⟨S_, .i32⟩
  | 46 => ⟨S1x32768, .i32⟩
  | 47 => ⟨S1x32768, .i32⟩
  | 48 => ⟨S1x32768, .i32⟩
  | 49 => ⟨S1x32768, .i32⟩
  | 50 => ⟨S1x32768, .i32⟩
  | 51 => ⟨S_, .i32⟩
  | 52 => ⟨S1x32768, .i32⟩
  | 53 => ⟨S1x32768, .i32⟩
  | 54 => ⟨S_, .i32⟩
  | 55 => ⟨S1x32768, .i32⟩
  | 56 => ⟨S1x32768, .i32⟩
  | 57 => ⟨S1x32768, .i32⟩
  | 58 => ⟨S1x32768, .i32⟩
  | 59 => ⟨S1x32768, .i32⟩
  | 60 => ⟨S_, .i32⟩
  | 61 => ⟨S1x32768, .i32⟩
  | 62 => ⟨S1x32768, .i32⟩
  | 63 => ⟨S_, .i32⟩
  | 64 => ⟨S1x32768, .i32⟩
  | 65 => ⟨S1x32768, .i32⟩
  | 66 => ⟨S1x32768, .i32⟩
  | 67 => ⟨S1x32768, .i32⟩
  | 68 => ⟨S1x32768, .i32⟩
  | 69 => ⟨S_, .i32⟩
  | 70 => ⟨S1x32768, .i32⟩
  | 71 => ⟨S1x32768, .i32⟩
  | 72 => ⟨S_, .i32⟩
  | 73 => ⟨S1x32768, .i32⟩
  | 74 => ⟨S1x32768, .i32⟩
  | 75 => ⟨S1x32768, .i32⟩
  | 76 => ⟨S1x32768, .i32⟩
  | 77 => ⟨S1x32768, .i32⟩
  | 78 => ⟨S_, .i32⟩
  | 79 => ⟨S1x32768, .i32⟩
  | 80 => ⟨S1x32768, .i32⟩
  | 81 => ⟨S_, .i32⟩
  | 82 => ⟨S1x32768, .i32⟩
  | 83 => ⟨S1x32768, .i32⟩
  | 84 => ⟨S1x32768, .i32⟩
  | 85 => ⟨S1x32768, .i32⟩
  | 86 => ⟨S1x32768, .i32⟩
  | 87 => ⟨S1x32768, .i32⟩
  | 88 => ⟨S1x32768, .i32⟩
  | 89 => ⟨S1x32768, .i32⟩
  | 90 => ⟨S_, .i32⟩
  | 91 => ⟨S1x32768, .i32⟩
  | 92 => ⟨S1x32768, .i32⟩
  | 93 => ⟨S1x32768, .i32⟩
  | 94 => ⟨S_, .i32⟩
  | 95 => ⟨S1x32768, .i32⟩
  | 96 => ⟨S1x32768, .i32⟩
  | 97 => ⟨S_, .i32⟩
  | 98 => ⟨S1x32768, .i32⟩
  | 99 => ⟨S1x32768, .i32⟩
  | 100 => ⟨S1x32768, .i32⟩
  | 101 => ⟨S1x32768, .i32⟩
  | 102 => ⟨S1x32768, .i32⟩
  | 103 => ⟨S_, .i32⟩
  | 104 => ⟨S1x32768, .i32⟩
  | 105 => ⟨S1x32768, .i32⟩
  | 106 => ⟨S_, .i32⟩
  | 107 => ⟨S1x32768, .i32⟩
  | 108 => ⟨S1x32768, .i32⟩
  | 109 => ⟨S1x32768, .i32⟩
  | 110 => ⟨S1x32768, .i32⟩
  | 111 => ⟨S1x32768, .i32⟩
  | 112 => ⟨S_, .i32⟩
  | 113 => ⟨S1x32768, .i32⟩
  | 114 => ⟨S1x32768, .i32⟩
  | 115 => ⟨S_, .i32⟩
  | 116 => ⟨S1x32768, .i32⟩
  | 117 => ⟨S1x32768, .i32⟩
  | 118 => ⟨S1x32768, .i32⟩
  | 119 => ⟨S1x32768, .i32⟩
  | 120 => ⟨S1x32768, .i32⟩
  | 121 => ⟨S_, .i32⟩
  | 122 => ⟨S1x32768, .i32⟩
  | 123 => ⟨S1x32768, .i32⟩
  | 124 => ⟨S_, .i32⟩
  | 125 => ⟨S1x32768, .i32⟩
  | 126 => ⟨S1x32768, .i32⟩
  | 127 => ⟨S1x32768, .i32⟩
  | _ => ⟨S2x1x1024, .f32⟩

abbrev hbmTy0_1 (i : Nat) : BufTy := match i % 128 with
  | 0 => ⟨S1x32768, .i32⟩
  | 1 => ⟨S1x32768, .i32⟩
  | 2 => ⟨S1x32768, .i32⟩
  | 3 => ⟨S1x32768, .i32⟩
  | 4 => ⟨S1x32768, .i32⟩
  | 5 => ⟨S_, .i32⟩
  | 6 => ⟨S1x32768, .i32⟩
  | 7 => ⟨S1x32768, .i32⟩
  | 8 => ⟨S1x32768, .i32⟩
  | 9 => ⟨S_, .i32⟩
  | 10 => ⟨S1x32768, .i32⟩
  | 11 => ⟨S1x32768, .i32⟩
  | 12 => ⟨S_, .i32⟩
  | 13 => ⟨S1x32768, .i32⟩
  | 14 => ⟨S1x32768, .i32⟩
  | 15 => ⟨S1x32768, .i32⟩
  | 16 => ⟨S1x32768, .i32⟩
  | 17 => ⟨S1x32768, .i32⟩
  | 18 => ⟨S_, .i32⟩
  | 19 => ⟨S1x32768, .i32⟩
  | 20 => ⟨S1x32768, .i32⟩
  | 21 => ⟨S_, .i32⟩
  | 22 => ⟨S1x32768, .i32⟩
  | 23 => ⟨S1x32768, .i32⟩
  | 24 => ⟨S1x32768, .i32⟩
  | 25 => ⟨S1x32768, .i32⟩
  | 26 => ⟨S1x32768, .i32⟩
  | 27 => ⟨S_, .i32⟩
  | 28 => ⟨S1x32768, .i32⟩
  | 29 => ⟨S1x32768, .i32⟩
  | 30 => ⟨S_, .i32⟩
  | 31 => ⟨S1x32768, .i32⟩
  | 32 => ⟨S1x32768, .i32⟩
  | 33 => ⟨S1x32768, .i32⟩
  | 34 => ⟨S1x32768, .i32⟩
  | 35 => ⟨S1x32768, .i32⟩
  | 36 => ⟨S_, .i32⟩
  | 37 => ⟨S1x32768, .i32⟩
  | 38 => ⟨S1x32768, .i32⟩
  | 39 => ⟨S_, .i32⟩
  | 40 => ⟨S1x32768, .i32⟩
  | 41 => ⟨S1x32768, .i32⟩
  | 42 => ⟨S1x32768, .i32⟩
  | 43 => ⟨S1x32768, .i32⟩
  | 44 => ⟨S1x32768, .i32⟩
  | 45 => ⟨S1x32768, .i32⟩
  | 46 => ⟨S1x32768, .i32⟩
  | 47 => ⟨S1x32768, .i32⟩
  | 48 => ⟨S_, .i32⟩
  | 49 => ⟨S1x32768, .i32⟩
  | 50 => ⟨S1x32768, .i32⟩
  | 51 => ⟨S1x32768, .i32⟩
  | 52 => ⟨S_, .i32⟩
  | 53 => ⟨S1x32768, .i32⟩
  | 54 => ⟨S1x32768, .i32⟩
  | 55 => ⟨S_, .i32⟩
  | 56 => ⟨S1x32768, .i32⟩
  | 57 => ⟨S1x32768, .i32⟩
  | 58 => ⟨S1x32768, .i32⟩
  | 59 => ⟨S1x32768, .i32⟩
  | 60 => ⟨S1x32768, .i32⟩
  | 61 => ⟨S_, .i32⟩
  | 62 => ⟨S1x32768, .i32⟩
  | 63 => ⟨S1x32768, .i32⟩
  | 64 => ⟨S_, .i32⟩
  | 65 => ⟨S1x32768, .i32⟩
  | 66 => ⟨S1x32768, .i32⟩
  | 67 => ⟨S1x32768, .i32⟩
  | 68 => ⟨S1x32768, .i32⟩
  | 69 => ⟨S1x32768, .i32⟩
  | 70 => ⟨S_, .i32⟩
  | 71 => ⟨S1x32768, .i32⟩
  | 72 => ⟨S1x32768, .i32⟩
  | 73 => ⟨S_, .i32⟩
  | 74 => ⟨S1x32768, .i32⟩
  | 75 => ⟨S1x32768, .i32⟩
  | 76 => ⟨S1x32768, .i32⟩
  | 77 => ⟨S1x32768, .i32⟩
  | 78 => ⟨S1x32768, .i32⟩
  | 79 => ⟨S_, .i32⟩
  | 80 => ⟨S1x32768, .i32⟩
  | 81 => ⟨S1x32768, .i32⟩
  | 82 => ⟨S_, .i32⟩
  | 83 => ⟨S1x32768, .i32⟩
  | 84 => ⟨S1x32768, .i32⟩
  | 85 => ⟨S1x32768, .i32⟩
  | 86 => ⟨S1x32768, .i32⟩
  | 87 => ⟨S1x32768, .i32⟩
  | 88 => ⟨S1x32768, .i32⟩
  | 89 => ⟨S1x32768, .i32⟩
  | 90 => ⟨S1x32768, .i32⟩
  | 91 => ⟨S_, .i32⟩
  | 92 => ⟨S1x32768, .i32⟩
  | 93 => ⟨S1x32768, .i32⟩
  | 94 => ⟨S1x32768, .i32⟩
  | 95 => ⟨S_, .i32⟩
  | 96 => ⟨S1x32768, .i32⟩
  | 97 => ⟨S1x32768, .i32⟩
  | 98 => ⟨S_, .i32⟩
  | 99 => ⟨S1x32768, .i32⟩
  | 100 => ⟨S1x32768, .i32⟩
  | 101 => ⟨S1x32768, .i32⟩
  | 102 => ⟨S1x32768, .i32⟩
  | 103 => ⟨S1x32768, .i32⟩
  | 104 => ⟨S_, .i32⟩
  | 105 => ⟨S1x32768, .i32⟩
  | 106 => ⟨S1x32768, .i32⟩
  | 107 => ⟨S_, .i32⟩
  | 108 => ⟨S1x32768, .i32⟩
  | 109 => ⟨S1x32768, .i32⟩
  | 110 => ⟨S1x32768, .i32⟩
  | 111 => ⟨S1x32768, .i32⟩
  | 112 => ⟨S1x32768, .i32⟩
  | 113 => ⟨S_, .i32⟩
  | 114 => ⟨S1x32768, .i32⟩
  | 115 => ⟨S1x32768, .i32⟩
  | 116 => ⟨S_, .i32⟩
  | 117 => ⟨S1x32768, .i32⟩
  | 118 => ⟨S1x32768, .i32⟩
  | 119 => ⟨S1x32768, .i32⟩
  | 120 => ⟨S1x32768, .i32⟩
  | 121 => ⟨S1x32768, .i32⟩
  | 122 => ⟨S_, .i32⟩
  | 123 => ⟨S1x32768, .i32⟩
  | 124 => ⟨S1x32768, .i32⟩
  | 125 => ⟨S_, .i32⟩
  | 126 => ⟨S1x32768, .i32⟩
  | 127 => ⟨S1x32768, .i32⟩
  | _ => ⟨S2x1x1024, .f32⟩

abbrev hbmTy0_2 (i : Nat) : BufTy := match i % 128 with
  | 0 => ⟨S1x32768, .i32⟩
  | 1 => ⟨S1x32768, .i32⟩
  | 2 => ⟨S1x32768, .i32⟩
  | 3 => ⟨S1x32768, .i32⟩
  | 4 => ⟨S1x32768, .i32⟩
  | 5 => ⟨S1x32768, .i32⟩
  | 6 => ⟨S_, .i32⟩
  | 7 => ⟨S1x32768, .i32⟩
  | 8 => ⟨S1x32768, .i32⟩
  | 9 => ⟨S1x32768, .i32⟩
  | 10 => ⟨S_, .i32⟩
  | 11 => ⟨S1x32768, .i32⟩
  | 12 => ⟨S1x32768, .i32⟩
  | 13 => ⟨S_, .i32⟩
  | 14 => ⟨S1x32768, .i32⟩
  | 15 => ⟨S1x32768, .i32⟩
  | 16 => ⟨S1x32768, .f32⟩
  | 17 => ⟨S_, .f32⟩
  | 18 => ⟨S1x32768, .f32⟩
  | 19 => ⟨S1x32768, .f32⟩
  | 20 => ⟨S1x1, .f32⟩
  | 21 => ⟨S1x32768, .f32⟩
  | 22 => ⟨S1x32768, .f32⟩
  | 23 => ⟨S1x32768, .f32⟩
  | 24 => ⟨S1x32768, .f32⟩
  | 25 => ⟨S1x32768, .f32⟩
  | 26 => ⟨S1x32768, .f32⟩
  | 27 => ⟨S1x32768, .f32⟩
  | 28 => ⟨S1x32768, .f32⟩
  | 29 => ⟨S1x32768, .f32⟩
  | 30 => ⟨S1x32768, .f32⟩
  | 31 => ⟨S_, .f32⟩
  | 32 => ⟨S_, .f32⟩
  | 33 => ⟨S_, .f32⟩
  | 34 => ⟨S_, .f32⟩
  | 35 => ⟨S1, .f32⟩
  | 36 => ⟨S1, .f32⟩
  | 37 => ⟨S1, .f32⟩
  | 38 => ⟨S1, .f32⟩
  | 39 => ⟨S4, .f32⟩
  | 40 => ⟨S1x4, .f32⟩
  | 41 => ⟨S1x1024, .f32⟩
  | 42 => ⟨S1x1024, .f32⟩
  | 43 => ⟨S1x32768, .f32⟩
  | 44 => ⟨S1x1, .i32⟩
  | 45 => ⟨S_, .i32⟩
  | _ => ⟨S2x1x1024, .f32⟩

abbrev hbmTy (i : Nat) : BufTy := match i / 128 with
  | 0 => hbmTy0_0 i
  | 1 => hbmTy0_1 i
  | 2 => hbmTy0_2 i
  | _ => ⟨S2x1x1024, .f32⟩

abbrev bufTy : (tb : Table) → Fin (tcTables nBuf tb) → BufTy
  | .hbm, ⟨i, _⟩ => hbmTy i
  | .local _ .vmem, ⟨0, _⟩ => ⟨S1x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x32768, .f32⟩
  | .local _ .vmem, ⟨7, _⟩ => ⟨S1x32768, .f32⟩
  | .local _ .vmem, ⟨8, _⟩ => ⟨S4x2048x1024, .f32⟩
  | .local _ .smem, ⟨0, _⟩ => ⟨S1x4, .f32⟩
  | .local _ .smem, ⟨1, _⟩ => ⟨S1x1, .i32⟩
  | .local _ .smem, ⟨2, _⟩ => ⟨S1, .f32⟩
  | .local _ .smem, ⟨3, _⟩ => ⟨S1, .i32⟩
  | _, _ => ⟨S2x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_cst_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_c : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_c_0 : Ref sig .tc := ⟨.hbm, 34, rfl⟩
abbrev main_call0_call0_v11 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_call0_c_1 : Ref sig .tc := ⟨.hbm, 38, rfl⟩
abbrev main_call0_call0_v14 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_v17 : Ref sig .tc := ⟨.hbm, 42, rfl⟩
abbrev main_call0_call0_call0_v0 : Ref sig .tc := ⟨.hbm, 43, rfl⟩
abbrev main_call0_call0_call0_c : Ref sig .tc := ⟨.hbm, 44, rfl⟩
abbrev main_call0_call0_call0_v1 : Ref sig .tc := ⟨.hbm, 45, rfl⟩
abbrev main_call0_call0_call0_v2 : Ref sig .tc := ⟨.hbm, 46, rfl⟩
abbrev main_call0_call0_call0_v3 : Ref sig .tc := ⟨.hbm, 47, rfl⟩
abbrev main_call0_call0_call0_v4 : Ref sig .tc := ⟨.hbm, 48, rfl⟩
abbrev main_call0_call0_call0_v5 : Ref sig .tc := ⟨.hbm, 49, rfl⟩
abbrev main_call0_call0_call0_v6 : Ref sig .tc := ⟨.hbm, 50, rfl⟩
abbrev main_call0_call0_call0_c_0 : Ref sig .tc := ⟨.hbm, 51, rfl⟩
abbrev main_call0_call0_call0_v7 : Ref sig .tc := ⟨.hbm, 52, rfl⟩
abbrev main_call0_call0_call0_v8 : Ref sig .tc := ⟨.hbm, 53, rfl⟩
abbrev main_call0_call0_call0_c_1 : Ref sig .tc := ⟨.hbm, 54, rfl⟩
abbrev main_call0_call0_call0_v9 : Ref sig .tc := ⟨.hbm, 55, rfl⟩
abbrev main_call0_call0_call0_v10 : Ref sig .tc := ⟨.hbm, 56, rfl⟩
abbrev main_call0_call0_call0_v11 : Ref sig .tc := ⟨.hbm, 57, rfl⟩
abbrev main_call0_call0_call0_v12 : Ref sig .tc := ⟨.hbm, 58, rfl⟩
abbrev main_call0_call0_call0_v13 : Ref sig .tc := ⟨.hbm, 59, rfl⟩
abbrev main_call0_call0_call0_c_2 : Ref sig .tc := ⟨.hbm, 60, rfl⟩
abbrev main_call0_call0_call0_v14 : Ref sig .tc := ⟨.hbm, 61, rfl⟩
abbrev main_call0_call0_call0_v15 : Ref sig .tc := ⟨.hbm, 62, rfl⟩
abbrev main_call0_call0_call0_c_3 : Ref sig .tc := ⟨.hbm, 63, rfl⟩
abbrev main_call0_call0_call0_v16 : Ref sig .tc := ⟨.hbm, 64, rfl⟩
abbrev main_call0_call0_call0_v17 : Ref sig .tc := ⟨.hbm, 65, rfl⟩
abbrev main_call0_call0_call0_v18 : Ref sig .tc := ⟨.hbm, 66, rfl⟩
abbrev main_call0_call0_call0_v19 : Ref sig .tc := ⟨.hbm, 67, rfl⟩
abbrev main_call0_call0_call0_v20 : Ref sig .tc := ⟨.hbm, 68, rfl⟩
abbrev main_call0_call0_call0_c_4 : Ref sig .tc := ⟨.hbm, 69, rfl⟩
abbrev main_call0_call0_call0_v21 : Ref sig .tc := ⟨.hbm, 70, rfl⟩
abbrev main_call0_call0_call0_v22 : Ref sig .tc := ⟨.hbm, 71, rfl⟩
abbrev main_call0_call0_call0_c_5 : Ref sig .tc := ⟨.hbm, 72, rfl⟩
abbrev main_call0_call0_call0_v23 : Ref sig .tc := ⟨.hbm, 73, rfl⟩
abbrev main_call0_call0_call0_v24 : Ref sig .tc := ⟨.hbm, 74, rfl⟩
abbrev main_call0_call0_call0_v25 : Ref sig .tc := ⟨.hbm, 75, rfl⟩
abbrev main_call0_call0_call0_v26 : Ref sig .tc := ⟨.hbm, 76, rfl⟩
abbrev main_call0_call0_call0_v27 : Ref sig .tc := ⟨.hbm, 77, rfl⟩
abbrev main_call0_call0_call0_c_6 : Ref sig .tc := ⟨.hbm, 78, rfl⟩
abbrev main_call0_call0_call0_v28 : Ref sig .tc := ⟨.hbm, 79, rfl⟩
abbrev main_call0_call0_call0_v29 : Ref sig .tc := ⟨.hbm, 80, rfl⟩
abbrev main_call0_call0_call0_c_7 : Ref sig .tc := ⟨.hbm, 81, rfl⟩
abbrev main_call0_call0_call0_v30 : Ref sig .tc := ⟨.hbm, 82, rfl⟩
abbrev main_call0_call0_call0_v31 : Ref sig .tc := ⟨.hbm, 83, rfl⟩
abbrev main_call0_call0_call0_v32 : Ref sig .tc := ⟨.hbm, 84, rfl⟩
abbrev main_call0_call0_call0_v33 : Ref sig .tc := ⟨.hbm, 85, rfl⟩
abbrev main_call0_call0_call0_v34 : Ref sig .tc := ⟨.hbm, 86, rfl⟩
abbrev main_call0_call0_call0_v35 : Ref sig .tc := ⟨.hbm, 87, rfl⟩
abbrev main_call0_call0_call0_v36 : Ref sig .tc := ⟨.hbm, 88, rfl⟩
abbrev main_call0_call0_call0_v37 : Ref sig .tc := ⟨.hbm, 89, rfl⟩
abbrev main_call0_call0_call0_c_8 : Ref sig .tc := ⟨.hbm, 90, rfl⟩
abbrev main_call0_call0_call0_v38 : Ref sig .tc := ⟨.hbm, 91, rfl⟩
abbrev main_call0_call0_call0_v39 : Ref sig .tc := ⟨.hbm, 92, rfl⟩
abbrev main_call0_call0_call0_v40 : Ref sig .tc := ⟨.hbm, 93, rfl⟩
abbrev main_call0_call0_call0_c_9 : Ref sig .tc := ⟨.hbm, 94, rfl⟩
abbrev main_call0_call0_call0_v41 : Ref sig .tc := ⟨.hbm, 95, rfl⟩
abbrev main_call0_call0_call0_v42 : Ref sig .tc := ⟨.hbm, 96, rfl⟩
abbrev main_call0_call0_call0_c_10 : Ref sig .tc := ⟨.hbm, 97, rfl⟩
abbrev main_call0_call0_call0_v43 : Ref sig .tc := ⟨.hbm, 98, rfl⟩
abbrev main_call0_call0_call0_v44 : Ref sig .tc := ⟨.hbm, 99, rfl⟩
abbrev main_call0_call0_call0_v45 : Ref sig .tc := ⟨.hbm, 100, rfl⟩
abbrev main_call0_call0_call0_v46 : Ref sig .tc := ⟨.hbm, 101, rfl⟩
abbrev main_call0_call0_call0_v47 : Ref sig .tc := ⟨.hbm, 102, rfl⟩
abbrev main_call0_call0_call0_c_11 : Ref sig .tc := ⟨.hbm, 103, rfl⟩
abbrev main_call0_call0_call0_v48 : Ref sig .tc := ⟨.hbm, 104, rfl⟩
abbrev main_call0_call0_call0_v49 : Ref sig .tc := ⟨.hbm, 105, rfl⟩
abbrev main_call0_call0_call0_c_12 : Ref sig .tc := ⟨.hbm, 106, rfl⟩
abbrev main_call0_call0_call0_v50 : Ref sig .tc := ⟨.hbm, 107, rfl⟩
abbrev main_call0_call0_call0_v51 : Ref sig .tc := ⟨.hbm, 108, rfl⟩
abbrev main_call0_call0_call0_v52 : Ref sig .tc := ⟨.hbm, 109, rfl⟩
abbrev main_call0_call0_call0_v53 : Ref sig .tc := ⟨.hbm, 110, rfl⟩
abbrev main_call0_call0_call0_v54 : Ref sig .tc := ⟨.hbm, 111, rfl⟩
abbrev main_call0_call0_call0_c_13 : Ref sig .tc := ⟨.hbm, 112, rfl⟩
abbrev main_call0_call0_call0_v55 : Ref sig .tc := ⟨.hbm, 113, rfl⟩
abbrev main_call0_call0_call0_v56 : Ref sig .tc := ⟨.hbm, 114, rfl⟩
abbrev main_call0_call0_call0_c_14 : Ref sig .tc := ⟨.hbm, 115, rfl⟩
abbrev main_call0_call0_call0_v57 : Ref sig .tc := ⟨.hbm, 116, rfl⟩
abbrev main_call0_call0_call0_v58 : Ref sig .tc := ⟨.hbm, 117, rfl⟩
abbrev main_call0_call0_call0_v59 : Ref sig .tc := ⟨.hbm, 118, rfl⟩
abbrev main_call0_call0_call0_v60 : Ref sig .tc := ⟨.hbm, 119, rfl⟩
abbrev main_call0_call0_call0_v61 : Ref sig .tc := ⟨.hbm, 120, rfl⟩
abbrev main_call0_call0_call0_c_15 : Ref sig .tc := ⟨.hbm, 121, rfl⟩
abbrev main_call0_call0_call0_v62 : Ref sig .tc := ⟨.hbm, 122, rfl⟩
abbrev main_call0_call0_call0_v63 : Ref sig .tc := ⟨.hbm, 123, rfl⟩
abbrev main_call0_call0_call0_c_16 : Ref sig .tc := ⟨.hbm, 124, rfl⟩
abbrev main_call0_call0_call0_v64 : Ref sig .tc := ⟨.hbm, 125, rfl⟩
abbrev main_call0_call0_call0_v65 : Ref sig .tc := ⟨.hbm, 126, rfl⟩
abbrev main_call0_call0_call0_v66 : Ref sig .tc := ⟨.hbm, 127, rfl⟩
abbrev main_call0_call0_call0_v67 : Ref sig .tc := ⟨.hbm, 128, rfl⟩
abbrev main_call0_call0_call0_v68 : Ref sig .tc := ⟨.hbm, 129, rfl⟩
abbrev main_call0_call0_call0_v69 : Ref sig .tc := ⟨.hbm, 130, rfl⟩
abbrev main_call0_call0_call0_v70 : Ref sig .tc := ⟨.hbm, 131, rfl⟩
abbrev main_call0_call0_call0_v71 : Ref sig .tc := ⟨.hbm, 132, rfl⟩
abbrev main_call0_call0_call0_c_17 : Ref sig .tc := ⟨.hbm, 133, rfl⟩
abbrev main_call0_call0_call0_v72 : Ref sig .tc := ⟨.hbm, 134, rfl⟩
abbrev main_call0_call0_call0_v73 : Ref sig .tc := ⟨.hbm, 135, rfl⟩
abbrev main_call0_call0_call0_v74 : Ref sig .tc := ⟨.hbm, 136, rfl⟩
abbrev main_call0_call0_call0_c_18 : Ref sig .tc := ⟨.hbm, 137, rfl⟩
abbrev main_call0_call0_call0_v75 : Ref sig .tc := ⟨.hbm, 138, rfl⟩
abbrev main_call0_call0_call0_v76 : Ref sig .tc := ⟨.hbm, 139, rfl⟩
abbrev main_call0_call0_call0_c_19 : Ref sig .tc := ⟨.hbm, 140, rfl⟩
abbrev main_call0_call0_call0_v77 : Ref sig .tc := ⟨.hbm, 141, rfl⟩
abbrev main_call0_call0_call0_v78 : Ref sig .tc := ⟨.hbm, 142, rfl⟩
abbrev main_call0_call0_call0_v79 : Ref sig .tc := ⟨.hbm, 143, rfl⟩
abbrev main_call0_call0_call0_v80 : Ref sig .tc := ⟨.hbm, 144, rfl⟩
abbrev main_call0_call0_call0_v81 : Ref sig .tc := ⟨.hbm, 145, rfl⟩
abbrev main_call0_call0_call0_c_20 : Ref sig .tc := ⟨.hbm, 146, rfl⟩
abbrev main_call0_call0_call0_v82 : Ref sig .tc := ⟨.hbm, 147, rfl⟩
abbrev main_call0_call0_call0_v83 : Ref sig .tc := ⟨.hbm, 148, rfl⟩
abbrev main_call0_call0_call0_c_21 : Ref sig .tc := ⟨.hbm, 149, rfl⟩
abbrev main_call0_call0_call0_v84 : Ref sig .tc := ⟨.hbm, 150, rfl⟩
abbrev main_call0_call0_call0_v85 : Ref sig .tc := ⟨.hbm, 151, rfl⟩
abbrev main_call0_call0_call0_v86 : Ref sig .tc := ⟨.hbm, 152, rfl⟩
abbrev main_call0_call0_call0_v87 : Ref sig .tc := ⟨.hbm, 153, rfl⟩
abbrev main_call0_call0_call0_v88 : Ref sig .tc := ⟨.hbm, 154, rfl⟩
abbrev main_call0_call0_call0_c_22 : Ref sig .tc := ⟨.hbm, 155, rfl⟩
abbrev main_call0_call0_call0_v89 : Ref sig .tc := ⟨.hbm, 156, rfl⟩
abbrev main_call0_call0_call0_v90 : Ref sig .tc := ⟨.hbm, 157, rfl⟩
abbrev main_call0_call0_call0_c_23 : Ref sig .tc := ⟨.hbm, 158, rfl⟩
abbrev main_call0_call0_call0_v91 : Ref sig .tc := ⟨.hbm, 159, rfl⟩
abbrev main_call0_call0_call0_v92 : Ref sig .tc := ⟨.hbm, 160, rfl⟩
abbrev main_call0_call0_call0_v93 : Ref sig .tc := ⟨.hbm, 161, rfl⟩
abbrev main_call0_call0_call0_v94 : Ref sig .tc := ⟨.hbm, 162, rfl⟩
abbrev main_call0_call0_call0_v95 : Ref sig .tc := ⟨.hbm, 163, rfl⟩
abbrev main_call0_call0_call0_c_24 : Ref sig .tc := ⟨.hbm, 164, rfl⟩
abbrev main_call0_call0_call0_v96 : Ref sig .tc := ⟨.hbm, 165, rfl⟩
abbrev main_call0_call0_call0_v97 : Ref sig .tc := ⟨.hbm, 166, rfl⟩
abbrev main_call0_call0_call0_c_25 : Ref sig .tc := ⟨.hbm, 167, rfl⟩
abbrev main_call0_call0_call0_v98 : Ref sig .tc := ⟨.hbm, 168, rfl⟩
abbrev main_call0_call0_call0_v99 : Ref sig .tc := ⟨.hbm, 169, rfl⟩
abbrev main_call0_call0_call0_v100 : Ref sig .tc := ⟨.hbm, 170, rfl⟩
abbrev main_call0_call0_call0_v101 : Ref sig .tc := ⟨.hbm, 171, rfl⟩
abbrev main_call0_call0_call0_v102 : Ref sig .tc := ⟨.hbm, 172, rfl⟩
abbrev main_call0_call0_call0_v103 : Ref sig .tc := ⟨.hbm, 173, rfl⟩
abbrev main_call0_call0_call0_v104 : Ref sig .tc := ⟨.hbm, 174, rfl⟩
abbrev main_call0_call0_call0_v105 : Ref sig .tc := ⟨.hbm, 175, rfl⟩
abbrev main_call0_call0_call0_c_26 : Ref sig .tc := ⟨.hbm, 176, rfl⟩
abbrev main_call0_call0_call0_v106 : Ref sig .tc := ⟨.hbm, 177, rfl⟩
abbrev main_call0_call0_call0_v107 : Ref sig .tc := ⟨.hbm, 178, rfl⟩
abbrev main_call0_call0_call0_v108 : Ref sig .tc := ⟨.hbm, 179, rfl⟩
abbrev main_call0_call0_call0_c_27 : Ref sig .tc := ⟨.hbm, 180, rfl⟩
abbrev main_call0_call0_call0_v109 : Ref sig .tc := ⟨.hbm, 181, rfl⟩
abbrev main_call0_call0_call0_v110 : Ref sig .tc := ⟨.hbm, 182, rfl⟩
abbrev main_call0_call0_call0_c_28 : Ref sig .tc := ⟨.hbm, 183, rfl⟩
abbrev main_call0_call0_call0_v111 : Ref sig .tc := ⟨.hbm, 184, rfl⟩
abbrev main_call0_call0_call0_v112 : Ref sig .tc := ⟨.hbm, 185, rfl⟩
abbrev main_call0_call0_call0_v113 : Ref sig .tc := ⟨.hbm, 186, rfl⟩
abbrev main_call0_call0_call0_v114 : Ref sig .tc := ⟨.hbm, 187, rfl⟩
abbrev main_call0_call0_call0_v115 : Ref sig .tc := ⟨.hbm, 188, rfl⟩
abbrev main_call0_call0_call0_c_29 : Ref sig .tc := ⟨.hbm, 189, rfl⟩
abbrev main_call0_call0_call0_v116 : Ref sig .tc := ⟨.hbm, 190, rfl⟩
abbrev main_call0_call0_call0_v117 : Ref sig .tc := ⟨.hbm, 191, rfl⟩
abbrev main_call0_call0_call0_c_30 : Ref sig .tc := ⟨.hbm, 192, rfl⟩
abbrev main_call0_call0_call0_v118 : Ref sig .tc := ⟨.hbm, 193, rfl⟩
abbrev main_call0_call0_call0_v119 : Ref sig .tc := ⟨.hbm, 194, rfl⟩
abbrev main_call0_call0_call0_v120 : Ref sig .tc := ⟨.hbm, 195, rfl⟩
abbrev main_call0_call0_call0_v121 : Ref sig .tc := ⟨.hbm, 196, rfl⟩
abbrev main_call0_call0_call0_v122 : Ref sig .tc := ⟨.hbm, 197, rfl⟩
abbrev main_call0_call0_call0_c_31 : Ref sig .tc := ⟨.hbm, 198, rfl⟩
abbrev main_call0_call0_call0_v123 : Ref sig .tc := ⟨.hbm, 199, rfl⟩
abbrev main_call0_call0_call0_v124 : Ref sig .tc := ⟨.hbm, 200, rfl⟩
abbrev main_call0_call0_call0_c_32 : Ref sig .tc := ⟨.hbm, 201, rfl⟩
abbrev main_call0_call0_call0_v125 : Ref sig .tc := ⟨.hbm, 202, rfl⟩
abbrev main_call0_call0_call0_v126 : Ref sig .tc := ⟨.hbm, 203, rfl⟩
abbrev main_call0_call0_call0_v127 : Ref sig .tc := ⟨.hbm, 204, rfl⟩
abbrev main_call0_call0_call0_v128 : Ref sig .tc := ⟨.hbm, 205, rfl⟩
abbrev main_call0_call0_call0_v129 : Ref sig .tc := ⟨.hbm, 206, rfl⟩
abbrev main_call0_call0_call0_c_33 : Ref sig .tc := ⟨.hbm, 207, rfl⟩
abbrev main_call0_call0_call0_v130 : Ref sig .tc := ⟨.hbm, 208, rfl⟩
abbrev main_call0_call0_call0_v131 : Ref sig .tc := ⟨.hbm, 209, rfl⟩
abbrev main_call0_call0_call0_c_34 : Ref sig .tc := ⟨.hbm, 210, rfl⟩
abbrev main_call0_call0_call0_v132 : Ref sig .tc := ⟨.hbm, 211, rfl⟩
abbrev main_call0_call0_call0_v133 : Ref sig .tc := ⟨.hbm, 212, rfl⟩
abbrev main_call0_call0_call0_v134 : Ref sig .tc := ⟨.hbm, 213, rfl⟩
abbrev main_call0_call0_call0_v135 : Ref sig .tc := ⟨.hbm, 214, rfl⟩
abbrev main_call0_call0_call0_v136 : Ref sig .tc := ⟨.hbm, 215, rfl⟩
abbrev main_call0_call0_call0_v137 : Ref sig .tc := ⟨.hbm, 216, rfl⟩
abbrev main_call0_call0_call0_v138 : Ref sig .tc := ⟨.hbm, 217, rfl⟩
abbrev main_call0_call0_call0_v139 : Ref sig .tc := ⟨.hbm, 218, rfl⟩
abbrev main_call0_call0_call0_c_35 : Ref sig .tc := ⟨.hbm, 219, rfl⟩
abbrev main_call0_call0_call0_v140 : Ref sig .tc := ⟨.hbm, 220, rfl⟩
abbrev main_call0_call0_call0_v141 : Ref sig .tc := ⟨.hbm, 221, rfl⟩
abbrev main_call0_call0_call0_v142 : Ref sig .tc := ⟨.hbm, 222, rfl⟩
abbrev main_call0_call0_call0_c_36 : Ref sig .tc := ⟨.hbm, 223, rfl⟩
abbrev main_call0_call0_call0_v143 : Ref sig .tc := ⟨.hbm, 224, rfl⟩
abbrev main_call0_call0_call0_v144 : Ref sig .tc := ⟨.hbm, 225, rfl⟩
abbrev main_call0_call0_call0_c_37 : Ref sig .tc := ⟨.hbm, 226, rfl⟩
abbrev main_call0_call0_call0_v145 : Ref sig .tc := ⟨.hbm, 227, rfl⟩
abbrev main_call0_call0_call0_v146 : Ref sig .tc := ⟨.hbm, 228, rfl⟩
abbrev main_call0_call0_call0_v147 : Ref sig .tc := ⟨.hbm, 229, rfl⟩
abbrev main_call0_call0_call0_v148 : Ref sig .tc := ⟨.hbm, 230, rfl⟩
abbrev main_call0_call0_call0_v149 : Ref sig .tc := ⟨.hbm, 231, rfl⟩
abbrev main_call0_call0_call0_c_38 : Ref sig .tc := ⟨.hbm, 232, rfl⟩
abbrev main_call0_call0_call0_v150 : Ref sig .tc := ⟨.hbm, 233, rfl⟩
abbrev main_call0_call0_call0_v151 : Ref sig .tc := ⟨.hbm, 234, rfl⟩
abbrev main_call0_call0_call0_c_39 : Ref sig .tc := ⟨.hbm, 235, rfl⟩
abbrev main_call0_call0_call0_v152 : Ref sig .tc := ⟨.hbm, 236, rfl⟩
abbrev main_call0_call0_call0_v153 : Ref sig .tc := ⟨.hbm, 237, rfl⟩
abbrev main_call0_call0_call0_v154 : Ref sig .tc := ⟨.hbm, 238, rfl⟩
abbrev main_call0_call0_call0_v155 : Ref sig .tc := ⟨.hbm, 239, rfl⟩
abbrev main_call0_call0_call0_v156 : Ref sig .tc := ⟨.hbm, 240, rfl⟩
abbrev main_call0_call0_call0_c_40 : Ref sig .tc := ⟨.hbm, 241, rfl⟩
abbrev main_call0_call0_call0_v157 : Ref sig .tc := ⟨.hbm, 242, rfl⟩
abbrev main_call0_call0_call0_v158 : Ref sig .tc := ⟨.hbm, 243, rfl⟩
abbrev main_call0_call0_call0_c_41 : Ref sig .tc := ⟨.hbm, 244, rfl⟩
abbrev main_call0_call0_call0_v159 : Ref sig .tc := ⟨.hbm, 245, rfl⟩
abbrev main_call0_call0_call0_v160 : Ref sig .tc := ⟨.hbm, 246, rfl⟩
abbrev main_call0_call0_call0_v161 : Ref sig .tc := ⟨.hbm, 247, rfl⟩
abbrev main_call0_call0_call0_v162 : Ref sig .tc := ⟨.hbm, 248, rfl⟩
abbrev main_call0_call0_call0_v163 : Ref sig .tc := ⟨.hbm, 249, rfl⟩
abbrev main_call0_call0_call0_c_42 : Ref sig .tc := ⟨.hbm, 250, rfl⟩
abbrev main_call0_call0_call0_v164 : Ref sig .tc := ⟨.hbm, 251, rfl⟩
abbrev main_call0_call0_call0_v165 : Ref sig .tc := ⟨.hbm, 252, rfl⟩
abbrev main_call0_call0_call0_c_43 : Ref sig .tc := ⟨.hbm, 253, rfl⟩
abbrev main_call0_call0_call0_v166 : Ref sig .tc := ⟨.hbm, 254, rfl⟩
abbrev main_call0_call0_call0_v167 : Ref sig .tc := ⟨.hbm, 255, rfl⟩
abbrev main_call0_call0_call0_v168 : Ref sig .tc := ⟨.hbm, 256, rfl⟩
abbrev main_call0_call0_call0_v169 : Ref sig .tc := ⟨.hbm, 257, rfl⟩
abbrev main_call0_call0_call0_v170 : Ref sig .tc := ⟨.hbm, 258, rfl⟩
abbrev main_call0_call0_v18_0 : Ref sig .tc := ⟨.hbm, 259, rfl⟩
abbrev main_call0_call0_call0_v172 : Ref sig .tc := ⟨.hbm, 260, rfl⟩
abbrev main_call0_call0_call0_v173 : Ref sig .tc := ⟨.hbm, 261, rfl⟩
abbrev main_call0_call0_call0_c_44 : Ref sig .tc := ⟨.hbm, 262, rfl⟩
abbrev main_call0_call0_call0_v174 : Ref sig .tc := ⟨.hbm, 263, rfl⟩
abbrev main_call0_call0_v18_1 : Ref sig .tc := ⟨.hbm, 264, rfl⟩
abbrev main_call0_call0_v19 : Ref sig .tc := ⟨.hbm, 265, rfl⟩
abbrev main_call0_call0_c_2 : Ref sig .tc := ⟨.hbm, 266, rfl⟩
abbrev main_call0_call0_v20 : Ref sig .tc := ⟨.hbm, 267, rfl⟩
abbrev main_call0_call0_v21 : Ref sig .tc := ⟨.hbm, 268, rfl⟩
abbrev main_call0_call0_c_3 : Ref sig .tc := ⟨.hbm, 269, rfl⟩
abbrev main_call0_call0_v22 : Ref sig .tc := ⟨.hbm, 270, rfl⟩
abbrev main_call0_call0_v23 : Ref sig .tc := ⟨.hbm, 271, rfl⟩
abbrev main_call0_call0_v24 : Ref sig .tc := ⟨.hbm, 272, rfl⟩
abbrev main_call0_call0_cst : Ref sig .tc := ⟨.hbm, 273, rfl⟩
abbrev main_call0_call0_v25 : Ref sig .tc := ⟨.hbm, 274, rfl⟩
abbrev main_call0_call0_v26 : Ref sig .tc := ⟨.hbm, 275, rfl⟩
abbrev main_call0_call0_v27 : Ref sig .tc := ⟨.hbm, 276, rfl⟩
abbrev main_call0_call0_v28 : Ref sig .tc := ⟨.hbm, 277, rfl⟩
abbrev main_call0_call0_v29 : Ref sig .tc := ⟨.hbm, 278, rfl⟩
abbrev main_call0_call0_v30 : Ref sig .tc := ⟨.hbm, 279, rfl⟩
abbrev main_call0_call0_v31 : Ref sig .tc := ⟨.hbm, 280, rfl⟩
abbrev main_call0_call0_v32 : Ref sig .tc := ⟨.hbm, 281, rfl⟩
abbrev main_call0_v0 : Ref sig .tc := ⟨.hbm, 282, rfl⟩
abbrev main_call0_v1 : Ref sig .tc := ⟨.hbm, 283, rfl⟩
abbrev main_call0_v2 : Ref sig .tc := ⟨.hbm, 284, rfl⟩
abbrev main_call0_v3 : Ref sig .tc := ⟨.hbm, 285, rfl⟩
abbrev main_v9 : Ref sig .tc := ⟨.hbm, 286, rfl⟩
abbrev main_v10 : Ref sig .tc := ⟨.hbm, 287, rfl⟩
abbrev main_v11 : Ref sig .tc := ⟨.hbm, 288, rfl⟩
abbrev main_v12 : Ref sig .tc := ⟨.hbm, 289, rfl⟩
abbrev main_cst : Ref sig .tc := ⟨.hbm, 290, rfl⟩
abbrev main_v13 : Ref sig .tc := ⟨.hbm, 291, rfl⟩
abbrev main_v14 : Ref sig .tc := ⟨.hbm, 292, rfl⟩
abbrev main_v15 : Ref sig .tc := ⟨.hbm, 293, rfl⟩
abbrev main_v16 : Ref sig .tc := ⟨.hbm, 294, rfl⟩
abbrev main_v17 : Ref sig .tc := ⟨.hbm, 295, rfl⟩
abbrev main_v18 : Ref sig .tc := ⟨.hbm, 296, rfl⟩
abbrev main_v19 : Ref sig .tc := ⟨.hbm, 297, rfl⟩
abbrev main_v20 : Ref sig .tc := ⟨.hbm, 298, rfl⟩
abbrev main_v21_0 : Ref sig .tc := ⟨.hbm, 299, rfl⟩
abbrev main_v21_1 : Ref sig .tc := ⟨.hbm, 300, rfl⟩
abbrev main_v22 : Ref sig .tc := ⟨.hbm, 301, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_scratch0 : Ref sig .tc := ⟨.vmem, 8, rfl⟩
abbrev cc1_stg0_0 : Ref sig .tc := ⟨.smem, 0, rfl⟩
abbrev cc1_stg5_0 : Ref sig .tc := ⟨.smem, 1, rfl⟩
abbrev cc1_scratch1 : Ref sig .tc := ⟨.smem, 2, rfl⟩
abbrev cc1_scratch2 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def k1_off1 (i : grid1.Coords) : Fin 1 → Nat :=
  let arg0 : BitVec 32 := BitVec.ofNat 32 (i 0).val
  let c4_i32 : BitVec 32 := 4#32
  let v0 : BitVec 32 := Scalar.remsi arg0 c4_i32
  ![v0.toNat]
def k1_off2 (i : grid1.Coords) : Fin 3 → Nat :=
  let arg0 : BitVec 32 := BitVec.ofNat 32 (i 0).val
  let c4_i32 : BitVec 32 := 4#32
  let v0 : BitVec 32 := Scalar.remsi arg0 c4_i32
  let c0_i32_8 : BitVec 32 := 0#32
  let c0_i32_9 : BitVec 32 := 0#32
  ![v0.toNat, 0, 0]
def k1_off3 (i : grid1.Coords) (c0_i32_4 : BitVec 32) : Fin 2 → Nat :=
  let arg0 : BitVec 32 := BitVec.ofNat 32 (i 0).val
  let c2048_i32 : BitVec 32 := 2048#32
  let v7 : BitVec 32 := Scalar.muli arg0 c2048_i32
  let v8 : BitVec 32 := Scalar.addi v7 c0_i32_4
  let c0_i32_10 : BitVec 32 := 0#32
  ![v8.toNat, 0]
def k1_off4 (i : grid1.Coords) : Fin 3 → Nat :=
  let arg0 : BitVec 32 := BitVec.ofNat 32 (i 0).val
  let c4_i32 : BitVec 32 := 4#32
  let v0 : BitVec 32 := Scalar.remsi arg0 c4_i32
  let c512_i32_11 : BitVec 32 := 512#32
  let c0_i32_12 : BitVec 32 := 0#32
  ![v0.toNat, 512, 0]
def k1_off5 (i : grid1.Coords) : Fin 3 → Nat :=
  let arg0 : BitVec 32 := BitVec.ofNat 32 (i 0).val
  let c4_i32 : BitVec 32 := 4#32
  let v0 : BitVec 32 := Scalar.remsi arg0 c4_i32
  let c1024_i32_14 : BitVec 32 := 1024#32
  let c0_i32_15 : BitVec 32 := 0#32
  ![v0.toNat, 1024, 0]
def k1_off6 (i : grid1.Coords) : Fin 3 → Nat :=
  let arg0 : BitVec 32 := BitVec.ofNat 32 (i 0).val
  let c4_i32 : BitVec 32 := 4#32
  let v0 : BitVec 32 := Scalar.remsi arg0 c4_i32
  let c1536_i32_17 : BitVec 32 := 1536#32
  let c0_i32_18 : BitVec 32 := 0#32
  ![v0.toNat, 1536, 0]
def k1_off7 (i : grid1.Coords) : Fin 3 → Nat :=
  let arg0 : BitVec 32 := BitVec.ofNat 32 (i 0).val
  let c4_i32 : BitVec 32 := 4#32
  let v0 : BitVec 32 := Scalar.remsi arg0 c4_i32
  let v35 : Index := Scalar.indexCast v0
  let c0_20 : Index := 0#32
  let c0_21 : Index := 0#32
  ![v35.toNat, 0, 0]
def k1_off8 (i : grid1.Coords) : Fin 2 → Nat :=
  let c0_27 : Index := 0#32
  let arg0 : BitVec 32 := BitVec.ofNat 32 (i 0).val
  let c2048_i32_26 : BitVec 32 := 2048#32
  let v55 : BitVec 32 := Scalar.muli arg0 c2048_i32_26
  let v56 : Index := Scalar.indexCast v55
  ![0, v56.toNat]
def k1_cond2 (i : grid1.Coords) : BitVec 1 :=
  let arg0 : BitVec 32 := BitVec.ofNat 32 (i 0).val
  let c4_i32_38 : BitVec 32 := 4#32
  let v88 : BitVec 32 := Scalar.addi arg0 c4_i32_38
  let c16_i32 : BitVec 32 := 16#32
  let v89 : BitVec 1 := Scalar.cmpi .slt v88 c16_i32
  let v90 : BitVec 32 := Scalar.extui v89
  let c0_i32_39 : BitVec 32 := 0#32
  let v91 : BitVec 1 := Scalar.cmpi .ne v90 c0_i32_39
  v91

def k1_off9 (i : grid1.Coords) : Fin 1 → Nat :=
  let arg0 : BitVec 32 := BitVec.ofNat 32 (i 0).val
  let c4_i32 : BitVec 32 := 4#32
  let v0 : BitVec 32 := Scalar.remsi arg0 c4_i32
  ![v0.toNat]
def k1_off10 (i : grid1.Coords) : Fin 3 → Nat :=
  let arg0 : BitVec 32 := BitVec.ofNat 32 (i 0).val
  let c4_i32 : BitVec 32 := 4#32
  let v0 : BitVec 32 := Scalar.remsi arg0 c4_i32
  let c0_i32_50 : BitVec 32 := 0#32
  let c0_i32_51 : BitVec 32 := 0#32
  ![v0.toNat, 0, 0]
def k1_off11 (i : grid1.Coords) (c0_i32_43 : BitVec 32) : Fin 2 → Nat :=
  let arg0 : BitVec 32 := BitVec.ofNat 32 (i 0).val
  let c4_i32_41 : BitVec 32 := 4#32
  let v95 : BitVec 32 := Scalar.addi arg0 c4_i32_41
  let c2048_i32_42 : BitVec 32 := 2048#32
  let v96 : BitVec 32 := Scalar.muli v95 c2048_i32_42
  let v97 : BitVec 32 := Scalar.addi v96 c0_i32_43
  let c0_i32_52 : BitVec 32 := 0#32
  ![v97.toNat, 0]
def k1_off12 (i : grid1.Coords) : Fin 3 → Nat :=
  let arg0 : BitVec 32 := BitVec.ofNat 32 (i 0).val
  let c4_i32 : BitVec 32 := 4#32
  let v0 : BitVec 32 := Scalar.remsi arg0 c4_i32
  let c512_i32_53 : BitVec 32 := 512#32
  let c0_i32_54 : BitVec 32 := 0#32
  ![v0.toNat, 512, 0]
def k1_off13 (i : grid1.Coords) : Fin 3 → Nat :=
  let arg0 : BitVec 32 := BitVec.ofNat 32 (i 0).val
  let c4_i32 : BitVec 32 := 4#32
  let v0 : BitVec 32 := Scalar.remsi arg0 c4_i32
  let c1024_i32_56 : BitVec 32 := 1024#32
  let c0_i32_57 : BitVec 32 := 0#32
  ![v0.toNat, 1024, 0]
def k1_off14 (i : grid1.Coords) : Fin 3 → Nat :=
  let arg0 : BitVec 32 := BitVec.ofNat 32 (i 0).val
  let c4_i32 : BitVec 32 := 4#32
  let v0 : BitVec 32 := Scalar.remsi arg0 c4_i32
  let c1536_i32_59 : BitVec 32 := 1536#32
  let c0_i32_60 : BitVec 32 := 0#32
  ![v0.toNat, 1536, 0]
def k1_cond3 (i : grid1.Coords) : BitVec 1 :=
  let arg0 : BitVec 32 := BitVec.ofNat 32 (i 0).val
  let c15_i32 : BitVec 32 := 15#32
  let v92 : BitVec 1 := Scalar.cmpi .eq arg0 c15_i32
  let v93 : BitVec 32 := Scalar.extui v92
  let c0_i32_40 : BitVec 32 := 0#32
  let v94 : BitVec 1 := Scalar.cmpi .ne v93 c0_i32_40
  v94

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S2x1x1024 : Shape := ⟨3, ![2, 1, 1024]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩
abbrev S1x1x1024 : Shape := ⟨3, ![1, 1, 1024]⟩
abbrev S1024x1 : Shape := ⟨2, ![1024, 1]⟩
abbrev S32768x1 : Shape := ⟨2, ![32768, 1]⟩
abbrev S1x1 : Shape := ⟨2, ![1, 1]⟩
abbrev S1x32768 : Shape := ⟨2, ![1, 32768]⟩
abbrev S2 : Shape := ⟨1, ![2]⟩

abbrev nBuf : Space → Nat
  | .hbm => 314
  | .vmem => 0
  | .smem => 0
  | _ => 0

abbrev hbmTy0_0 (i : Nat) : BufTy := match i % 128 with
  | 0 => ⟨S2x1x1024, .f32⟩
  | 1 => ⟨S32768x1024, .f32⟩
  | 2 => ⟨S1024x1024, .f32⟩
  | 3 => ⟨S1024, .f32⟩
  | 4 => ⟨S1x1024, .f32⟩
  | 5 => ⟨S1, .f32⟩
  | 6 => ⟨S_, .i32⟩
  | 7 => ⟨S_, .i32⟩
  | 8 => ⟨S1x1x1024, .f32⟩
  | 9 => ⟨S1x1024, .f32⟩
  | 10 => ⟨S1024x1024, .f32⟩
  | 11 => ⟨S1x1024, .f32⟩
  | 12 => ⟨S1x1024, .f32⟩
  | 13 => ⟨S1x1024, .f32⟩
  | 14 => ⟨S32768x1024, .f32⟩
  | 15 => ⟨S32768x1024, .f32⟩
  | 16 => ⟨S32768x1024, .f32⟩
  | 17 => ⟨S1024x1, .f32⟩
  | 18 => ⟨S32768x1, .f32⟩
  | 19 => ⟨S1x1, .f32⟩
  | 20 => ⟨S32768x1, .f32⟩
  | 21 => ⟨S32768x1, .f32⟩
  | 22 => ⟨S1x32768, .f32⟩
  | 23 => ⟨S_, .f32⟩
  | 24 => ⟨S1x32768, .f32⟩
  | 25 => ⟨S1x32768, .f32⟩
  | 26 => ⟨S1x32768, .f32⟩
  | 27 => ⟨S_, .f32⟩
  | 28 => ⟨S1x32768, .f32⟩
  | 29 => ⟨S1x32768, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S1x1, .f32⟩
  | 44 => ⟨S1x1, .f32⟩
  | 45 => ⟨S1, .i32⟩
  | 46 => ⟨S_, .i32⟩
  | 47 => ⟨S1, .i32⟩
  | 48 => ⟨S_, .i32⟩
  | 49 => ⟨S1x32768, .i64⟩
  | 50 => ⟨S1x32768, .i64⟩
  | 51 => ⟨S_, .i64⟩
  | 52 => ⟨S1x32768, .i64⟩
  | 53 => ⟨S1x32768, .i64⟩
  | 54 => ⟨S_, .i64⟩
  | 55 => ⟨S1x32768, .i64⟩
  | 56 => ⟨S1x32768, .i64⟩
  | 57 => ⟨S1x32768, .i64⟩
  | 58 => ⟨S_, .i64⟩
  | 59 => ⟨S1x32768, .i64⟩
  | 60 => ⟨S1x32768, .i64⟩
  | 61 => ⟨S1x32768, .i32⟩
  | 62 => ⟨S1x32768, .i32⟩
  | 63 => ⟨S_, .i32⟩
  | 64 => ⟨S_, .i32⟩
  | 65 => ⟨S_, .i32⟩
  | 66 => ⟨S1x32768, .i32⟩
  | 67 => ⟨S1x32768, .i32⟩
  | 68 => ⟨S1x32768, .i32⟩
  | 69 => ⟨S1x32768, .i32⟩
  | 70 => ⟨S1x32768, .i32⟩
  | 71 => ⟨S_, .i32⟩
  | 72 => ⟨S1x32768, .i32⟩
  | 73 => ⟨S1x32768, .i32⟩
  | 74 => ⟨S_, .i32⟩
  | 75 => ⟨S1x32768, .i32⟩
  | 76 => ⟨S1x32768, .i32⟩
  | 77 => ⟨S1x32768, .i32⟩
  | 78 => ⟨S1x32768, .i32⟩
  | 79 => ⟨S1x32768, .i32⟩
  | 80 => ⟨S_, .i32⟩
  | 81 => ⟨S1x32768, .i32⟩
  | 82 => ⟨S1x32768, .i32⟩
  | 83 => ⟨S_, .i32⟩
  | 84 => ⟨S1x32768, .i32⟩
  | 85 => ⟨S1x32768, .i32⟩
  | 86 => ⟨S1x32768, .i32⟩
  | 87 => ⟨S1x32768, .i32⟩
  | 88 => ⟨S1x32768, .i32⟩
  | 89 => ⟨S_, .i32⟩
  | 90 => ⟨S1x32768, .i32⟩
  | 91 => ⟨S1x32768, .i32⟩
  | 92 => ⟨S_, .i32⟩
  | 93 => ⟨S1x32768, .i32⟩
  | 94 => ⟨S1x32768, .i32⟩
  | 95 => ⟨S1x32768, .i32⟩
  | 96 => ⟨S1x32768, .i32⟩
  | 97 => ⟨S1x32768, .i32⟩
  | 98 => ⟨S_, .i32⟩
  | 99 => ⟨S1x32768, .i32⟩
  | 100 => ⟨S1x32768, .i32⟩
  | 101 => ⟨S_, .i32⟩
  | 102 => ⟨S1x32768, .i32⟩
  | 103 => ⟨S1x32768, .i32⟩
  | 104 => ⟨S1x32768, .i32⟩
  | 105 => ⟨S1x32768, .i32⟩
  | 106 => ⟨S1x32768, .i32⟩
  | 107 => ⟨S1x32768, .i32⟩
  | 108 => ⟨S1x32768, .i32⟩
  | 109 => ⟨S1x32768, .i32⟩
  | 110 => ⟨S_, .i32⟩
  | 111 => ⟨S1x32768, .i32⟩
  | 112 => ⟨S1x32768, .i32⟩
  | 113 => ⟨S1x32768, .i32⟩
  | 114 => ⟨S_, .i32⟩
  | 115 => ⟨S1x32768, .i32⟩
  | 116 => ⟨S1x32768, .i32⟩
  | 117 => ⟨S_, .i32⟩
  | 118 => ⟨S1x32768, .i32⟩
  | 119 => ⟨S1x32768, .i32⟩
  | 120 => ⟨S1x32768, .i32⟩
  | 121 => ⟨S1x32768, .i32⟩
  | 122 => ⟨S1x32768, .i32⟩
  | 123 => ⟨S_, .i32⟩
  | 124 => ⟨S1x32768, .i32⟩
  | 125 => ⟨S1x32768, .i32⟩
  | 126 => ⟨S_, .i32⟩
  | 127 => ⟨S1x32768, .i32⟩
  | _ => ⟨S2x1x1024, .f32⟩

abbrev hbmTy0_1 (i : Nat) : BufTy := match i % 128 with
  | 0 => ⟨S1x32768, .i32⟩
  | 1 => ⟨S1x32768, .i32⟩
  | 2 => ⟨S1x32768, .i32⟩
  | 3 => ⟨S1x32768, .i32⟩
  | 4 => ⟨S_, .i32⟩
  | 5 => ⟨S1x32768, .i32⟩
  | 6 => ⟨S1x32768, .i32⟩
  | 7 => ⟨S_, .i32⟩
  | 8 => ⟨S1x32768, .i32⟩
  | 9 => ⟨S1x32768, .i32⟩
  | 10 => ⟨S1x32768, .i32⟩
  | 11 => ⟨S1x32768, .i32⟩
  | 12 => ⟨S1x32768, .i32⟩
  | 13 => ⟨S_, .i32⟩
  | 14 => ⟨S1x32768, .i32⟩
  | 15 => ⟨S1x32768, .i32⟩
  | 16 => ⟨S_, .i32⟩
  | 17 => ⟨S1x32768, .i32⟩
  | 18 => ⟨S1x32768, .i32⟩
  | 19 => ⟨S1x32768, .i32⟩
  | 20 => ⟨S1x32768, .i32⟩
  | 21 => ⟨S1x32768, .i32⟩
  | 22 => ⟨S1x32768, .i32⟩
  | 23 => ⟨S1x32768, .i32⟩
  | 24 => ⟨S1x32768, .i32⟩
  | 25 => ⟨S_, .i32⟩
  | 26 => ⟨S1x32768, .i32⟩
  | 27 => ⟨S1x32768, .i32⟩
  | 28 => ⟨S1x32768, .i32⟩
  | 29 => ⟨S_, .i32⟩
  | 30 => ⟨S1x32768, .i32⟩
  | 31 => ⟨S1x32768, .i32⟩
  | 32 => ⟨S_, .i32⟩
  | 33 => ⟨S1x32768, .i32⟩
  | 34 => ⟨S1x32768, .i32⟩
  | 35 => ⟨S1x32768, .i32⟩
  | 36 => ⟨S1x32768, .i32⟩
  | 37 => ⟨S1x32768, .i32⟩
  | 38 => ⟨S_, .i32⟩
  | 39 => ⟨S1x32768, .i32⟩
  | 40 => ⟨S1x32768, .i32⟩
  | 41 => ⟨S_, .i32⟩
  | 42 => ⟨S1x32768, .i32⟩
  | 43 => ⟨S1x32768, .i32⟩
  | 44 => ⟨S1x32768, .i32⟩
  | 45 => ⟨S1x32768, .i32⟩
  | 46 => ⟨S1x32768, .i32⟩
  | 47 => ⟨S_, .i32⟩
  | 48 => ⟨S1x32768, .i32⟩
  | 49 => ⟨S1x32768, .i32⟩
  | 50 => ⟨S_, .i32⟩
  | 51 => ⟨S1x32768, .i32⟩
  | 52 => ⟨S1x32768, .i32⟩
  | 53 => ⟨S1x32768, .i32⟩
  | 54 => ⟨S1x32768, .i32⟩
  | 55 => ⟨S1x32768, .i32⟩
  | 56 => ⟨S_, .i32⟩
  | 57 => ⟨S1x32768, .i32⟩
  | 58 => ⟨S1x32768, .i32⟩
  | 59 => ⟨S_, .i32⟩
  | 60 => ⟨S1x32768, .i32⟩
  | 61 => ⟨S1x32768, .i32⟩
  | 62 => ⟨S1x32768, .i32⟩
  | 63 => ⟨S1x32768, .i32⟩
  | 64 => ⟨S1x32768, .i32⟩
  | 65 => ⟨S1x32768, .i32⟩
  | 66 => ⟨S1x32768, .i32⟩
  | 67 => ⟨S1x32768, .i32⟩
  | 68 => ⟨S_, .i32⟩
  | 69 => ⟨S1x32768, .i32⟩
  | 70 => ⟨S1x32768, .i32⟩
  | 71 => ⟨S1x32768, .i32⟩
  | 72 => ⟨S_, .i32⟩
  | 73 => ⟨S1x32768, .i32⟩
  | 74 => ⟨S1x32768, .i32⟩
  | 75 => ⟨S_, .i32⟩
  | 76 => ⟨S1x32768, .i32⟩
  | 77 => ⟨S1x32768, .i32⟩
  | 78 => ⟨S1x32768, .i32⟩
  | 79 => ⟨S1x32768, .i32⟩
  | 80 => ⟨S1x32768, .i32⟩
  | 81 => ⟨S_, .i32⟩
  | 82 => ⟨S1x32768, .i32⟩
  | 83 => ⟨S1x32768, .i32⟩
  | 84 => ⟨S_, .i32⟩
  | 85 => ⟨S1x32768, .i32⟩
  | 86 => ⟨S1x32768, .i32⟩
  | 87 => ⟨S1x32768, .i32⟩
  | 88 => ⟨S1x32768, .i32⟩
  | 89 => ⟨S1x32768, .i32⟩
  | 90 => ⟨S_, .i32⟩
  | 91 => ⟨S1x32768, .i32⟩
  | 92 => ⟨S1x32768, .i32⟩
  | 93 => ⟨S_, .i32⟩
  | 94 => ⟨S1x32768, .i32⟩
  | 95 => ⟨S1x32768, .i32⟩
  | 96 => ⟨S1x32768, .i32⟩
  | 97 => ⟨S1x32768, .i32⟩
  | 98 => ⟨S1x32768, .i32⟩
  | 99 => ⟨S_, .i32⟩
  | 100 => ⟨S1x32768, .i32⟩
  | 101 => ⟨S1x32768, .i32⟩
  | 102 => ⟨S_, .i32⟩
  | 103 => ⟨S1x32768, .i32⟩
  | 104 => ⟨S1x32768, .i32⟩
  | 105 => ⟨S1x32768, .i32⟩
  | 106 => ⟨S1x32768, .i32⟩
  | 107 => ⟨S1x32768, .i32⟩
  | 108 => ⟨S1x32768, .i32⟩
  | 109 => ⟨S1x32768, .i32⟩
  | 110 => ⟨S1x32768, .i32⟩
  | 111 => ⟨S_, .i32⟩
  | 112 => ⟨S1x32768, .i32⟩
  | 113 => ⟨S1x32768, .i32⟩
  | 114 => ⟨S1x32768, .i32⟩
  | 115 => ⟨S_, .i32⟩
  | 116 => ⟨S1x32768, .i32⟩
  | 117 => ⟨S1x32768, .i32⟩
  | 118 => ⟨S_, .i32⟩
  | 119 => ⟨S1x32768, .i32⟩
  | 120 => ⟨S1x32768, .i32⟩
  | 121 => ⟨S1x32768, .i32⟩
  | 122 => ⟨S1x32768, .i32⟩
  | 123 => ⟨S1x32768, .i32⟩
  | 124 => ⟨S_, .i32⟩
  | 125 => ⟨S1x32768, .i32⟩
  | 126 => ⟨S1x32768, .i32⟩
  | 127 => ⟨S_, .i32⟩
  | _ => ⟨S2x1x1024, .f32⟩

abbrev hbmTy0_2 (i : Nat) : BufTy := match i % 128 with
  | 0 => ⟨S1x32768, .i32⟩
  | 1 => ⟨S1x32768, .i32⟩
  | 2 => ⟨S1x32768, .i32⟩
  | 3 => ⟨S1x32768, .i32⟩
  | 4 => ⟨S1x32768, .i32⟩
  | 5 => ⟨S_, .i32⟩
  | 6 => ⟨S1x32768, .i32⟩
  | 7 => ⟨S1x32768, .i32⟩
  | 8 => ⟨S_, .i32⟩
  | 9 => ⟨S1x32768, .i32⟩
  | 10 => ⟨S1x32768, .i32⟩
  | 11 => ⟨S1x32768, .i32⟩
  | 12 => ⟨S1x32768, .i32⟩
  | 13 => ⟨S1x32768, .i32⟩
  | 14 => ⟨S_, .i32⟩
  | 15 => ⟨S1x32768, .i32⟩
  | 16 => ⟨S1x32768, .i32⟩
  | 17 => ⟨S_, .i32⟩
  | 18 => ⟨S1x32768, .i32⟩
  | 19 => ⟨S1x32768, .i32⟩
  | 20 => ⟨S1x32768, .i32⟩
  | 21 => ⟨S1x32768, .i32⟩
  | 22 => ⟨S1x32768, .i32⟩
  | 23 => ⟨S1x32768, .i32⟩
  | 24 => ⟨S1x32768, .i32⟩
  | 25 => ⟨S1x32768, .i32⟩
  | 26 => ⟨S_, .i32⟩
  | 27 => ⟨S1x32768, .i32⟩
  | 28 => ⟨S1x32768, .i32⟩
  | 29 => ⟨S1x32768, .i32⟩
  | 30 => ⟨S_, .i32⟩
  | 31 => ⟨S1x32768, .i32⟩
  | 32 => ⟨S1x32768, .i32⟩
  | 33 => ⟨S_, .i32⟩
  | 34 => ⟨S1x32768, .i32⟩
  | 35 => ⟨S1x32768, .i32⟩
  | 36 => ⟨S1x32768, .f32⟩
  | 37 => ⟨S_, .f32⟩
  | 38 => ⟨S1x32768, .f32⟩
  | 39 => ⟨S1x32768, .f32⟩
  | 40 => ⟨S1x1, .f32⟩
  | 41 => ⟨S1x32768, .f32⟩
  | 42 => ⟨S1x32768, .f32⟩
  | 43 => ⟨S1x32768, .f32⟩
  | 44 => ⟨S1x32768, .f32⟩
  | 45 => ⟨S1x32768, .f32⟩
  | 46 => ⟨S1x32768, .f32⟩
  | 47 => ⟨S1x32768, .f32⟩
  | 48 => ⟨S1x32768, .f32⟩
  | 49 => ⟨S1x32768, .f32⟩
  | 50 => ⟨S1x32768, .f32⟩
  | 51 => ⟨S1x32768, .f32⟩
  | 52 => ⟨S1x32768, .i32⟩
  | 53 => ⟨S_, .f32⟩
  | 54 => ⟨S_, .i32⟩
  | 55 => ⟨S1, .f32⟩
  | 56 => ⟨S1, .i32⟩
  | 57 => ⟨S_, .i32⟩
  | _ => ⟨S2x1x1024, .f32⟩

abbrev hbmTy (i : Nat) : BufTy := match i / 128 with
  | 0 => hbmTy0_0 i
  | 1 => hbmTy0_1 i
  | 2 => hbmTy0_2 i
  | _ => ⟨S2x1x1024, .f32⟩

abbrev bufTy : (tb : Table) → Fin (tcTables nBuf tb) → BufTy
  | .hbm, ⟨i, _⟩ => hbmTy i
  | _, _ => ⟨S2x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_cst_0 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_c_0 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_1 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_call0_v0 : Ref sig .tc := ⟨.hbm, 63, rfl⟩
abbrev main_call0_call0_call0_c : Ref sig .tc := ⟨.hbm, 64, rfl⟩
abbrev main_call0_call0_call0_v1 : Ref sig .tc := ⟨.hbm, 65, rfl⟩
abbrev main_call0_call0_call0_v2 : Ref sig .tc := ⟨.hbm, 66, rfl⟩
abbrev main_call0_call0_call0_v3 : Ref sig .tc := ⟨.hbm, 67, rfl⟩
abbrev main_call0_call0_call0_v4 : Ref sig .tc := ⟨.hbm, 68, rfl⟩
abbrev main_call0_call0_call0_v5 : Ref sig .tc := ⟨.hbm, 69, rfl⟩
abbrev main_call0_call0_call0_v6 : Ref sig .tc := ⟨.hbm, 70, rfl⟩
abbrev main_call0_call0_call0_c_0 : Ref sig .tc := ⟨.hbm, 71, rfl⟩
abbrev main_call0_call0_call0_v7 : Ref sig .tc := ⟨.hbm, 72, rfl⟩
abbrev main_call0_call0_call0_v8 : Ref sig .tc := ⟨.hbm, 73, rfl⟩
abbrev main_call0_call0_call0_c_1 : Ref sig .tc := ⟨.hbm, 74, rfl⟩
abbrev main_call0_call0_call0_v9 : Ref sig .tc := ⟨.hbm, 75, rfl⟩
abbrev main_call0_call0_call0_v10 : Ref sig .tc := ⟨.hbm, 76, rfl⟩
abbrev main_call0_call0_call0_v11 : Ref sig .tc := ⟨.hbm, 77, rfl⟩
abbrev main_call0_call0_call0_v12 : Ref sig .tc := ⟨.hbm, 78, rfl⟩
abbrev main_call0_call0_call0_v13 : Ref sig .tc := ⟨.hbm, 79, rfl⟩
abbrev main_call0_call0_call0_c_2 : Ref sig .tc := ⟨.hbm, 80, rfl⟩
abbrev main_call0_call0_call0_v14 : Ref sig .tc := ⟨.hbm, 81, rfl⟩
abbrev main_call0_call0_call0_v15 : Ref sig .tc := ⟨.hbm, 82, rfl⟩
abbrev main_call0_call0_call0_c_3 : Ref sig .tc := ⟨.hbm, 83, rfl⟩
abbrev main_call0_call0_call0_v16 : Ref sig .tc := ⟨.hbm, 84, rfl⟩
abbrev main_call0_call0_call0_v17 : Ref sig .tc := ⟨.hbm, 85, rfl⟩
abbrev main_call0_call0_call0_v18 : Ref sig .tc := ⟨.hbm, 86, rfl⟩
abbrev main_call0_call0_call0_v19 : Ref sig .tc := ⟨.hbm, 87, rfl⟩
abbrev main_call0_call0_call0_v20 : Ref sig .tc := ⟨.hbm, 88, rfl⟩
abbrev main_call0_call0_call0_c_4 : Ref sig .tc := ⟨.hbm, 89, rfl⟩
abbrev main_call0_call0_call0_v21 : Ref sig .tc := ⟨.hbm, 90, rfl⟩
abbrev main_call0_call0_call0_v22 : Ref sig .tc := ⟨.hbm, 91, rfl⟩
abbrev main_call0_call0_call0_c_5 : Ref sig .tc := ⟨.hbm, 92, rfl⟩
abbrev main_call0_call0_call0_v23 : Ref sig .tc := ⟨.hbm, 93, rfl⟩
abbrev main_call0_call0_call0_v24 : Ref sig .tc := ⟨.hbm, 94, rfl⟩
abbrev main_call0_call0_call0_v25 : Ref sig .tc := ⟨.hbm, 95, rfl⟩
abbrev main_call0_call0_call0_v26 : Ref sig .tc := ⟨.hbm, 96, rfl⟩
abbrev main_call0_call0_call0_v27 : Ref sig .tc := ⟨.hbm, 97, rfl⟩
abbrev main_call0_call0_call0_c_6 : Ref sig .tc := ⟨.hbm, 98, rfl⟩
abbrev main_call0_call0_call0_v28 : Ref sig .tc := ⟨.hbm, 99, rfl⟩
abbrev main_call0_call0_call0_v29 : Ref sig .tc := ⟨.hbm, 100, rfl⟩
abbrev main_call0_call0_call0_c_7 : Ref sig .tc := ⟨.hbm, 101, rfl⟩
abbrev main_call0_call0_call0_v30 : Ref sig .tc := ⟨.hbm, 102, rfl⟩
abbrev main_call0_call0_call0_v31 : Ref sig .tc := ⟨.hbm, 103, rfl⟩
abbrev main_call0_call0_call0_v32 : Ref sig .tc := ⟨.hbm, 104, rfl⟩
abbrev main_call0_call0_call0_v33 : Ref sig .tc := ⟨.hbm, 105, rfl⟩
abbrev main_call0_call0_call0_v34 : Ref sig .tc := ⟨.hbm, 106, rfl⟩
abbrev main_call0_call0_call0_v35 : Ref sig .tc := ⟨.hbm, 107, rfl⟩
abbrev main_call0_call0_call0_v36 : Ref sig .tc := ⟨.hbm, 108, rfl⟩
abbrev main_call0_call0_call0_v37 : Ref sig .tc := ⟨.hbm, 109, rfl⟩
abbrev main_call0_call0_call0_c_8 : Ref sig .tc := ⟨.hbm, 110, rfl⟩
abbrev main_call0_call0_call0_v38 : Ref sig .tc := ⟨.hbm, 111, rfl⟩
abbrev main_call0_call0_call0_v39 : Ref sig .tc := ⟨.hbm, 112, rfl⟩
abbrev main_call0_call0_call0_v40 : Ref sig .tc := ⟨.hbm, 113, rfl⟩
abbrev main_call0_call0_call0_c_9 : Ref sig .tc := ⟨.hbm, 114, rfl⟩
abbrev main_call0_call0_call0_v41 : Ref sig .tc := ⟨.hbm, 115, rfl⟩
abbrev main_call0_call0_call0_v42 : Ref sig .tc := ⟨.hbm, 116, rfl⟩
abbrev main_call0_call0_call0_c_10 : Ref sig .tc := ⟨.hbm, 117, rfl⟩
abbrev main_call0_call0_call0_v43 : Ref sig .tc := ⟨.hbm, 118, rfl⟩
abbrev main_call0_call0_call0_v44 : Ref sig .tc := ⟨.hbm, 119, rfl⟩
abbrev main_call0_call0_call0_v45 : Ref sig .tc := ⟨.hbm, 120, rfl⟩
abbrev main_call0_call0_call0_v46 : Ref sig .tc := ⟨.hbm, 121, rfl⟩
abbrev main_call0_call0_call0_v47 : Ref sig .tc := ⟨.hbm, 122, rfl⟩
abbrev main_call0_call0_call0_c_11 : Ref sig .tc := ⟨.hbm, 123, rfl⟩
abbrev main_call0_call0_call0_v48 : Ref sig .tc := ⟨.hbm, 124, rfl⟩
abbrev main_call0_call0_call0_v49 : Ref sig .tc := ⟨.hbm, 125, rfl⟩
abbrev main_call0_call0_call0_c_12 : Ref sig .tc := ⟨.hbm, 126, rfl⟩
abbrev main_call0_call0_call0_v50 : Ref sig .tc := ⟨.hbm, 127, rfl⟩
abbrev main_call0_call0_call0_v51 : Ref sig .tc := ⟨.hbm, 128, rfl⟩
abbrev main_call0_call0_call0_v52 : Ref sig .tc := ⟨.hbm, 129, rfl⟩
abbrev main_call0_call0_call0_v53 : Ref sig .tc := ⟨.hbm, 130, rfl⟩
abbrev main_call0_call0_call0_v54 : Ref sig .tc := ⟨.hbm, 131, rfl⟩
abbrev main_call0_call0_call0_c_13 : Ref sig .tc := ⟨.hbm, 132, rfl⟩
abbrev main_call0_call0_call0_v55 : Ref sig .tc := ⟨.hbm, 133, rfl⟩
abbrev main_call0_call0_call0_v56 : Ref sig .tc := ⟨.hbm, 134, rfl⟩
abbrev main_call0_call0_call0_c_14 : Ref sig .tc := ⟨.hbm, 135, rfl⟩
abbrev main_call0_call0_call0_v57 : Ref sig .tc := ⟨.hbm, 136, rfl⟩
abbrev main_call0_call0_call0_v58 : Ref sig .tc := ⟨.hbm, 137, rfl⟩
abbrev main_call0_call0_call0_v59 : Ref sig .tc := ⟨.hbm, 138, rfl⟩
abbrev main_call0_call0_call0_v60 : Ref sig .tc := ⟨.hbm, 139, rfl⟩
abbrev main_call0_call0_call0_v61 : Ref sig .tc := ⟨.hbm, 140, rfl⟩
abbrev main_call0_call0_call0_c_15 : Ref sig .tc := ⟨.hbm, 141, rfl⟩
abbrev main_call0_call0_call0_v62 : Ref sig .tc := ⟨.hbm, 142, rfl⟩
abbrev main_call0_call0_call0_v63 : Ref sig .tc := ⟨.hbm, 143, rfl⟩
abbrev main_call0_call0_call0_c_16 : Ref sig .tc := ⟨.hbm, 144, rfl⟩
abbrev main_call0_call0_call0_v64 : Ref sig .tc := ⟨.hbm, 145, rfl⟩
abbrev main_call0_call0_call0_v65 : Ref sig .tc := ⟨.hbm, 146, rfl⟩
abbrev main_call0_call0_call0_v66 : Ref sig .tc := ⟨.hbm, 147, rfl⟩
abbrev main_call0_call0_call0_v67 : Ref sig .tc := ⟨.hbm, 148, rfl⟩
abbrev main_call0_call0_call0_v68 : Ref sig .tc := ⟨.hbm, 149, rfl⟩
abbrev main_call0_call0_call0_v69 : Ref sig .tc := ⟨.hbm, 150, rfl⟩
abbrev main_call0_call0_call0_v70 : Ref sig .tc := ⟨.hbm, 151, rfl⟩
abbrev main_call0_call0_call0_v71 : Ref sig .tc := ⟨.hbm, 152, rfl⟩
abbrev main_call0_call0_call0_c_17 : Ref sig .tc := ⟨.hbm, 153, rfl⟩
abbrev main_call0_call0_call0_v72 : Ref sig .tc := ⟨.hbm, 154, rfl⟩
abbrev main_call0_call0_call0_v73 : Ref sig .tc := ⟨.hbm, 155, rfl⟩
abbrev main_call0_call0_call0_v74 : Ref sig .tc := ⟨.hbm, 156, rfl⟩
abbrev main_call0_call0_call0_c_18 : Ref sig .tc := ⟨.hbm, 157, rfl⟩
abbrev main_call0_call0_call0_v75 : Ref sig .tc := ⟨.hbm, 158, rfl⟩
abbrev main_call0_call0_call0_v76 : Ref sig .tc := ⟨.hbm, 159, rfl⟩
abbrev main_call0_call0_call0_c_19 : Ref sig .tc := ⟨.hbm, 160, rfl⟩
abbrev main_call0_call0_call0_v77 : Ref sig .tc := ⟨.hbm, 161, rfl⟩
abbrev main_call0_call0_call0_v78 : Ref sig .tc := ⟨.hbm, 162, rfl⟩
abbrev main_call0_call0_call0_v79 : Ref sig .tc := ⟨.hbm, 163, rfl⟩
abbrev main_call0_call0_call0_v80 : Ref sig .tc := ⟨.hbm, 164, rfl⟩
abbrev main_call0_call0_call0_v81 : Ref sig .tc := ⟨.hbm, 165, rfl⟩
abbrev main_call0_call0_call0_c_20 : Ref sig .tc := ⟨.hbm, 166, rfl⟩
abbrev main_call0_call0_call0_v82 : Ref sig .tc := ⟨.hbm, 167, rfl⟩
abbrev main_call0_call0_call0_v83 : Ref sig .tc := ⟨.hbm, 168, rfl⟩
abbrev main_call0_call0_call0_c_21 : Ref sig .tc := ⟨.hbm, 169, rfl⟩
abbrev main_call0_call0_call0_v84 : Ref sig .tc := ⟨.hbm, 170, rfl⟩
abbrev main_call0_call0_call0_v85 : Ref sig .tc := ⟨.hbm, 171, rfl⟩
abbrev main_call0_call0_call0_v86 : Ref sig .tc := ⟨.hbm, 172, rfl⟩
abbrev main_call0_call0_call0_v87 : Ref sig .tc := ⟨.hbm, 173, rfl⟩
abbrev main_call0_call0_call0_v88 : Ref sig .tc := ⟨.hbm, 174, rfl⟩
abbrev main_call0_call0_call0_c_22 : Ref sig .tc := ⟨.hbm, 175, rfl⟩
abbrev main_call0_call0_call0_v89 : Ref sig .tc := ⟨.hbm, 176, rfl⟩
abbrev main_call0_call0_call0_v90 : Ref sig .tc := ⟨.hbm, 177, rfl⟩
abbrev main_call0_call0_call0_c_23 : Ref sig .tc := ⟨.hbm, 178, rfl⟩
abbrev main_call0_call0_call0_v91 : Ref sig .tc := ⟨.hbm, 179, rfl⟩
abbrev main_call0_call0_call0_v92 : Ref sig .tc := ⟨.hbm, 180, rfl⟩
abbrev main_call0_call0_call0_v93 : Ref sig .tc := ⟨.hbm, 181, rfl⟩
abbrev main_call0_call0_call0_v94 : Ref sig .tc := ⟨.hbm, 182, rfl⟩
abbrev main_call0_call0_call0_v95 : Ref sig .tc := ⟨.hbm, 183, rfl⟩
abbrev main_call0_call0_call0_c_24 : Ref sig .tc := ⟨.hbm, 184, rfl⟩
abbrev main_call0_call0_call0_v96 : Ref sig .tc := ⟨.hbm, 185, rfl⟩
abbrev main_call0_call0_call0_v97 : Ref sig .tc := ⟨.hbm, 186, rfl⟩
abbrev main_call0_call0_call0_c_25 : Ref sig .tc := ⟨.hbm, 187, rfl⟩
abbrev main_call0_call0_call0_v98 : Ref sig .tc := ⟨.hbm, 188, rfl⟩
abbrev main_call0_call0_call0_v99 : Ref sig .tc := ⟨.hbm, 189, rfl⟩
abbrev main_call0_call0_call0_v100 : Ref sig .tc := ⟨.hbm, 190, rfl⟩
abbrev main_call0_call0_call0_v101 : Ref sig .tc := ⟨.hbm, 191, rfl⟩
abbrev main_call0_call0_call0_v102 : Ref sig .tc := ⟨.hbm, 192, rfl⟩
abbrev main_call0_call0_call0_v103 : Ref sig .tc := ⟨.hbm, 193, rfl⟩
abbrev main_call0_call0_call0_v104 : Ref sig .tc := ⟨.hbm, 194, rfl⟩
abbrev main_call0_call0_call0_v105 : Ref sig .tc := ⟨.hbm, 195, rfl⟩
abbrev main_call0_call0_call0_c_26 : Ref sig .tc := ⟨.hbm, 196, rfl⟩
abbrev main_call0_call0_call0_v106 : Ref sig .tc := ⟨.hbm, 197, rfl⟩
abbrev main_call0_call0_call0_v107 : Ref sig .tc := ⟨.hbm, 198, rfl⟩
abbrev main_call0_call0_call0_v108 : Ref sig .tc := ⟨.hbm, 199, rfl⟩
abbrev main_call0_call0_call0_c_27 : Ref sig .tc := ⟨.hbm, 200, rfl⟩
abbrev main_call0_call0_call0_v109 : Ref sig .tc := ⟨.hbm, 201, rfl⟩
abbrev main_call0_call0_call0_v110 : Ref sig .tc := ⟨.hbm, 202, rfl⟩
abbrev main_call0_call0_call0_c_28 : Ref sig .tc := ⟨.hbm, 203, rfl⟩
abbrev main_call0_call0_call0_v111 : Ref sig .tc := ⟨.hbm, 204, rfl⟩
abbrev main_call0_call0_call0_v112 : Ref sig .tc := ⟨.hbm, 205, rfl⟩
abbrev main_call0_call0_call0_v113 : Ref sig .tc := ⟨.hbm, 206, rfl⟩
abbrev main_call0_call0_call0_v114 : Ref sig .tc := ⟨.hbm, 207, rfl⟩
abbrev main_call0_call0_call0_v115 : Ref sig .tc := ⟨.hbm, 208, rfl⟩
abbrev main_call0_call0_call0_c_29 : Ref sig .tc := ⟨.hbm, 209, rfl⟩
abbrev main_call0_call0_call0_v116 : Ref sig .tc := ⟨.hbm, 210, rfl⟩
abbrev main_call0_call0_call0_v117 : Ref sig .tc := ⟨.hbm, 211, rfl⟩
abbrev main_call0_call0_call0_c_30 : Ref sig .tc := ⟨.hbm, 212, rfl⟩
abbrev main_call0_call0_call0_v118 : Ref sig .tc := ⟨.hbm, 213, rfl⟩
abbrev main_call0_call0_call0_v119 : Ref sig .tc := ⟨.hbm, 214, rfl⟩
abbrev main_call0_call0_call0_v120 : Ref sig .tc := ⟨.hbm, 215, rfl⟩
abbrev main_call0_call0_call0_v121 : Ref sig .tc := ⟨.hbm, 216, rfl⟩
abbrev main_call0_call0_call0_v122 : Ref sig .tc := ⟨.hbm, 217, rfl⟩
abbrev main_call0_call0_call0_c_31 : Ref sig .tc := ⟨.hbm, 218, rfl⟩
abbrev main_call0_call0_call0_v123 : Ref sig .tc := ⟨.hbm, 219, rfl⟩
abbrev main_call0_call0_call0_v124 : Ref sig .tc := ⟨.hbm, 220, rfl⟩
abbrev main_call0_call0_call0_c_32 : Ref sig .tc := ⟨.hbm, 221, rfl⟩
abbrev main_call0_call0_call0_v125 : Ref sig .tc := ⟨.hbm, 222, rfl⟩
abbrev main_call0_call0_call0_v126 : Ref sig .tc := ⟨.hbm, 223, rfl⟩
abbrev main_call0_call0_call0_v127 : Ref sig .tc := ⟨.hbm, 224, rfl⟩
abbrev main_call0_call0_call0_v128 : Ref sig .tc := ⟨.hbm, 225, rfl⟩
abbrev main_call0_call0_call0_v129 : Ref sig .tc := ⟨.hbm, 226, rfl⟩
abbrev main_call0_call0_call0_c_33 : Ref sig .tc := ⟨.hbm, 227, rfl⟩
abbrev main_call0_call0_call0_v130 : Ref sig .tc := ⟨.hbm, 228, rfl⟩
abbrev main_call0_call0_call0_v131 : Ref sig .tc := ⟨.hbm, 229, rfl⟩
abbrev main_call0_call0_call0_c_34 : Ref sig .tc := ⟨.hbm, 230, rfl⟩
abbrev main_call0_call0_call0_v132 : Ref sig .tc := ⟨.hbm, 231, rfl⟩
abbrev main_call0_call0_call0_v133 : Ref sig .tc := ⟨.hbm, 232, rfl⟩
abbrev main_call0_call0_call0_v134 : Ref sig .tc := ⟨.hbm, 233, rfl⟩
abbrev main_call0_call0_call0_v135 : Ref sig .tc := ⟨.hbm, 234, rfl⟩
abbrev main_call0_call0_call0_v136 : Ref sig .tc := ⟨.hbm, 235, rfl⟩
abbrev main_call0_call0_call0_v137 : Ref sig .tc := ⟨.hbm, 236, rfl⟩
abbrev main_call0_call0_call0_v138 : Ref sig .tc := ⟨.hbm, 237, rfl⟩
abbrev main_call0_call0_call0_v139 : Ref sig .tc := ⟨.hbm, 238, rfl⟩
abbrev main_call0_call0_call0_c_35 : Ref sig .tc := ⟨.hbm, 239, rfl⟩
abbrev main_call0_call0_call0_v140 : Ref sig .tc := ⟨.hbm, 240, rfl⟩
abbrev main_call0_call0_call0_v141 : Ref sig .tc := ⟨.hbm, 241, rfl⟩
abbrev main_call0_call0_call0_v142 : Ref sig .tc := ⟨.hbm, 242, rfl⟩
abbrev main_call0_call0_call0_c_36 : Ref sig .tc := ⟨.hbm, 243, rfl⟩
abbrev main_call0_call0_call0_v143 : Ref sig .tc := ⟨.hbm, 244, rfl⟩
abbrev main_call0_call0_call0_v144 : Ref sig .tc := ⟨.hbm, 245, rfl⟩
abbrev main_call0_call0_call0_c_37 : Ref sig .tc := ⟨.hbm, 246, rfl⟩
abbrev main_call0_call0_call0_v145 : Ref sig .tc := ⟨.hbm, 247, rfl⟩
abbrev main_call0_call0_call0_v146 : Ref sig .tc := ⟨.hbm, 248, rfl⟩
abbrev main_call0_call0_call0_v147 : Ref sig .tc := ⟨.hbm, 249, rfl⟩
abbrev main_call0_call0_call0_v148 : Ref sig .tc := ⟨.hbm, 250, rfl⟩
abbrev main_call0_call0_call0_v149 : Ref sig .tc := ⟨.hbm, 251, rfl⟩
abbrev main_call0_call0_call0_c_38 : Ref sig .tc := ⟨.hbm, 252, rfl⟩
abbrev main_call0_call0_call0_v150 : Ref sig .tc := ⟨.hbm, 253, rfl⟩
abbrev main_call0_call0_call0_v151 : Ref sig .tc := ⟨.hbm, 254, rfl⟩
abbrev main_call0_call0_call0_c_39 : Ref sig .tc := ⟨.hbm, 255, rfl⟩
abbrev main_call0_call0_call0_v152 : Ref sig .tc := ⟨.hbm, 256, rfl⟩
abbrev main_call0_call0_call0_v153 : Ref sig .tc := ⟨.hbm, 257, rfl⟩
abbrev main_call0_call0_call0_v154 : Ref sig .tc := ⟨.hbm, 258, rfl⟩
abbrev main_call0_call0_call0_v155 : Ref sig .tc := ⟨.hbm, 259, rfl⟩
abbrev main_call0_call0_call0_v156 : Ref sig .tc := ⟨.hbm, 260, rfl⟩
abbrev main_call0_call0_call0_c_40 : Ref sig .tc := ⟨.hbm, 261, rfl⟩
abbrev main_call0_call0_call0_v157 : Ref sig .tc := ⟨.hbm, 262, rfl⟩
abbrev main_call0_call0_call0_v158 : Ref sig .tc := ⟨.hbm, 263, rfl⟩
abbrev main_call0_call0_call0_c_41 : Ref sig .tc := ⟨.hbm, 264, rfl⟩
abbrev main_call0_call0_call0_v159 : Ref sig .tc := ⟨.hbm, 265, rfl⟩
abbrev main_call0_call0_call0_v160 : Ref sig .tc := ⟨.hbm, 266, rfl⟩
abbrev main_call0_call0_call0_v161 : Ref sig .tc := ⟨.hbm, 267, rfl⟩
abbrev main_call0_call0_call0_v162 : Ref sig .tc := ⟨.hbm, 268, rfl⟩
abbrev main_call0_call0_call0_v163 : Ref sig .tc := ⟨.hbm, 269, rfl⟩
abbrev main_call0_call0_call0_c_42 : Ref sig .tc := ⟨.hbm, 270, rfl⟩
abbrev main_call0_call0_call0_v164 : Ref sig .tc := ⟨.hbm, 271, rfl⟩
abbrev main_call0_call0_call0_v165 : Ref sig .tc := ⟨.hbm, 272, rfl⟩
abbrev main_call0_call0_call0_c_43 : Ref sig .tc := ⟨.hbm, 273, rfl⟩
abbrev main_call0_call0_call0_v166 : Ref sig .tc := ⟨.hbm, 274, rfl⟩
abbrev main_call0_call0_call0_v167 : Ref sig .tc := ⟨.hbm, 275, rfl⟩
abbrev main_call0_call0_call0_v168 : Ref sig .tc := ⟨.hbm, 276, rfl⟩
abbrev main_call0_call0_call0_v169 : Ref sig .tc := ⟨.hbm, 277, rfl⟩
abbrev main_call0_call0_call0_v170 : Ref sig .tc := ⟨.hbm, 278, rfl⟩
abbrev main_call0_call0_v18_0 : Ref sig .tc := ⟨.hbm, 279, rfl⟩
abbrev main_call0_call0_call0_v172 : Ref sig .tc := ⟨.hbm, 280, rfl⟩
abbrev main_call0_call0_call0_v173 : Ref sig .tc := ⟨.hbm, 281, rfl⟩
abbrev main_call0_call0_call0_c_44 : Ref sig .tc := ⟨.hbm, 282, rfl⟩
abbrev main_call0_call0_call0_v174 : Ref sig .tc := ⟨.hbm, 283, rfl⟩
abbrev main_call0_call0_v18_1 : Ref sig .tc := ⟨.hbm, 284, rfl⟩
abbrev main_call0_call0_v19 : Ref sig .tc := ⟨.hbm, 285, rfl⟩
abbrev main_call0_call0_c_2 : Ref sig .tc := ⟨.hbm, 286, rfl⟩
abbrev main_call0_call0_v20 : Ref sig .tc := ⟨.hbm, 287, rfl⟩
abbrev main_call0_call0_v21 : Ref sig .tc := ⟨.hbm, 288, rfl⟩
abbrev main_call0_call0_c_3 : Ref sig .tc := ⟨.hbm, 289, rfl⟩
abbrev main_call0_call0_v22 : Ref sig .tc := ⟨.hbm, 290, rfl⟩
abbrev main_call0_call0_v23 : Ref sig .tc := ⟨.hbm, 291, rfl⟩
abbrev main_call0_call0_v24 : Ref sig .tc := ⟨.hbm, 292, rfl⟩
abbrev main_call0_call0_cst : Ref sig .tc := ⟨.hbm, 293, rfl⟩
abbrev main_call0_call0_v25 : Ref sig .tc := ⟨.hbm, 294, rfl⟩
abbrev main_call0_call0_v26 : Ref sig .tc := ⟨.hbm, 295, rfl⟩
abbrev main_call0_call0_v27 : Ref sig .tc := ⟨.hbm, 296, rfl⟩
abbrev main_call0_call0_v28 : Ref sig .tc := ⟨.hbm, 297, rfl⟩
abbrev main_call0_call0_v29 : Ref sig .tc := ⟨.hbm, 298, rfl⟩
abbrev main_call0_call0_v30 : Ref sig .tc := ⟨.hbm, 299, rfl⟩
abbrev main_call0_call0_v31 : Ref sig .tc := ⟨.hbm, 300, rfl⟩
abbrev main_call0_call0_v32 : Ref sig .tc := ⟨.hbm, 301, rfl⟩
abbrev main_call0_v0 : Ref sig .tc := ⟨.hbm, 302, rfl⟩
abbrev main_call0_v1 : Ref sig .tc := ⟨.hbm, 303, rfl⟩
abbrev main_call0_v2 : Ref sig .tc := ⟨.hbm, 304, rfl⟩
abbrev main_call0_v3 : Ref sig .tc := ⟨.hbm, 305, rfl⟩
abbrev main_v29 : Ref sig .tc := ⟨.hbm, 306, rfl⟩
abbrev main_v30 : Ref sig .tc := ⟨.hbm, 307, rfl⟩
abbrev main_call1_v0 : Ref sig .tc := ⟨.hbm, 308, rfl⟩
abbrev main_call1_cst : Ref sig .tc := ⟨.hbm, 309, rfl⟩
abbrev main_call1_c : Ref sig .tc := ⟨.hbm, 310, rfl⟩
abbrev main_call1_v1_0 : Ref sig .tc := ⟨.hbm, 311, rfl⟩
abbrev main_v31 : Ref sig .tc := ⟨.hbm, 312, rfl⟩
abbrev main_v32 : Ref sig .tc := ⟨.hbm, 313, rfl⟩

abbrev nD : Nat := 1
abbrev τ : Topo := Topo.v7x

variable {F : FTy → Type} [FloatOps F]
-- ==== Proof.Ideal.Ring.lean ====
/-
  The streaming call's ring of four row-chunk slots: the names of its copies' two ends, the element sets they
  cover, what a finished copy hands back, and the rules by which the body issues a copy and waits for one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The proof's resources: the pipeline library's beside the counters of transfers in flight. -/
local notation "𝕄" => MT nD τ sig Unit (Elt F) ℕ (Pipeline.UD sig nD τ) ℕ

/-! ## The ends of a copy -/

/-- Rows `512 p …` of slot `s` of the ring buffer. -/
theorem part_inb (s p : Fin 4) : ∀ a, (![s.val, 512 * p.val, 0] : Fin 3 → ℕ) a + S1x512x1024.size a ≤ S4x2048x1024.size a := by
  have := s.isLt; have := p.isLt
  intro a; fin_cases a <;> simp [S1x512x1024, S4x2048x1024] <;> omega

/-- Rows `2048 j + 512 p …` of the matrix. -/
theorem row_inb (j : Fin 16) (p : Fin 4) : ∀ a, (![2048 * j.val + 512 * p.val, 0] : Fin 2 → ℕ) a + S512x1024.size a ≤ S32768x1024.size a := by
  have := j.isLt; have := p.isLt
  intro a; fin_cases a <;> simp [S512x1024, S32768x1024] <;> omega

theorem slot_inb (s : Fin 4) : ∀ a, (![s.val, 0, 0] : Fin 3 → ℕ) a + S1x2048x1024.size a ≤ S4x2048x1024.size a := by
  have := s.isLt
  intro a; fin_cases a <;> simp [S1x2048x1024, S4x2048x1024] <;> omega

theorem cell_inb (s : Fin 4) : ∀ a, (![s.val] : Fin 1 → ℕ) a + S1.size a ≤ S4.size a := by
  have := s.isLt
  intro a; fin_cases a; simp [S1, S4]; omega

/-- The elements of one quarter of a slot. -/
def partSet (s p : Fin 4) : Finset S4x2048x1024.Idx := (Rect.unit (s := S4x2048x1024) ![s.val, 512 * p.val, 0] S1x512x1024.size (part_inb s p)).set

/-- The elements of a slot. -/
def slotSet (s : Fin 4) : Finset S4x2048x1024.Idx := (Rect.unit (s := S4x2048x1024) ![s.val, 0, 0] S1x2048x1024.size (slot_inb s)).set

/-- The elements of a quarter of a chunk of the matrix. -/
def rowSet (j : Fin 16) (p : Fin 4) : Finset S32768x1024.Idx := (Rect.unit (s := S32768x1024) ![2048 * j.val + 512 * p.val, 0] S512x1024.size (row_inb j p)).set

theorem mem_partSet {s p : Fin 4} {i : S4x2048x1024.Idx} :
    i ∈ partSet s p ↔ (i 0).val = s.val ∧ 512 * p.val ≤ (i 1).val ∧ (i 1).val < 512 * p.val + 512 := by
  rw [partSet, Rect.mem_set_unit]
  have h2 := (i 2).isLt
  constructor
  · intro h
    have h0 := h 0; have h1 := h 1
    simp [S1x512x1024] at h0 h1
    omega
  · rintro ⟨h0, h1, h1'⟩ a
    fin_cases a
    · simp [S1x512x1024]; omega
    · simp [S1x512x1024]; omega
    · simp [S1x512x1024]; simpa [S4x2048x1024] using h2

theorem mem_slotSet {s : Fin 4} {i : S4x2048x1024.Idx} : i ∈ slotSet s ↔ (i 0).val = s.val := by
  rw [slotSet, Rect.mem_set_unit]
  have h1 := (i 1).isLt; have h2 := (i 2).isLt
  constructor
  · intro h
    have h0 := h 0
    simp [S1x2048x1024] at h0
    omega
  · intro h0 a
    fin_cases a
    · simp [S1x2048x1024]; omega
    · simp [S1x2048x1024]; simpa [S4x2048x1024] using h1
    · simp [S1x2048x1024]; simpa [S4x2048x1024] using h2

theorem mem_rowSet {j : Fin 16} {p : Fin 4} {i : S32768x1024.Idx} :
    i ∈ rowSet j p ↔ 2048 * j.val + 512 * p.val ≤ (i 0).val ∧ (i 0).val < 2048 * j.val + 512 * p.val + 512 := by
  rw [rowSet, Rect.mem_set_unit]
  have h1 := (i 1).isLt
  constructor
  · intro h
    have h0 := h 0
    simp [S512x1024] at h0
    omega
  · rintro ⟨h0, h0'⟩ a
    fin_cases a
    · simp [S512x1024]; omega
    · simp [S512x1024]; simpa [S32768x1024] using h1

theorem partSet_disjoint (s : Fin 4) (p p' : Fin 4) (h : p ≠ p') : Disjoint (partSet s p) (partSet s p') := by
  rw [Finset.disjoint_left]
  intro i hi hi'
  rw [mem_partSet] at hi hi'
  exact h (Fin.ext (by omega))

theorem partSet_cover (s : Fin 4) : Finset.univ.biUnion (partSet s) = slotSet s := by
  ext i
  simp only [Finset.mem_biUnion, Finset.mem_univ, true_and, mem_partSet, mem_slotSet]
  have h1 : (i 1).val < 2048 := (i 1).isLt
  constructor
  · rintro ⟨p, h, -⟩; exact h
  · intro h; exact ⟨⟨(i 1).val / 512, by omega⟩, h, by simp only; omega, by simp only; omega⟩

theorem slotSet_disjoint (s s' : Fin 4) (h : s ≠ s') : Disjoint (slotSet s) (slotSet s') := by
  rw [Finset.disjoint_left]
  intro i hi hi'
  rw [mem_slotSet] at hi hi'
  exact h (Fin.ext (by omega))

theorem slotSet_cover : Finset.univ.biUnion slotSet = Finset.univ := by
  ext i
  simp only [Finset.mem_biUnion, Finset.mem_univ, true_and, mem_slotSet, iff_true]
  exact ⟨⟨(i 0).val, (i 0).isLt⟩, rfl⟩

theorem rowSet_disjoint (b b' : Fin 16 × Fin 4) (h : b ≠ b') : Disjoint (rowSet b.1 b.2) (rowSet b'.1 b'.2) := by
  rw [Finset.disjoint_left]
  intro i hi hi'
  rw [mem_rowSet] at hi hi'
  have := b.2.isLt; have := b'.2.isLt
  exact h (Prod.ext (Fin.ext (by omega)) (Fin.ext (by omega)))

theorem rowSet_cover : Finset.univ.biUnion (fun b : Fin 16 × Fin 4 => rowSet b.1 b.2) = Finset.univ := by
  ext i
  simp only [Finset.mem_biUnion, Finset.mem_univ, true_and, mem_rowSet, iff_true]
  have h0 : (i 0).val < 32768 := (i 0).isLt
  exact ⟨(⟨(i 0).val / 2048, by omega⟩, ⟨(i 0).val % 2048 / 512, by omega⟩), by simp only; omega, by simp only; omega⟩

/-! ## The memrefs and cells -/

/-- A quarter of a slot, as a copy's destination names it. -/
abbrev pbufAt (off : Fin 3 → ℕ) (inb : ∀ a, off a + S1x512x1024.size a ≤ S4x2048x1024.size a) : Memref sig .tc .vmem S512x1024 .f32 :=
  ((Memref.whole cc1_scratch0 : Memref sig .tc .vmem S4x2048x1024 .f32).slice (Rect.unit (s := S4x2048x1024) off S1x512x1024.size inb) (fun _ => rfl)).squeeze S512x1024 squeezes_S1x512x1024_S512x1024

/-- A quarter of a chunk of the matrix, as a copy's source names it. -/
abbrev qrowAt (off : Fin 2 → ℕ) (inb : ∀ a, off a + S512x1024.size a ≤ S32768x1024.size a) : Memref sig .tc .hbm S512x1024 .f32 :=
  (Memref.whole main_arg1 : Memref sig .tc .hbm S32768x1024 .f32).slice (Rect.unit (s := S32768x1024) off S512x1024.size inb) (fun _ => rfl)

/-- The semaphore a slot's copies complete on, as the program names it. -/
abbrev semAt (off : Fin 1 → ℕ) (inb : ∀ a, off a + S1.size a ≤ S4.size a) : DmaSem sig :=
  ((cc1_scratch3.slice (Rect.unit (s := S4) off S1.size inb)).squeeze S_ squeezes_S1_S_).sem

/-- The semaphore of slot `s`. -/
abbrev slotCell (s : Fin 4) : DmaSem sig := semAt ![s.val] (cell_inb s)

theorem pbuf_set (s p : Fin 4) : (pbufAt ![s.val, 512 * p.val, 0] (part_inb s p)).view.set = partSet s p := by
  show (((Memref.whole cc1_scratch0).view.slice _).reshape _ _).set = _
  rw [View.set_reshape, View.set_slice]
  exact Finset.map_refl

theorem qrow_set (j : Fin 16) (p : Fin 4) : (qrowAt ![2048 * j.val + 512 * p.val, 0] (row_inb j p)).view.set = rowSet j p := by
  show ((Memref.whole main_arg1).view.slice _).set = _
  rw [View.set_slice]
  exact Finset.map_refl

/-! ## What the ring buffer holds after a chunk's copies -/

/-- The matrix held on a core. -/
abbrev QLoc (c : Dev nD) : Loc nD τ sig := (c : Thread nD τ).loc main_arg1
/-- The ring buffer of a core. -/
abbrev RLoc (c : Dev nD) : Loc nD τ sig := (c : Thread nD τ).loc cc1_scratch0

/-- Chunk `j` of the matrix `Q`, laid out over every slot. -/
def chunkBuf (Q : S32768x1024.Idx → Elt F .f32) (j : Fin 16) : S4x2048x1024.Idx → Elt F .f32 :=
  fun x => Q (ix2 (⟨2048 * j.val + (x 1).val, by have := j.isLt; have h : (x 1).val < 2048 := (x 1).isLt; omega⟩ : Fin 32768) (x 2 : Fin 1024))

/-- A finished copy leaves its quarter of the slot at its quarter of the chunk. -/
theorem landed_eq (c : Dev nD) (Q : Buf (Elt F) (QLoc c)) (s p : Fin 4) (j : Fin 16) (f : Buf (Elt F) (RLoc c))
    (i : S4x2048x1024.Idx) (hi : i ∈ partSet s p) :
    (pbufAt ![s.val, 512 * p.val, 0] (part_inb s p)).view.write (Elt F) f
      (ReadAs.same.apply ((qrowAt ![2048 * j.val + 512 * p.val, 0] (row_inb j p)).view.read (Elt F) Q)) Finset.univ i = chunkBuf Q j i := by
  rw [← pbuf_set] at hi
  obtain ⟨y, -, rfl⟩ := Finset.mem_map.mp hi
  rw [View.write_emb_of_mem (h := Finset.mem_univ y)]
  obtain ⟨a, b, rfl⟩ : ∃ (a : Fin 512) (b : Fin 1024), y = ix2 a b := ⟨y 0, y 1, funext fun k => by fin_cases k <;> rfl⟩
  have he : (pbufAt ![s.val, 512 * p.val, 0] (part_inb s p)).view.emb (ix2 a b)
      = (Rect.unit (s := S4x2048x1024) ![s.val, 512 * p.val, 0] S1x512x1024.size (part_inb s p)).emb (ix3 (0 : Fin 1) a b) := by
    show (Rect.unit (s := S4x2048x1024) ![s.val, 512 * p.val, 0] S1x512x1024.size (part_inb s p)).emb (Shape.reshapeEquiv _ (ix2 a b)) = _
    exact congrArg _ (reshapeEquiv_ix2_1ab _ a b)
  rw [he]
  unfold chunkBuf
  show Q _ = Q _
  congr 1
  funext k
  fin_cases k
  · apply Fin.ext
    show 2048 * j.val + 512 * p.val + 1 * a.val = 2048 * j.val + (512 * p.val + 1 * a.val)
    omega
  · apply Fin.ext
    show 0 + 1 * b.val = 0 + 1 * b.val
    rfl

/-! ## What a copy hands back -/

/-- The quarter of the slot, holding its quarter of the chunk, and the quarter of the chunk itself. -/
def D (c : Dev nD) (Q : Buf (Elt F) (QLoc c)) (s : Fin 4) (j : Fin 16) (p : Fin 4) : sProp 𝕄 :=
  iprop((RLoc c ↦[partSet s p]{fullShare} chunkBuf Q j) ∗ (QLoc c ↦[rowSet j p]{fullShare} Q))

instance D_storable (c : Dev nD) (Q : Buf (Elt F) (QLoc c)) (s : Fin 4) (j : Fin 16) (p : Fin 4) :
    Storable (upEmb : UEmb _ 𝕄) (D c Q s j p) := by
  unfold D; infer_instance

/-- One copy's credit. -/
abbrev N : ℕ := (pbufAt ![0, 0, 0] (part_inb 0 0)).view.dmaCredit

/-- A copy's ends, in flight on slot `s`'s semaphore: `n` issued, `u` of their units taken. -/
abbrev InFlight (c : Dev nD) (Q : Buf (Elt F) (QLoc c)) (s : Fin 4) (j : Fin 16) (n u : ℕ) : sProp 𝕄 :=
  Transfers.Batch (countersEmb (U := Pipeline.UD sig nD τ)) (c : Thread nD τ) (.dma (slotCell s)) () N (D c Q s j) n u

theorem ret_bind {E : Type → Type} {α β : Type} (a : α) (k : α → Prog E β) : (Prog.ret a).bind k = k a := rfl

/-- Issue the copy of quarter `p` of chunk `j` into slot `s`. -/
theorem wp_issue (c : Dev nD) (Q : Buf (Elt F) (QLoc c)) (s : Fin 4) (j : Fin 16) (p : Fin 4)
    {ob : Fin 3 → ℕ} (hob : ob = ![s.val, 512 * p.val, 0]) {inbb : ∀ a, ob a + S1x512x1024.size a ≤ S4x2048x1024.size a}
    {oq : Fin 2 → ℕ} (hoq : oq = ![2048 * j.val + 512 * p.val, 0]) {inbq : ∀ a, oq a + S512x1024.size a ≤ S32768x1024.size a}
    {os : Fin 1 → ℕ} (hos : os = ![s.val]) {inbs : ∀ a, os a + S1.size a ≤ S4.size a}
    {h1 : (qrowAt oq inbq).view.WordExact} {h2 : (pbufAt ob inbb).view.WordExact}
    {h3 : DmaTarget.Typed (nD := nD) (τ := τ) (p := .tc) .hbm (.dma (semAt os inbs)) (.here (pbufAt ob inbb))}
    {α : Type} {k : PUnit → Prog (TpuEff nD τ sig (Elt F) Λ₀ .tc) α} {Φ : α → sProp 𝕄} {f : Buf (Elt F) (RLoc c)} :
    iprop((QLoc c ↦[rowSet j p]{fullShare} Q) ∗ (RLoc c ↦[partSet s p]{fullShare} f) ∗ InFlight c Q s j p.val 0)
      ⊢ iprop((InFlight c Q s j (p.val + 1) 0 -∗ wp frame (wpE defs₀ Variants.none (c : Thread nD τ) none) Set.univ (k ⟨⟩) Φ)
          -∗ wp frame (wpE defs₀ Variants.none (c : Thread nD τ) none) Set.univ
              (.op (.enqueueDma (qrowAt oq inbq) (.here (pbufAt ob inbb)) (.dma (semAt os inbs)) h1 h2 h3) k) Φ) := by
  subst hob hoq hos
  have h := Transfers.wp_dmaBatch (countersEmb (U := Pipeline.UD sig nD τ)) Variants.none (c : Thread nD τ) none (defs := defs₀)
    (src := qrowAt _ inbq) (dst := pbufAt _ inbb) (via := ReadAs.same) (sm := .dma (slotCell s)) (hsrc := h1) (hdst := h2) (hsem := h3) (k := k) (Q := Φ) (q := fullShare) (fs := Q)
    (Sd := partSet s p) (fd := f) (D := D c Q s j) (j := p.val) (u := 0) () N rfl (pbuf_set s p).subset p.isLt (Nat.zero_le _) (by
      unfold D
      rw [qrow_set]
      exact sep_mono (Entails.of_eq (pointsTo_congr fun i hi => landed_eq c Q s p j f i hi)) .rfl)
  rw [qrow_set] at h
  exact h

theorem N_pos : 0 < N := by
  show 0 < Ref.dmaCredit cc1_scratch0 S512x1024 .f32
  decide +kernel

/-- One of a chunk's first three waits: its units are taken, nothing comes back yet. -/
theorem wp_wait (c : Dev nD) (Q : Buf (Elt F) (QLoc c)) (s : Fin 4) (j : Fin 16) (r : ℕ) (hr : r < 3)
    {ob : Fin 3 → ℕ} {inbb : ∀ a, ob a + S1x512x1024.size a ≤ S4x2048x1024.size a}
    {oq : Fin 2 → ℕ} {inbq : ∀ a, oq a + S512x1024.size a ≤ S32768x1024.size a}
    {os : Fin 1 → ℕ} (hos : os = ![s.val]) {inbs : ∀ a, os a + S1.size a ≤ S4.size a}
    {h1 : (qrowAt oq inbq).view.WordExact} {h2 : (pbufAt ob inbb).view.WordExact}
    {α : Type} {k : PUnit → Prog (TpuEff nD τ sig (Elt F) Λ₀ .tc) α} {Φ : α → sProp 𝕄} {W : Waits sig Unit} :
    iprop(InFlight c Q s j 4 (r * N) ∗ owes (c : Thread nD τ) 0 W)
      ⊢ iprop((iprop(InFlight c Q s j 4 ((r + 1) * N) ∗ owes (c : Thread nD τ) 0 (insert (SemLoc.dma (slotCell s), ()) W)) -∗ wp frame (wpE defs₀ Variants.none (c : Thread nD τ) none) Set.univ (k ⟨⟩) Φ)
          -∗ wp frame (wpE defs₀ Variants.none (c : Thread nD τ) none) Set.univ
              (.op (.waitDma2 (semAt os inbs) (qrowAt oq inbq) (pbufAt ob inbb) h1 h2) k) Φ) := by
  subst hos
  have hN := N_pos
  rw [Nat.succ_mul]
  exact Transfers.wp_waitBatch (countersEmb (U := Pipeline.UD sig nD τ)) Variants.none (c : Thread nD τ) none (defs := defs₀)
    (srcw := qrowAt oq inbq) (dstw := pbufAt ob inbb) () (N := N) rfl (by interval_cases r <;> omega)

/-- The fourth wait: every quarter comes back, at the chunk, and the semaphore is at zero again. -/
theorem wp_waitLast (c : Dev nD) (Q : Buf (Elt F) (QLoc c)) (s : Fin 4) (j : Fin 16)
    {ob : Fin 3 → ℕ} {inbb : ∀ a, ob a + S1x512x1024.size a ≤ S4x2048x1024.size a}
    {oq : Fin 2 → ℕ} {inbq : ∀ a, oq a + S512x1024.size a ≤ S32768x1024.size a}
    {os : Fin 1 → ℕ} (hos : os = ![s.val]) {inbs : ∀ a, os a + S1.size a ≤ S4.size a}
    {h1 : (qrowAt oq inbq).view.WordExact} {h2 : (pbufAt ob inbb).view.WordExact}
    {α : Type} {k : PUnit → Prog (TpuEff nD τ sig (Elt F) Λ₀ .tc) α} {Φ : α → sProp 𝕄} {W : Waits sig Unit} :
    iprop(InFlight c Q s j 4 (3 * N) ∗ owes (c : Thread nD τ) 0 W)
      ⊢ iprop((iprop(bigSep Finset.univ (D c Q s j) ∗ semVal ((c : Thread nD τ), .dma (slotCell s)) 0 ∗ owes (c : Thread nD τ) 0 (insert (SemLoc.dma (slotCell s), ()) W)) -∗ wp frame (wpE defs₀ Variants.none (c : Thread nD τ) none) Set.univ (k ⟨⟩) Φ)
          -∗ wp frame (wpE defs₀ Variants.none (c : Thread nD τ) none) Set.univ
              (.op (.waitDma2 (semAt os inbs) (qrowAt oq inbq) (pbufAt ob inbb) h1 h2) k) Φ) := by
  subst hos
  exact Transfers.wp_waitBatchLast (countersEmb (U := Pipeline.UD sig nD τ)) Variants.none (c : Thread nD τ) none (defs := defs₀)
    (srcw := qrowAt oq inbq) (dstw := pbufAt ob inbb) () (N := N) rfl N_pos (by omega)

/-! ## Slots and chunks, whole and in quarters -/

/-- The chunk a slot holds in round `n`. -/
def ch (s n : Fin 4) : Fin 16 := ⟨4 * n.val + s.val, by have := s.isLt; have := n.isLt; omega⟩

/-- Chunk `j` of the matrix at home, in its quarters. -/
abbrev Home (c : Dev nD) (Q : Buf (Elt F) (QLoc c)) (j : Fin 16) : sProp 𝕄 :=
  bigSep Finset.univ fun p : Fin 4 => (QLoc c ↦[rowSet j p]{fullShare} Q)

/-- A slot's four chunks at home. -/
abbrev Homes (c : Dev nD) (Q : Buf (Elt F) (QLoc c)) (s : Fin 4) : sProp 𝕄 :=
  bigSep Finset.univ fun n : Fin 4 => Home c Q (ch s n)

/-- A slot's chunks at home but for round `n`'s. -/
abbrev HomesBut (c : Dev nD) (Q : Buf (Elt F) (QLoc c)) (s n : Fin 4) : sProp 𝕄 :=
  bigSep (Finset.univ.erase n) fun n : Fin 4 => Home c Q (ch s n)

/-- The whole matrix is the four slots' chunks. -/
theorem homes_eq (c : Dev nD) (Q : Buf (Elt F) (QLoc c)) :
    (QLoc c ↦{fullShare} Q : sProp 𝕄) = bigSep Finset.univ (Homes c Q) := by
  rw [Ring.pointsTo_blocks (fun b : (Fin 4 × Fin 4) × Fin 4 => rowSet (ch b.1.1 b.1.2) b.2) (fun b b' h => rowSet_disjoint (ch b.1.1 b.1.2, b.2) (ch b'.1.1 b'.1.2, b'.2) (by
      intro e
      have e1 := congrArg (fun x => x.1.val) e
      have e2 := congrArg Prod.snd e
      simp only [ch] at e1 e2
      have := b.1.1.isLt; have := b'.1.1.isLt
      exact h (Prod.ext (Prod.ext (Fin.ext (by omega)) (Fin.ext (by omega))) e2))) (by
      rw [← rowSet_cover]
      ext i
      simp only [Finset.mem_biUnion, Finset.mem_univ, true_and]
      constructor
      · rintro ⟨b, h⟩; exact ⟨(ch b.1.1 b.1.2, b.2), h⟩
      · rintro ⟨b, h⟩
        have := b.1.isLt
        refine ⟨((⟨b.1.val % 4, by omega⟩, ⟨b.1.val / 4, by omega⟩), b.2), ?_⟩
        have e : ch ⟨b.1.val % 4, by omega⟩ ⟨b.1.val / 4, by omega⟩ = b.1 := Fin.ext (by simp only [ch]; omega)
        simp only [e]; exact h) Q]
  rw [bigSep_univ_prod, bigSep_univ_prod]

/-- One slot's chunks, one of them aside. -/
theorem homes_hole (c : Dev nD) (Q : Buf (Elt F) (QLoc c)) (s n : Fin 4) :
    Homes c Q s = iprop(Home c Q (ch s n) ∗ HomesBut c Q s n) := by
  unfold Homes HomesBut
  rw [← Finset.insert_erase (Finset.mem_univ n), bigSep_insert (Finset.notMem_erase n _), Finset.insert_erase (Finset.mem_univ n)]
  rfl

/-- A slot splits into its quarters. -/
theorem slot_split (c : Dev nD) (s : Fin 4) (f : Buf (Elt F) (RLoc c)) :
    (RLoc c ↦[slotSet s]{fullShare} f : sProp 𝕄) = bigSep Finset.univ fun p : Fin 4 => (RLoc c ↦[partSet s p]{fullShare} f) :=
  Ring.pointsTo_sub_blocks (ℓ := RLoc c) (fun p => (partSet s p : Finset (Idx (RLoc c)))) (fun p p' h => partSet_disjoint s p p' h) (slotSet s)
    (partSet_cover s) f

/-- What a chunk's copies hand back is the slot at the chunk and the chunk home. -/
theorem D_join (c : Dev nD) (Q : Buf (Elt F) (QLoc c)) (s : Fin 4) (j : Fin 16) :
    bigSep Finset.univ (D c Q s j) = iprop((RLoc c ↦[slotSet s]{fullShare} chunkBuf Q j) ∗ Home c Q j) := by
  rw [slot_split]
  unfold D
  rw [bigSep_sep']

/-! ## The states of a slot -/

/-- Nothing in flight to the slot, its elements at `f`; its four chunks home. -/
def Ready (c : Dev nD) (Q : Buf (Elt F) (QLoc c)) (s : Fin 4) (f : Buf (Elt F) (RLoc c)) : sProp 𝕄 :=
  iprop(semVal ((c : Thread nD τ), .dma (slotCell s)) 0 ∗ (RLoc c ↦[slotSet s]{fullShare} f) ∗ Homes c Q s)

/-- The first `k` copies of round `n` issued, the other quarters still here. -/
def Filling (c : Dev nD) (Q : Buf (Elt F) (QLoc c)) (s n : Fin 4) (k : ℕ) (f : Buf (Elt F) (RLoc c)) : sProp 𝕄 :=
  iprop(InFlight c Q s (ch s n) k 0 ∗ (bigSep (Finset.univ.filter fun p : Fin 4 => k ≤ p.val) fun p => iprop((QLoc c ↦[rowSet (ch s n) p]{fullShare} Q) ∗ (RLoc c ↦[partSet s p]{fullShare} f)))
    ∗ HomesBut c Q s n)

/-- Round `n` in flight, `r` of its four waits done. -/
def Draining (c : Dev nD) (Q : Buf (Elt F) (QLoc c)) (s n : Fin 4) (r : ℕ) : sProp 𝕄 :=
  iprop(InFlight c Q s (ch s n) 4 (r * N) ∗ HomesBut c Q s n)

/-- A slot before round `n` is waited for: in flight, or (after the last) nothing in flight. -/
def Lane (c : Dev nD) (Q : Buf (Elt F) (QLoc c)) (s : Fin 4) (n : ℕ) : sProp 𝕄 :=
  if h : n < 4 then Draining c Q s ⟨n, h⟩ 0 else iprop(∃ f, Ready c Q s f)

/-- A ready slot begins to fill. -/
theorem fill_begin (c : Dev nD) (Q : Buf (Elt F) (QLoc c)) (s n : Fin 4) (f : Buf (Elt F) (RLoc c)) :
    Ready c Q s f ⊢ iprop(|={Set.univ}=> Filling c Q s n 0 f) := by
  unfold Ready Filling
  rw [homes_hole c Q s n, slot_split]
  iintro ⟨Hv, HR, HQ, Hrest⟩
  imod (Transfers.batch_alloc' (Lvl := ℕ) (countersEmb (U := Pipeline.UD sig nD τ)) (c : Thread nD τ) () N (D c Q s (ch s n)) (sm := .dma (slotCell s)) (E := Set.univ)) $$ Hv with HB
  imodintro
  isplitl [HB]; · iexact HB
  isplitr [Hrest]
  · rw [show (Finset.univ.filter fun p : Fin 4 => 0 ≤ p.val) = Finset.univ from Finset.filter_true_of_mem fun _ _ => Nat.zero_le _, bigSep_sep']
    isplitl [HQ]; · iexact HQ
    iexact HR
  iexact Hrest

/-- All four copies issued: the round is in flight. -/
theorem fill_end (c : Dev nD) (Q : Buf (Elt F) (QLoc c)) (s n : Fin 4) (f : Buf (Elt F) (RLoc c)) :
    Filling c Q s n 4 f ⊢ Draining c Q s n 0 := by
  unfold Filling Draining
  rw [Nat.zero_mul]
  iintro ⟨HB, -, Hrest⟩
  isplitl [HB]; · iexact HB
  iexact Hrest

/-- Issue quarter `p` of round `n`. -/
theorem wp_fill (c : Dev nD) (Q : Buf (Elt F) (QLoc c)) (s n p : Fin 4) {k0 : ℕ} (hk0 : k0 = p.val) {f : Buf (Elt F) (RLoc c)}
    {ob : Fin 3 → ℕ} (hob : ob = ![s.val, 512 * p.val, 0]) {inbb : ∀ a, ob a + S1x512x1024.size a ≤ S4x2048x1024.size a}
    {oq : Fin 2 → ℕ} (hoq : oq = ![2048 * (ch s n).val + 512 * p.val, 0]) {inbq : ∀ a, oq a + S512x1024.size a ≤ S32768x1024.size a}
    {os : Fin 1 → ℕ} (hos : os = ![s.val]) {inbs : ∀ a, os a + S1.size a ≤ S4.size a}
    {h1 : (qrowAt oq inbq).view.WordExact} {h2 : (pbufAt ob inbb).view.WordExact}
    {h3 : DmaTarget.Typed (nD := nD) (τ := τ) (p := .tc) .hbm (.dma (semAt os inbs)) (.here (pbufAt ob inbb))}
    {α : Type} {k : PUnit → Prog (TpuEff nD τ sig (Elt F) Λ₀ .tc) α} {Φ : α → sProp 𝕄} :
    Filling c Q s n k0 f
      ⊢ iprop((Filling c Q s n (k0 + 1) f -∗ wp frame (wpE defs₀ Variants.none (c : Thread nD τ) none) Set.univ (k ⟨⟩) Φ)
          -∗ wp frame (wpE defs₀ Variants.none (c : Thread nD τ) none) Set.univ
              (.op (.enqueueDma (qrowAt oq inbq) (.here (pbufAt ob inbb)) (.dma (semAt os inbs)) h1 h2 h3) k) Φ) := by
  subst hk0
  unfold Filling
  have hsplit : (bigSep (Finset.univ.filter fun p' : Fin 4 => p.val ≤ p'.val) fun p => iprop((QLoc c ↦[rowSet (ch s n) p]{fullShare} Q) ∗ (RLoc c ↦[partSet s p]{fullShare} f)) : sProp 𝕄)
      = iprop(((QLoc c ↦[rowSet (ch s n) p]{fullShare} Q) ∗ (RLoc c ↦[partSet s p]{fullShare} f))
        ∗ bigSep (Finset.univ.filter fun p' : Fin 4 => p.val + 1 ≤ p'.val) fun p => iprop((QLoc c ↦[rowSet (ch s n) p]{fullShare} Q) ∗ (RLoc c ↦[partSet s p]{fullShare} f))) := by
    rw [show (Finset.univ.filter fun p' : Fin 4 => p.val ≤ p'.val) = insert p (Finset.univ.filter fun p' : Fin 4 => p.val + 1 ≤ p'.val) from by
      ext x; simp only [Finset.mem_filter, Finset.mem_univ, true_and, Finset.mem_insert, Fin.ext_iff]; omega,
      bigSep_insert (by simp)]
    rfl
  rw [hsplit]
  iintro ⟨HB, ⟨⟨HQ, HR⟩, Hp⟩, Hrest⟩ Hk
  iapply (wp_issue c Q s (ch s n) p hob hoq hos) $$ [HB HQ HR]
  · isplitl [HQ]; · iexact HQ
    isplitl [HR]; · iexact HR
    iexact HB
  iintro HB
  iapply Hk
  isplitl [HB]; · iexact HB
  isplitl [Hp]; · iexact Hp
  iexact Hrest

/-- One of a round's first three waits. -/
theorem wp_drain (c : Dev nD) (Q : Buf (Elt F) (QLoc c)) (s n : Fin 4) (r : ℕ) (hr : r < 3)
    {ob : Fin 3 → ℕ} {inbb : ∀ a, ob a + S1x512x1024.size a ≤ S4x2048x1024.size a}
    {oq : Fin 2 → ℕ} {inbq : ∀ a, oq a + S512x1024.size a ≤ S32768x1024.size a}
    {os : Fin 1 → ℕ} (hos : os = ![s.val]) {inbs : ∀ a, os a + S1.size a ≤ S4.size a}
    {h1 : (qrowAt oq inbq).view.WordExact} {h2 : (pbufAt ob inbb).view.WordExact}
    {α : Type} {k : PUnit → Prog (TpuEff nD τ sig (Elt F) Λ₀ .tc) α} {Φ : α → sProp 𝕄} :
    iprop(Draining c Q s n r ∗ ∃ W, owes (c : Thread nD τ) 0 W)
      ⊢ iprop((iprop(Draining c Q s n (r + 1) ∗ ∃ W, owes (c : Thread nD τ) 0 W) -∗ wp frame (wpE defs₀ Variants.none (c : Thread nD τ) none) Set.univ (k ⟨⟩) Φ)
          -∗ wp frame (wpE defs₀ Variants.none (c : Thread nD τ) none) Set.univ
              (.op (.waitDma2 (semAt os inbs) (qrowAt oq inbq) (pbufAt ob inbb) h1 h2) k) Φ) := by
  unfold Draining
  iintro ⟨⟨HB, Hrest⟩, ⟨%W, HO⟩⟩ Hk
  iapply (wp_wait c Q s (ch s n) r hr hos) $$ [HB HO]
  · isplitl [HB]; · iexact HB
    iexact HO
  iintro ⟨HB, HO⟩
  iapply Hk
  isplitl [HB Hrest]
  · isplitl [HB]; · iexact HB
    iexact Hrest
  iexists _; iexact HO

/-- The round's last wait: the slot holds the round's chunk. -/
theorem wp_drainLast (c : Dev nD) (Q : Buf (Elt F) (QLoc c)) (s n : Fin 4)
    {ob : Fin 3 → ℕ} {inbb : ∀ a, ob a + S1x512x1024.size a ≤ S4x2048x1024.size a}
    {oq : Fin 2 → ℕ} {inbq : ∀ a, oq a + S512x1024.size a ≤ S32768x1024.size a}
    {os : Fin 1 → ℕ} (hos : os = ![s.val]) {inbs : ∀ a, os a + S1.size a ≤ S4.size a}
    {h1 : (qrowAt oq inbq).view.WordExact} {h2 : (pbufAt ob inbb).view.WordExact}
    {α : Type} {k : PUnit → Prog (TpuEff nD τ sig (Elt F) Λ₀ .tc) α} {Φ : α → sProp 𝕄} :
    iprop(Draining c Q s n 3 ∗ ∃ W, owes (c : Thread nD τ) 0 W)
      ⊢ iprop((iprop(Ready c Q s (chunkBuf Q (ch s n)) ∗ ∃ W, owes (c : Thread nD τ) 0 W) -∗ wp frame (wpE defs₀ Variants.none (c : Thread nD τ) none) Set.univ (k ⟨⟩) Φ)
          -∗ wp frame (wpE defs₀ Variants.none (c : Thread nD τ) none) Set.univ
              (.op (.waitDma2 (semAt os inbs) (qrowAt oq inbq) (pbufAt ob inbb) h1 h2) k) Φ) := by
  unfold Draining Ready
  rw [homes_hole c Q s n]
  iintro ⟨⟨HB, Hrest⟩, ⟨%W, HO⟩⟩ Hk
  iapply (wp_waitLast c Q s (ch s n) hos) $$ [HB HO]
  · isplitl [HB]; · iexact HB
    iexact HO
  rw [D_join]
  iintro ⟨⟨HR, HQ⟩, Hv, HO⟩
  iapply Hk
  isplitr [HO]
  · isplitl [Hv]; · iexact Hv
    isplitl [HR]; · iexact HR
    isplitl [HQ]; · iexact HQ
    iexact Hrest
  iexists _; iexact HO

/-! ## Loads and stores of a memref held whole -/

/-- A vector load reads the held contents at its rectangle. -/
theorem wp_ownsLoad (c : Dev nD) {sp : CoreSpace} {sh : Shape} {e : EltTy} {m : Memref sig .tc sp sh e} {r : Rect sh} {hl : m.view.LoadsAt r.toLoadRect}
    {q : PosShare TreeShare} {X : sh.Idx → Elt F e} {α : Type} {k : (r.shape.Idx → Elt F e) → Prog (TpuEff nD τ sig (Elt F) Λ₀ .tc) α} {Φ : α → sProp 𝕄} :
    (owns (c : Thread nD τ) m q X : sProp 𝕄)
      ⊢ iprop((owns (c : Thread nD τ) m q X -∗ wp frame (wpE defs₀ Variants.none (c : Thread nD τ) none) Set.univ (k (fun x => X (r.emb x))) Φ)
        -∗ wp frame (wpE defs₀ Variants.none (c : Thread nD τ) none) Set.univ (.op (.load m r.toLoadRect hl) k) Φ) := by
  unfold owns
  iintro ⟨%f, %hf, H⟩ Hk
  subst hf
  have h := wp_load_rect (m := m) (r := r) (S := m.view.set) (f := f) (q := q) (hl := hl) (k := k) (Q := Φ) (defs := defs₀) Variants.none (c : Thread nD τ) none Set.univ (Γ := ∅) (View.set_slice_subset _ r)
  iapply h $$ H
  iintro H
  iapply Hk
  iexists f
  isplitr; · ipureintro; rfl
  iexact H

/-- A scalar load reads the held contents at its one position. -/
theorem wp_ownsWord (c : Dev nD) {sh : Shape} {e : EltTy} {m : Memref sig .tc .smem sh e} {r : Rect sh} {h1 : r.shape.numel = 1} {hp : e.packing = 1}
    {q : PosShare TreeShare} {X : sh.Idx → Elt F e} {α : Type} {k : Elt F e → Prog (TpuEff nD τ sig (Elt F) Λ₀ .tc) α} {Φ : α → sProp 𝕄} :
    (owns (c : Thread nD τ) m q X : sProp 𝕄)
      ⊢ iprop((owns (c : Thread nD τ) m q X -∗ wp frame (wpE defs₀ Variants.none (c : Thread nD τ) none) Set.univ (k (X (r.emb (Shape.Idx.first (h1.symm ▸ Nat.one_pos))))) Φ)
        -∗ wp frame (wpE defs₀ Variants.none (c : Thread nD τ) none) Set.univ (smemLoad m r h1 hp >>= k) Φ) := by
  unfold owns
  iintro ⟨%f, %hf, H⟩ Hk
  subst hf
  have h := wp_smemLoadElt (m := m) (r := r) (S := m.view.set) (f := f) (q := q) (hw := View.loads_smem_one hp h1) (x := Shape.Idx.first (h1.symm ▸ Nat.one_pos)) (k := k) (Q := Φ) (defs := defs₀) Variants.none (c : Thread nD τ) none Set.univ (Γ := ∅) (View.set_slice_subset _ r)
  iapply h $$ H
  iintro H
  iapply Hk
  iexists f
  isplitr; · ipureintro; rfl
  iexact H

/-- A store over a rectangle leaves the written values there and the rest as it was. -/
theorem wp_ownsStore (c : Dev nD) {sp : CoreSpace} {sh : Shape} {e : EltTy} {m : Memref sig .tc sp sh e} {r : Rect sh} {w : r.shape.Idx → Elt F e}
    {hx : (m.access r).Stores Finset.univ} {hm : Finset.univ = Finset.univ ∨ ∀ a, r.stride a = 1}
    {X : sh.Idx → Elt F e} (X' : sh.Idx → Elt F e) (hin : ∀ x, X' (r.emb x) = w x) (hout : ∀ i, i ∉ r.set → X' i = X i)
    {α : Type} {k : PUnit → Prog (TpuEff nD τ sig (Elt F) Λ₀ .tc) α} {Φ : α → sProp 𝕄} :
    (owns (c : Thread nD τ) m fullShare X : sProp 𝕄)
      ⊢ iprop((owns (c : Thread nD τ) m fullShare X' -∗ wp frame (wpE defs₀ Variants.none (c : Thread nD τ) none) Set.univ (k ⟨⟩) Φ)
        -∗ wp frame (wpE defs₀ Variants.none (c : Thread nD τ) none) Set.univ (.op (.store m r w Finset.univ hx hm) k) Φ) := by
  unfold owns
  iintro ⟨%f, %hf, H⟩ Hk
  subst hf
  have h := wp_store (m := m) (r := r) (S := m.view.set) (f := f) (w := w) (Mk := Finset.univ) (hx := hx) (hm := hm) (k := k) (Q := Φ) (defs := defs₀) Variants.none (c : Thread nD τ) none Set.univ (Γ := ∅) (View.set_slice_subset _ r)
  iapply h $$ H
  iintro H
  iapply Hk
  iexists ((m.access r).write (Elt F) f w Finset.univ)
  isplitr
  · ipureintro
    funext i
    by_cases hi : i ∈ r.set
    · rw [← Rect.map_emb_univ] at hi
      obtain ⟨x, -, rfl⟩ := Finset.mem_map.mp hi
      exact ((View.read_slice_write_emb (v := m.view) r f w (Finset.mem_univ x))).trans (hin x).symm
    · rw [hout i hi]
      exact View.read_slice_write_of_not_mem (v := m.view) r f w Finset.univ (by rwa [Rect.map_emb_univ])
  iexact H

/-- A scalar store into a one-element memref. -/
theorem wp_ownsSet1 (c : Dev nD) {e : EltTy} {m : Memref sig .tc .smem S1 e} {inb : ∀ a, (![0] : Fin 1 → ℕ) a + S1.size a ≤ S1.size a} {a : Elt F e}
    {hx : (m.access (Rect.unit (s := S1) ![0] S1.size inb)).Stores Finset.univ} {hm : (Finset.univ : Finset (Rect.unit (s := S1) ![0] S1.size inb).shape.Idx) = Finset.univ ∨ ∀ k, (Rect.unit (s := S1) ![0] S1.size inb).stride k = 1}
    {X : S1.Idx → Elt F e} {α : Type} {k : PUnit → Prog (TpuEff nD τ sig (Elt F) Λ₀ .tc) α} {Φ : α → sProp 𝕄} :
    (owns (c : Thread nD τ) m fullShare X : sProp 𝕄)
      ⊢ iprop((owns (c : Thread nD τ) m fullShare (fun _ => a) -∗ wp frame (wpE defs₀ Variants.none (c : Thread nD τ) none) Set.univ (k ⟨⟩) Φ)
        -∗ wp frame (wpE defs₀ Variants.none (c : Thread nD τ) none) Set.univ (.op (.store m (Rect.unit (s := S1) ![0] S1.size inb) (fun _ => a) Finset.univ hx hm) k) Φ) :=
  wp_ownsStore c (fun _ => a) (fun _ => rfl) (fun i hi => absurd (Rect.mem_set_unit.mpr fun b => by
    fin_cases b
    have h : (i 0).val < 1 := (i 0).isLt
    exact ⟨Nat.zero_le _, by show (i 0).val < 0 + 1; omega⟩) hi)

/-- The same for a memref of one row and one column. -/
theorem wp_ownsSet11 (c : Dev nD) {e : EltTy} {m : Memref sig .tc .smem S1x1 e} {inb : ∀ a, (![0, 0] : Fin 2 → ℕ) a + S1x1.size a ≤ S1x1.size a} {a : Elt F e}
    {hx : (m.access (Rect.unit (s := S1x1) ![0, 0] S1x1.size inb)).Stores Finset.univ} {hm : (Finset.univ : Finset (Rect.unit (s := S1x1) ![0, 0] S1x1.size inb).shape.Idx) = Finset.univ ∨ ∀ k, (Rect.unit (s := S1x1) ![0, 0] S1x1.size inb).stride k = 1}
    {X : S1x1.Idx → Elt F e} {α : Type} {k : PUnit → Prog (TpuEff nD τ sig (Elt F) Λ₀ .tc) α} {Φ : α → sProp 𝕄} :
    (owns (c : Thread nD τ) m fullShare X : sProp 𝕄)
      ⊢ iprop((owns (c : Thread nD τ) m fullShare (fun _ => a) -∗ wp frame (wpE defs₀ Variants.none (c : Thread nD τ) none) Set.univ (k ⟨⟩) Φ)
        -∗ wp frame (wpE defs₀ Variants.none (c : Thread nD τ) none) Set.univ (.op (.store m (Rect.unit (s := S1x1) ![0, 0] S1x1.size inb) (fun _ => a) Finset.univ hx hm) k) Φ) :=
  wp_ownsStore c (fun _ => a) (fun _ => rfl) (fun i hi => absurd (Rect.mem_set_unit.mpr fun b => by
    fin_cases b
    · have h : (i 0).val < 1 := (i 0).isLt
      exact ⟨Nat.zero_le _, by show (i 0).val < 0 + 1; omega⟩
    · have h : (i 1).val < 1 := (i 1).isLt
      exact ⟨Nat.zero_le _, by show (i 1).val < 0 + 1; omega⟩) hi)

end Cert.KernelIdeal.Hand
-- ==== Proof.Ideal.Body.lean ====
/-
  The streaming call's body at one grid point, piece by piece: the first point starts the four slots' copies; every
  point waits for its chunk, computes the chunk's logits, keeps the running maximum and its index, and starts the
  slot's next chunk if there is one.
-/
module

public import proofs.«01_k».proof.Proof.Ideal.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## The guards -/

/-- The grid point's number, as the body computes it. -/
abbrev pt (i : grid1.Coords) : BitVec 32 := BitVec.ofNat 32 (i 0).val

/-- The first point's guard. -/
abbrev isFirst (i : grid1.Coords) : BitVec 1 := Scalar.cmpi .ne (Scalar.extui (Scalar.cmpi .eq (pt i) 0#32) : BitVec 32) 0#32

theorem isFirst_iff (i : grid1.Coords) : isFirst i = 1#1 ↔ (i 0).val = 0 := by
  have h : ∀ n : Fin 16, (Scalar.cmpi .ne (Scalar.extui (Scalar.cmpi .eq (BitVec.ofNat 32 n.val) 0#32) : BitVec 32) 0#32 = 1#1) ↔ n.val = 0 := by decide +kernel
  exact h (i 0)

theorem refill_iff : ∀ i : grid1.Coords, k1_cond2 i = 1#1 ↔ (i 0).val < 12 := by decide +kernel

theorem isLast_iff : ∀ i : grid1.Coords, k1_cond3 i = 1#1 ↔ (i 0).val = 15 := by decide +kernel

/-! ## The body's pieces -/

/-- Round `i / 4` of slot `i % 4` is chunk `i`. -/
def sl (i : grid1.Coords) : Fin 4 := ⟨(i 0).val % 4, Nat.mod_lt _ (by decide)⟩
def rd (i : grid1.Coords) : Fin 4 := ⟨(i 0).val / 4, by have h : (i 0).val < 16 := (i 0).isLt; omega⟩

theorem ch_sl_rd (i : grid1.Coords) : (ch (sl i) (rd i)).val = (i 0).val := by
  simp only [ch, sl, rd]; omega

variable (arg1 : Memref sig .tc .smem S1x4 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x32768 .f32) (harg4 : arg4.IsWhole) (arg6 : Memref sig .tc .vmem S1x32768 .f32) (harg6 : arg6.IsWhole) (arg7 : Memref sig .tc .smem S1x1 .i32) (harg7 : arg7.IsWhole)

/-- The first point's start: the running maximum and its index set, the four slots' first chunks on their way. -/
theorem wp_start (c : Dev nD) (Q : Buf (Elt F) (QLoc c)) (i : grid1.Coords)
    {X9 : S1.Idx → Elt F .f32} {X10 : S1.Idx → Elt F .i32} {f0 f1 f2 f3 : Buf (Elt F) (RLoc c)} {α : Type} {k : Prog (TpuEff nD τ sig (Elt F) Λ₀ .tc) α} {Φ : α → sProp 𝕄} :
    iprop(owns (c : Thread nD τ) (Memref.whole cc1_scratch1) fullShare X9 ∗ owns (c : Thread nD τ) (Memref.whole cc1_scratch2) fullShare X10
        ∗ Ready c Q 0 f0 ∗ Ready c Q 1 f1 ∗ Ready c Q 2 f2 ∗ Ready c Q 3 f3
        ∗ ((owns (c : Thread nD τ) (Memref.whole cc1_scratch1) fullShare (fun _ => Scalar.ofBits .f32 0xFF800000#32) ∗ owns (c : Thread nD τ) (Memref.whole cc1_scratch2) fullShare (fun _ => (0#32 : BitVec 32))
          ∗ Draining c Q 0 0 0 ∗ Draining c Q 1 0 0 ∗ Draining c Q 2 0 0 ∗ Draining c Q 3 0 0) -∗ wp frame (wpE defs₀ Variants.none (c : Thread nD τ) none) Set.univ k Φ))
      ⊢ wp frame (wpE defs₀ Variants.none (c : Thread nD τ) none) Set.univ (do
          k1_part1 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3
          k1_part2 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3
          k1_part3 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3
          Prog.lift (.enqueueDma (qrowAt ![7168, 0] inb_S32768x1024_S512x1024_7168_0) (.here (pbufAt ![3, 1024, 0] inb_S4x2048x1024_S1x512x1024_3_1024_0)) (.dma (semAt ![3] inb_S4_S1_3)) (View.wordExact_bits rfl) ((View.wordExact_bits rfl).reshape _ _) ⟨Or.inl rfl, trivial⟩)
          Prog.lift (.enqueueDma (qrowAt ![7680, 0] inb_S32768x1024_S512x1024_7680_0) (.here (pbufAt ![3, 1536, 0] inb_S4x2048x1024_S1x512x1024_3_1536_0)) (.dma (semAt ![3] inb_S4_S1_3)) (View.wordExact_bits rfl) ((View.wordExact_bits rfl).reshape _ _) ⟨Or.inl rfl, trivial⟩)
          k) Φ := by
  iintro ⟨H9, H10, H0, H1, H2, H3, Hk⟩
  imod (fill_begin c Q 0 0 f0) $$ H0 with H0
  imod (fill_begin c Q 1 0 f1) $$ H1 with H1
  imod (fill_begin c Q 2 0 f2) $$ H2 with H2
  imod (fill_begin c Q 3 0 f3) $$ H3 with H3
  simp only [k1_part1_eq_skeleton, k1_part2_eq_skeleton, k1_part3_eq_skeleton]
  rw [wp_bind]
  unfold k1_part1_skel
  iapply (wp_ownsWord c) $$ H9
  iintro H9
  iapply (wp_ownsSet1 c) $$ H9
  iintro H9
  simp only [ret_bind]
  iapply (wp_ownsWord c) $$ H10
  iintro H10
  iapply (wp_ownsSet1 c) $$ H10
  iintro H10
  simp only [ret_bind]
  iapply (wp_fill c Q 0 0 0 (k0 := 0) rfl rfl rfl rfl) $$ H0
  iintro H0
  simp only [ret_bind]
  iapply (wp_fill c Q 0 0 1 (k0 := 1) rfl rfl rfl rfl) $$ H0
  iintro H0
  simp only [ret_bind]
  iapply (wp_fill c Q 0 0 2 (k0 := 2) rfl rfl rfl rfl) $$ H0
  iintro H0
  simp only [ret_bind]
  iapply (wp_fill c Q 0 0 3 (k0 := 3) rfl rfl rfl rfl) $$ H0
  iintro H0
  simp only [ret_bind]
  rw [wp_pure]
  imodintro
  rw [wp_bind]
  unfold k1_part2_skel
  iapply (wp_fill c Q 1 0 0 (k0 := 0) rfl rfl rfl rfl) $$ H1
  iintro H1
  simp only [ret_bind]
  iapply (wp_fill c Q 1 0 1 (k0 := 1) rfl rfl rfl rfl) $$ H1
  iintro H1
  simp only [ret_bind]
  iapply (wp_fill c Q 1 0 2 (k0 := 2) rfl rfl rfl rfl) $$ H1
  iintro H1
  simp only [ret_bind]
  iapply (wp_fill c Q 1 0 3 (k0 := 3) rfl rfl rfl rfl) $$ H1
  iintro H1
  simp only [ret_bind]
  iapply (wp_fill c Q 2 0 0 (k0 := 0) rfl rfl rfl rfl) $$ H2
  iintro H2
  simp only [ret_bind]
  rw [wp_pure]
  imodintro
  rw [wp_bind]
  unfold k1_part3_skel
  iapply (wp_fill c Q 2 0 1 (k0 := 1) rfl rfl rfl rfl) $$ H2
  iintro H2
  simp only [ret_bind]
  iapply (wp_fill c Q 2 0 2 (k0 := 2) rfl rfl rfl rfl) $$ H2
  iintro H2
  simp only [ret_bind]
  iapply (wp_fill c Q 2 0 3 (k0 := 3) rfl rfl rfl rfl) $$ H2
  iintro H2
  simp only [ret_bind]
  iapply (wp_fill c Q 3 0 0 (k0 := 0) rfl rfl rfl rfl) $$ H3
  iintro H3
  simp only [ret_bind]
  iapply (wp_fill c Q 3 0 1 (k0 := 1) rfl rfl rfl rfl) $$ H3
  iintro H3
  simp only [ret_bind]
  rw [wp_pure]
  imodintro
  iapply (wp_fill c Q 3 0 2 (k0 := 2) rfl rfl rfl rfl) $$ H3
  iintro H3
  simp only [ret_bind]
  iapply (wp_fill c Q 3 0 3 (k0 := 3) rfl rfl rfl rfl) $$ H3
  iintro H3
  simp only [ret_bind]
  iapply Hk
  ihave H0 := (fill_end c Q 0 0 f0) $$ H0
  ihave H1 := (fill_end c Q 1 0 f1) $$ H1
  ihave H2 := (fill_end c Q 2 0 f2) $$ H2
  ihave H3 := (fill_end c Q 3 0 f3) $$ H3
  isplitl [H9]; · iexact H9
  isplitl [H10]; · iexact H10
  isplitl [H0]; · iexact H0
  isplitl [H1]; · iexact H1
  isplitl [H2]; · iexact H2
  iexact H3

/-! ## What the points compute -/

variable (Q : S32768x1024.Idx → Elt F .f32) (sc : S1x4.Idx → Elt F .f32) (hq hv : S1x1024.Idx → Elt F .f32) (g : S1x32768.Idx → Elt F .f32)

/-- Chunk `j` of the matrix, as a point loads it. -/
def chunk (j : Fin 16) : Vec F S1x2048x1024 .f32 :=
  fun x => Q (ix2 (⟨2048 * j.val + (x 1).val, by have := j.isLt; have h : (x 1).val < 2048 := (x 1).isLt; omega⟩ : Fin 32768) (x 2 : Fin 1024))

/-- Chunk `j` of the noise, as a point loads it. -/
def noise (j : Fin 16) : Vec F S1x2048 .f32 :=
  fun x => g (ix2 (0 : Fin 1) (⟨2048 * j.val + (x 1).val, by have := j.isLt; have h : (x 1).val < 2048 := (x 1).isLt; omega⟩ : Fin 32768))

/-- A row with chunk `j` overwritten. -/
def putChunk (j : Fin 16) (w : Vec F S1x2048 .f32) (X : S1x32768.Idx → Elt F .f32) : S1x32768.Idx → Elt F .f32 :=
  fun x => if h : 2048 * j.val ≤ (x 1).val ∧ (x 1).val < 2048 * j.val + 2048 then w (ix2 (0 : Fin 1) (⟨(x 1).val - 2048 * j.val, by omega⟩ : Fin 2048)) else X x

/-- Chunk `j`'s logits. -/
def logitsOf (j : Fin 16) : FVec F S1x2048 .f32 := k1_pay4 (sc (ix2 0 0)) (sc (ix2 0 1)) (sc (ix2 0 2)) (chunk Q j) hq hv
/-- Chunk `j`'s logits with the noise added. -/
def scoresOf (j : Fin 16) : FVec F S1x2048 .f32 := k1_pay5 (sc (ix2 0 0)) (sc (ix2 0 1)) (sc (ix2 0 2)) (chunk Q j) hq hv (noise g j)
/-- The greatest of chunk `j`'s scores. -/
def maxOf (j : Fin 16) : F .f32 := k1_pay6 (sc (ix2 0 0)) (sc (ix2 0 1)) (sc (ix2 0 2)) (chunk Q j) hq hv (noise g j)
/-- Where in the chunk it first stands. -/
def argOf (j : Fin 16) : BitVec 32 :=
  extractAt ![0, 0, 0] (k1_pay1 (scoresOf Q sc hq hv g j) (iota .tc S1x2048 32 [1] iota_S1x2048_d1_w32)
    (k1_pay7 (sc (ix2 0 0)) (sc (ix2 0 1)) (sc (ix2 0 2)) (chunk Q j) hq hv (noise g j))) inpos_S1x1x1_p0_0_0

/-- The running maximum before point `t`. -/
def mS : ℕ → F .f32
  | 0 => Scalar.ofBits .f32 0xFF800000#32
  | t + 1 => k1_pay2 (maxOf Q sc hq hv g (Fin.ofNat 16 t)) (mS t)

/-- The running maximum's index before point `t`. -/
def miS : ℕ → BitVec 32
  | 0 => 0#32
  | t + 1 => Scalar.select (Scalar.cmpf .ogt (maxOf Q sc hq hv g (Fin.ofNat 16 t)) (mS Q sc hq hv g t))
      (Scalar.addi (Scalar.muli (BitVec.ofNat 32 t) 2048#32) (argOf Q sc hq hv g (Fin.ofNat 16 t))) (miS t)

/-- The chunk of point `i`. -/
def pj (i : grid1.Coords) : Fin 16 := ⟨(i 0).val, (i 0).isLt⟩

theorem ofNat_pj (i : grid1.Coords) : Fin.ofNat 16 (i 0).val = pj i := Fin.ext (Nat.mod_eq_of_lt (i 0).isLt)

theorem mS_succ (i : grid1.Coords) : mS Q sc hq hv g ((i 0).val + 1) = k1_pay2 (maxOf Q sc hq hv g (pj i)) (mS Q sc hq hv g (i 0).val) := by
  rw [← ofNat_pj]; rfl

theorem miS_succ (i : grid1.Coords) : miS Q sc hq hv g ((i 0).val + 1)
    = Scalar.select (Scalar.cmpf .ogt (maxOf Q sc hq hv g (pj i)) (mS Q sc hq hv g (i 0).val))
      (Scalar.addi (Scalar.muli (BitVec.ofNat 32 (i 0).val) 2048#32) (argOf Q sc hq hv g (pj i))) (miS Q sc hq hv g (i 0).val) := by
  rw [← ofNat_pj]; rfl

/-! ## Reading at the rectangles -/

theorem emb_word {k : ℕ} (j : Fin 4) (hk : k = j.val) {inb : ∀ a, (![0, k] : Fin 2 → ℕ) a + (![1, 1] : Fin 2 → ℕ) a ≤ S1x4.size a} (h : 0 < (Rect.unit (s := S1x4) ![0, k] ![1, 1] inb).shape.numel) :
    (Rect.unit (s := S1x4) ![0, k] ![1, 1] inb).emb (Shape.Idx.first h) = ix2 (0 : Fin 1) j := by
  subst hk
  funext a
  have h0 := (Shape.Idx.first h a).isLt
  apply Fin.ext
  show ![0, j.val] a + 1 * (Shape.Idx.first h a).val = _
  fin_cases a
  · exact (Nat.zero_add _).trans ((Nat.one_mul _).trans (Nat.lt_one_iff.mp h0))
  · exact congrArg (j.val + ·) ((Nat.one_mul _).trans (Nat.lt_one_iff.mp h0))

theorem emb_noise {o : Fin 2 → ℕ} (j : Fin 16) (ho : o = ![0, 2048 * j.val]) {inb : ∀ a, o a + S1x2048.size a ≤ S1x32768.size a} (x : (Rect.unit (s := S1x32768) o S1x2048.size inb).shape.Idx) :
    (Rect.unit (s := S1x32768) o S1x2048.size inb).emb x = ix2 (0 : Fin 1) (⟨2048 * j.val + (x 1).val, by have := j.isLt; have h : (x 1).val < 2048 := (x 1).isLt; omega⟩ : Fin 32768) := by
  subst ho
  funext a
  apply Fin.ext
  show ![0, 2048 * j.val] a + 1 * (x a).val = _
  fin_cases a
  · have : (x 0).val < 1 := (x 0).isLt
    show 0 + 1 * (x 0).val = 0
    omega
  · show 2048 * j.val + 1 * (x 1).val = 2048 * j.val + (x 1).val
    omega

/-- Reading a whole row is the row. -/
theorem read_row (X : S1x1024.Idx → Elt F .f32) {inb : ∀ a, (![0, 0] : Fin 2 → ℕ) a + S1x1024.size a ≤ S1x1024.size a} :
    (fun x => X ((Rect.unit (s := S1x1024) ![0, 0] S1x1024.size inb).emb x)) = X := by
  funext x
  congr 1
  funext a
  apply Fin.ext
  show ![0, 0] a + 1 * (x a).val = (x a).val
  fin_cases a
  · show 0 + 1 * _ = _; omega
  · show 0 + 1 * _ = _; omega

theorem read_noise {o : Fin 2 → ℕ} (j : Fin 16) (ho : o = ![0, 2048 * j.val]) {inb : ∀ a, o a + S1x2048.size a ≤ S1x32768.size a} :
    (fun x => g ((Rect.unit (s := S1x32768) o S1x2048.size inb).emb x)) = noise g j := by
  funext x
  rw [emb_noise j ho]
  rfl

/-- The slot's vector load reads the chunk. -/
theorem wp_slotLoad (c : Dev nD) (Q : Buf (Elt F) (QLoc c)) (s : Fin 4) (j : Fin 16) {ob : Fin 3 → ℕ} (hob : ob = ![s.val, 0, 0]) {inb : ∀ a, ob a + S1x2048x1024.size a ≤ S4x2048x1024.size a}
    {hl : (Memref.whole cc1_scratch0 : Memref sig .tc .vmem S4x2048x1024 .f32).view.LoadsAt (Rect.unit (s := S4x2048x1024) ob S1x2048x1024.size inb).toLoadRect}
    {α : Type} {k : Vec F S1x2048x1024 .f32 → Prog (TpuEff nD τ sig (Elt F) Λ₀ .tc) α} {Φ : α → sProp 𝕄} :
    Ready c Q s (chunkBuf Q j)
      ⊢ iprop((Ready c Q s (chunkBuf Q j) -∗ wp frame (wpE defs₀ Variants.none (c : Thread nD τ) none) Set.univ (k (chunk Q j)) Φ)
        -∗ wp frame (wpE defs₀ Variants.none (c : Thread nD τ) none) Set.univ (.op (.load (Memref.whole cc1_scratch0 : Memref sig .tc .vmem S4x2048x1024 .f32) (Rect.unit (s := S4x2048x1024) ob S1x2048x1024.size inb).toLoadRect hl) k) Φ) := by
  subst hob
  have hv : ((Memref.whole cc1_scratch0 : Memref sig .tc .vmem S4x2048x1024 .f32).access (Rect.unit (s := S4x2048x1024) ![s.val, 0, 0] S1x2048x1024.size inb)).read (Elt F) (chunkBuf Q j) = chunk Q j := by
    funext x
    show Q _ = Q _
    congr 1
    funext a
    fin_cases a
    · apply Fin.ext
      show 2048 * j.val + (0 + 1 * (x 1).val) = 2048 * j.val + (x 1).val
      omega
    · apply Fin.ext
      show 0 + 1 * (x 2).val = (x 2).val
      omega
  have h := wp_load_rect (m := (Memref.whole cc1_scratch0 : Memref sig .tc .vmem S4x2048x1024 .f32)) (r := Rect.unit (s := S4x2048x1024) ![s.val, 0, 0] S1x2048x1024.size inb) (S := slotSet s) (f := (chunkBuf Q j : Buf (Elt F) (RLoc c)))
    (q := fullShare) (hl := hl) (k := k) (Q := Φ) (defs := defs₀) Variants.none (c : Thread nD τ) none Set.univ (Γ := ∅) (by
      show ((Memref.whole cc1_scratch0).view.slice _).set ⊆ _
      rw [View.set_slice]
      exact (Finset.map_refl (s := slotSet s)).subset)
  rw [hv] at h
  unfold Ready
  iintro ⟨Hv, HR, HQ⟩ Hk
  iapply h $$ HR
  iintro HR
  iapply Hk
  isplitl [Hv]; · iexact Hv
  isplitl [HR]; · iexact HR
  iexact HQ

/-! ## The state between points -/

/-- How many of slot `s`'s rounds are done before point `t`. -/
def rounds (t : ℕ) (s : Fin 4) : ℕ := (t + 3 - s.val) / 4

/-- Before the first point: nothing started. -/
def Init (c : Dev nD) : sProp 𝕄 :=
  iprop((∃ X, owns (c : Thread nD τ) (Memref.whole cc1_scratch1) fullShare X) ∗ (∃ X, owns (c : Thread nD τ) (Memref.whole cc1_scratch2) fullShare X)
    ∗ bigSep Finset.univ fun s : Fin 4 => iprop(∃ f, Ready c Q s f))

/-- Before point `t`: the running maximum and index, and every slot at its round. -/
def Run (c : Dev nD) (t : ℕ) : sProp 𝕄 :=
  iprop(owns (c : Thread nD τ) (Memref.whole cc1_scratch1) fullShare (fun _ => mS Q sc hq hv g t) ∗ owns (c : Thread nD τ) (Memref.whole cc1_scratch2) fullShare (fun _ => miS Q sc hq hv g t)
    ∗ bigSep Finset.univ fun s : Fin 4 => Lane c Q s (rounds t s))

/-- The slots but for `s`, before point `t`. -/
abbrev LanesBut (c : Dev nD) (t : ℕ) (s : Fin 4) : sProp 𝕄 := bigSep (Finset.univ.erase s) fun s : Fin 4 => Lane c Q s (rounds t s)

theorem lanes_hole (c : Dev nD) (t : ℕ) (s : Fin 4) :
    (bigSep Finset.univ fun s : Fin 4 => Lane c Q s (rounds t s) : sProp 𝕄) = iprop(Lane c Q s (rounds t s) ∗ LanesBut Q c t s) := by
  rw [← Finset.insert_erase (Finset.mem_univ s), bigSep_insert (Finset.notMem_erase s _)]
  rfl

/-- Point `i` moves its own slot one round on and no other. -/
theorem rounds_own (i : grid1.Coords) : rounds (i 0).val (sl i) = (rd i).val := by
  simp only [rounds, sl, rd]; omega
theorem rounds_own_succ (i : grid1.Coords) : rounds ((i 0).val + 1) (sl i) = (rd i).val + 1 := by
  simp only [rounds, sl, rd]; omega
theorem rounds_other (i : grid1.Coords) (s : Fin 4) (h : s ≠ sl i) : rounds ((i 0).val + 1) s = rounds (i 0).val s := by
  have hne : s.val ≠ (i 0).val % 4 := fun e => h (Fin.ext e)
  have := s.isLt
  simp only [rounds]; omega

theorem lanesBut_succ (c : Dev nD) (i : grid1.Coords) : LanesBut Q c (i 0).val (sl i) = LanesBut Q c ((i 0).val + 1) (sl i) := by
  unfold LanesBut
  exact bigSep_congr fun s hs => by rw [rounds_other i s (Finset.ne_of_mem_erase hs)]

/-- The slot's state at the point: its round in flight. -/
theorem lane_own (c : Dev nD) (i : grid1.Coords) : Lane c Q (sl i) (rounds (i 0).val (sl i)) = Draining c Q (sl i) (rd i) 0 := by
  rw [rounds_own]; unfold Lane; rw [dif_pos (rd i).isLt]

theorem lane_zero (c : Dev nD) (s : Fin 4) : Lane c Q s (rounds 0 s) = Draining c Q s 0 0 := by
  have : rounds 0 s = 0 := by have := s.isLt; simp only [rounds]; omega
  rw [this]; unfold Lane; rw [dif_pos (by decide)]; rfl

theorem bigSep_four (P : Fin 4 → sProp 𝕄) : bigSep Finset.univ P = iprop(P 0 ∗ P 1 ∗ P 2 ∗ P 3) := by
  rw [Idealize.SL.BI.bigSep_univ_eq_bigSepL [0, 1, 2, 3] (by decide) (by decide) _]
  rfl

/-! ## The point's first half: the start, the scalars, two waits -/

theorem wp_part4_first (c : Dev nD) (i : grid1.Coords) (hi : (i 0).val = 0)
    {Φ : (Σ' (arg0 : BitVec 32) (v0 : BitVec 32) (v4 : Elt F .f32) (v5 : Elt F .f32), Elt F .f32) → sProp 𝕄} :
    iprop(Init Q c ∗ owns (c : Thread nD τ) arg1 fullShare sc ∗ (∃ W, owes (c : Thread nD τ) 0 W)
        ∗ ((owns (c : Thread nD τ) (Memref.whole cc1_scratch1) fullShare (fun _ => mS Q sc hq hv g (i 0).val) ∗ owns (c : Thread nD τ) (Memref.whole cc1_scratch2) fullShare (fun _ => miS Q sc hq hv g (i 0).val)
            ∗ Draining c Q (sl i) (rd i) 2 ∗ LanesBut Q c (i 0).val (sl i) ∗ owns (c : Thread nD τ) arg1 fullShare sc ∗ ∃ W, owes (c : Thread nD τ) 0 W)
          -∗ Φ ⟨BitVec.ofNat 32 (i 0).val, Scalar.remsi (BitVec.ofNat 32 (i 0).val) 4#32, sc (ix2 (0 : Fin 1) (0 : Fin 4)), sc (ix2 (0 : Fin 1) (1 : Fin 4)), sc (ix2 (0 : Fin 1) (2 : Fin 4))⟩))
      ⊢ wp frame (wpE defs₀ Variants.none (c : Thread nD τ) none) Set.univ (k1_part4 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3) Φ := by
  unfold Init
  rw [bigSep_four]
  iintro ⟨⟨⟨%X9, H9⟩, ⟨%X10, H10⟩, ⟨%f0, R0⟩, ⟨%f1, R1⟩, ⟨%f2, R2⟩, ⟨%f3, R3⟩⟩, H1, HO, Hk⟩
  rw [k1_part4_eq_skeleton]
  unfold k1_part4_skel
  dsimp only
  rw [dif_pos ((isFirst_iff i).mpr hi)]
  iapply (wp_start arg1 harg1 arg2 harg2 arg3 harg3 arg4 harg4 arg6 harg6 arg7 harg7 c Q i)
  isplitl [H9]; · iexact H9
  isplitl [H10]; · iexact H10
  isplitl [R0]; · iexact R0
  isplitl [R1]; · iexact R1
  isplitl [R2]; · iexact R2
  isplitl [R3]; · iexact R3
  iintro ⟨H9, H10, R0, R1, R2, R3⟩
  ihave HL := (show iprop(Draining c Q 0 0 0 ∗ Draining c Q 1 0 0 ∗ Draining c Q 2 0 0 ∗ Draining c Q 3 0 0)
      ⊢ iprop(Draining c Q (sl i) (rd i) 0 ∗ LanesBut Q c (i 0).val (sl i)) from Entails.of_eq (by
        rw [← lane_own, ← lanes_hole, hi, bigSep_four, lane_zero, lane_zero, lane_zero, lane_zero])) $$ [R0 R1 R2 R3]
  · isplitl [R0]; · iexact R0
    isplitl [R1]; · iexact R1
    isplitl [R2]; · iexact R2
    iexact R3
  icases HL with ⟨Hd, HL⟩
  rw [show mS Q sc hq hv g (i 0).val = Scalar.ofBits .f32 0xFF800000#32 from by rw [hi]; rfl, show miS Q sc hq hv g (i 0).val = 0#32 from by rw [hi]; rfl]
  iapply (wp_ownsWord c) $$ H1
  iintro H1
  iapply (wp_ownsWord c) $$ H1
  iintro H1
  iapply (wp_ownsWord c) $$ H1
  iintro H1
  iapply (wp_drain c Q (sl i) (rd i) 0 (by decide) (k1_off1_eq i)) $$ [Hd HO]
  · isplitl [Hd]; · iexact Hd
    iexact HO
  iintro ⟨Hd, HO⟩
  simp only [ret_bind]
  iapply (wp_drain c Q (sl i) (rd i) 1 (by decide) (k1_off1_eq i)) $$ [Hd HO]
  · isplitl [Hd]; · iexact Hd
    iexact HO
  iintro ⟨Hd, HO⟩
  simp only [ret_bind]
  rw [wp_pure]
  imodintro
  rw [emb_word (k := 0) 0 rfl, emb_word (k := 1) 1 rfl, emb_word (k := 2) 2 rfl]
  iapply Hk
  isplitl [H9]; · iexact H9
  isplitl [H10]; · iexact H10
  isplitl [Hd]; · iexact Hd
  isplitl [HL]; · iexact HL
  isplitl [H1]; · iexact H1
  iexact HO

theorem wp_part4_later (c : Dev nD) (i : grid1.Coords) (hi : (i 0).val ≠ 0)
    {Φ : (Σ' (arg0 : BitVec 32) (v0 : BitVec 32) (v4 : Elt F .f32) (v5 : Elt F .f32), Elt F .f32) → sProp 𝕄} :
    iprop(Run Q sc hq hv g c (i 0).val ∗ owns (c : Thread nD τ) arg1 fullShare sc ∗ (∃ W, owes (c : Thread nD τ) 0 W)
        ∗ ((owns (c : Thread nD τ) (Memref.whole cc1_scratch1) fullShare (fun _ => mS Q sc hq hv g (i 0).val) ∗ owns (c : Thread nD τ) (Memref.whole cc1_scratch2) fullShare (fun _ => miS Q sc hq hv g (i 0).val)
            ∗ Draining c Q (sl i) (rd i) 2 ∗ LanesBut Q c (i 0).val (sl i) ∗ owns (c : Thread nD τ) arg1 fullShare sc ∗ ∃ W, owes (c : Thread nD τ) 0 W)
          -∗ Φ ⟨BitVec.ofNat 32 (i 0).val, Scalar.remsi (BitVec.ofNat 32 (i 0).val) 4#32, sc (ix2 (0 : Fin 1) (0 : Fin 4)), sc (ix2 (0 : Fin 1) (1 : Fin 4)), sc (ix2 (0 : Fin 1) (2 : Fin 4))⟩))
      ⊢ wp frame (wpE defs₀ Variants.none (c : Thread nD τ) none) Set.univ (k1_part4 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3) Φ := by
  unfold Run
  rw [lanes_hole Q c _ (sl i), lane_own]
  iintro ⟨⟨H9, H10, Hd, HL⟩, H1, HO, Hk⟩
  rw [k1_part4_eq_skeleton]
  unfold k1_part4_skel
  dsimp only
  rw [dif_neg (fun h => hi ((isFirst_iff i).mp h))]
  iapply (wp_ownsWord c) $$ H1
  iintro H1
  iapply (wp_ownsWord c) $$ H1
  iintro H1
  iapply (wp_ownsWord c) $$ H1
  iintro H1
  iapply (wp_drain c Q (sl i) (rd i) 0 (by decide) (k1_off1_eq i)) $$ [Hd HO]
  · isplitl [Hd]; · iexact Hd
    iexact HO
  iintro ⟨Hd, HO⟩
  simp only [ret_bind]
  iapply (wp_drain c Q (sl i) (rd i) 1 (by decide) (k1_off1_eq i)) $$ [Hd HO]
  · isplitl [Hd]; · iexact Hd
    iexact HO
  iintro ⟨Hd, HO⟩
  simp only [ret_bind]
  rw [wp_pure]
  imodintro
  rw [emb_word (k := 0) 0 rfl, emb_word (k := 1) 1 rfl, emb_word (k := 2) 2 rfl]
  iapply Hk
  isplitl [H9]; · iexact H9
  isplitl [H10]; · iexact H10
  isplitl [Hd]; · iexact Hd
  isplitl [HL]; · iexact HL
  isplitl [H1]; · iexact H1
  iexact HO

/-! ## The second half: two waits, the loads, the logits' store -/

theorem not_mem_chunk {o : Fin 2 → ℕ} (j : Fin 16) (ho : o = ![0, 2048 * j.val]) {inb : ∀ a, o a + S1x2048.size a ≤ S1x32768.size a} (x : S1x32768.Idx)
    (hx : x ∉ (Rect.unit (s := S1x32768) o S1x2048.size inb).set) : ¬(2048 * j.val ≤ (x 1).val ∧ (x 1).val < 2048 * j.val + 2048) := by
  subst ho
  intro h
  refine hx (Rect.mem_set_unit.mpr fun b => ?_)
  fin_cases b
  · have h0 : (x 0).val < 1 := (x 0).isLt
    show 0 ≤ (x 0).val ∧ (x 0).val < 0 + 1
    omega
  · exact h

theorem putChunk_in {o : Fin 2 → ℕ} (j : Fin 16) (ho : o = ![0, 2048 * j.val]) {inb : ∀ a, o a + S1x2048.size a ≤ S1x32768.size a} (w : Vec F S1x2048 .f32) (X : S1x32768.Idx → Elt F .f32) (x : S1x2048.Idx) :
    putChunk j w X ((Rect.unit (s := S1x32768) o S1x2048.size inb).emb x) = w x := by
  rw [emb_noise j ho]
  have h1 : (x 1).val < 2048 := (x 1).isLt
  unfold putChunk
  rw [dif_pos ⟨Nat.le_add_right _ _, Nat.add_lt_add_left h1 _⟩]
  congr 1
  funext a
  fin_cases a
  · have h0 : (x 0).val < 1 := (x 0).isLt
    exact Fin.ext (show 0 = (x 0).val by omega)
  · exact Fin.ext (show 2048 * j.val + (x 1).val - 2048 * j.val = (x 1).val by omega)

theorem wp_part5 (c : Dev nD) (i : grid1.Coords) {X6 : S1x32768.Idx → Elt F .f32}
    {Φ : (Σ' (v65 : FVec F S1x2048 .f32) (v69 : F .f32) (v70 : IVec S1x2048 32), FVec F S1x2048 .f32) → sProp 𝕄} :
    iprop(Draining c Q (sl i) (rd i) 2 ∗ (∃ W, owes (c : Thread nD τ) 0 W) ∗ owns (c : Thread nD τ) arg2 fullShare hq ∗ owns (c : Thread nD τ) arg3 fullShare hv
        ∗ owns (c : Thread nD τ) arg4 fullShare g ∗ owns (c : Thread nD τ) arg6 fullShare X6
        ∗ ((Ready c Q (sl i) (chunkBuf Q (pj i)) ∗ (∃ W, owes (c : Thread nD τ) 0 W) ∗ owns (c : Thread nD τ) arg2 fullShare hq ∗ owns (c : Thread nD τ) arg3 fullShare hv
            ∗ owns (c : Thread nD τ) arg4 fullShare g ∗ owns (c : Thread nD τ) arg6 fullShare (putChunk (pj i) (logitsOf Q sc hq hv (pj i)) X6))
          -∗ Φ ⟨scoresOf Q sc hq hv g (pj i), maxOf Q sc hq hv g (pj i), iota .tc S1x2048 32 [1] iota_S1x2048_d1_w32,
              k1_pay7 (sc (ix2 0 0)) (sc (ix2 0 1)) (sc (ix2 0 2)) (chunk Q (pj i)) hq hv (noise g (pj i))⟩))
      ⊢ wp frame (wpE defs₀ Variants.none (c : Thread nD τ) none) Set.univ (k1_part5 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3 (BitVec.ofNat 32 (i 0).val) (Scalar.remsi (BitVec.ofNat 32 (i 0).val) 4#32) (sc (ix2 (0 : Fin 1) (0 : Fin 4))) (sc (ix2 (0 : Fin 1) (1 : Fin 4))) (sc (ix2 (0 : Fin 1) (2 : Fin 4)))) Φ := by
  iintro ⟨Hd, HO, H2, H3, H4, H6, Hk⟩
  rw [k1_part5_eq_skeleton]
  unfold k1_part5_skel
  dsimp only
  iapply (wp_drain c Q (sl i) (rd i) 2 (by decide) (k1_off1_eq i)) $$ [Hd HO]
  · isplitl [Hd]; · iexact Hd
    iexact HO
  iintro ⟨Hd, HO⟩
  simp only [ret_bind]
  iapply (wp_drainLast c Q (sl i) (rd i) (k1_off1_eq i)) $$ [Hd HO]
  · isplitl [Hd]; · iexact Hd
    iexact HO
  rw [show ch (sl i) (rd i) = pj i from Fin.ext (ch_sl_rd i)]
  iintro ⟨HR, HO⟩
  simp only [ret_bind]
  iapply (wp_slotLoad c Q (sl i) (pj i) (k1_off7_eq i)) $$ HR
  iintro HR
  simp only [ret_bind]
  iapply (wp_ownsLoad c) $$ H2
  iintro H2
  simp only [ret_bind]
  iapply (wp_ownsLoad c) $$ H3
  iintro H3
  simp only [ret_bind]
  iapply (wp_ownsLoad c) $$ H6
  iintro H6
  simp only [ret_bind]
  rw [read_row, read_row]
  have hst := fun (hx) (hm) (k : PUnit → Prog (TpuEff nD τ sig (Elt F) Λ₀ .tc) (Σ' (v65 : FVec F S1x2048 .f32) (v69 : F .f32) (v70 : IVec S1x2048 32), FVec F S1x2048 .f32)) =>
    wp_ownsStore c (m := arg6) (r := Rect.unit (s := S1x32768) (k1_off8 i) S1x2048.size (k1_off8_inb i)) (w := logitsOf Q sc hq hv (pj i)) (hx := hx) (hm := hm) (X := X6)
      (putChunk (pj i) (logitsOf Q sc hq hv (pj i)) X6) (putChunk_in (pj i) (k1_off8_eq i) _ _) (fun x hx => dif_neg (not_mem_chunk (pj i) (k1_off8_eq i) x hx)) (k := k) (Φ := Φ)
  iapply (hst _ _ _) $$ H6
  iintro H6
  simp only [ret_bind]
  iapply (wp_ownsLoad c) $$ H4
  iintro H4
  simp only [ret_bind]
  rw [read_noise g (pj i) (k1_off8_eq i), wp_pure]
  imodintro
  unfold scoresOf maxOf
  iapply Hk
  isplitl [HR]; · iexact HR
  isplitl [HO]; · iexact HO
  isplitl [H2]; · iexact H2
  isplitl [H3]; · iexact H3
  isplitl [H4]; · iexact H4
  iexact H6

/-! ## The point -/

/-- The state before point `t`. -/
def State (c : Dev nD) (t : ℕ) : sProp 𝕄 := if t = 0 then Init Q c else Run Q sc hq hv g c t

theorem wp_part4 (c : Dev nD) (i : grid1.Coords)
    {Φ : (Σ' (arg0 : BitVec 32) (v0 : BitVec 32) (v4 : Elt F .f32) (v5 : Elt F .f32), Elt F .f32) → sProp 𝕄} :
    iprop(State Q sc hq hv g c (i 0).val ∗ owns (c : Thread nD τ) arg1 fullShare sc ∗ (∃ W, owes (c : Thread nD τ) 0 W)
        ∗ ((owns (c : Thread nD τ) (Memref.whole cc1_scratch1) fullShare (fun _ => mS Q sc hq hv g (i 0).val) ∗ owns (c : Thread nD τ) (Memref.whole cc1_scratch2) fullShare (fun _ => miS Q sc hq hv g (i 0).val)
            ∗ Draining c Q (sl i) (rd i) 2 ∗ LanesBut Q c (i 0).val (sl i) ∗ owns (c : Thread nD τ) arg1 fullShare sc ∗ ∃ W, owes (c : Thread nD τ) 0 W)
          -∗ Φ ⟨BitVec.ofNat 32 (i 0).val, Scalar.remsi (BitVec.ofNat 32 (i 0).val) 4#32, sc (ix2 (0 : Fin 1) (0 : Fin 4)), sc (ix2 (0 : Fin 1) (1 : Fin 4)), sc (ix2 (0 : Fin 1) (2 : Fin 4))⟩))
      ⊢ wp frame (wpE defs₀ Variants.none (c : Thread nD τ) none) Set.univ (k1_part4 i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3) Φ := by
  unfold State
  by_cases hi : (i 0).val = 0
  · rw [if_pos hi]
    exact wp_part4_first arg1 harg1 arg2 harg2 arg3 harg3 arg4 harg4 arg6 harg6 arg7 harg7 Q sc hq hv g c i hi
  · rw [if_neg hi]
    exact wp_part4_later arg1 harg1 arg2 harg2 arg3 harg3 arg4 harg4 arg6 harg6 arg7 harg7 Q sc hq hv g c i hi

/-- The refill's rows are the slot's next chunk. -/
theorem refill_off (i : grid1.Coords) (n : Fin 4) (hn : n.val = (rd i).val + 1) (p : Fin 4) {b : BitVec 32} (hb : b = BitVec.ofNat 32 (512 * p.val)) :
    k1_off11 i b = ![2048 * (ch (sl i) n).val + 512 * p.val, 0] := by
  have hch : 2048 * (i 0).val + 512 * p.val + 8192 = 2048 * (ch (sl i) n).val + 512 * p.val := by
    rw [show (ch (sl i) n).val = 4 * n.val + (sl i).val from rfl, hn]
    simp only [sl, rd]
    omega
  rw [hb, k1_off11_eq, hch]

/-- A slot with a chunk left is at that chunk's round. -/
theorem lane_refilled (c : Dev nD) (i : grid1.Coords) (n : Fin 4) (hn : n.val = (rd i).val + 1) :
    (Draining c Q (sl i) n 0 : sProp 𝕄) ⊢ Lane c Q (sl i) (rounds ((i 0).val + 1) (sl i)) := by
  rw [rounds_own_succ, ← hn]
  unfold Lane
  rw [dif_pos n.isLt]

/-- A slot with no chunk left is done. -/
theorem lane_done (c : Dev nD) (i : grid1.Coords) (hi : ¬ (i 0).val < 12) (f : Buf (Elt F) (RLoc c)) :
    (Ready c Q (sl i) f : sProp 𝕄) ⊢ Lane c Q (sl i) (rounds ((i 0).val + 1) (sl i)) := by
  rw [rounds_own_succ]
  unfold Lane
  rw [dif_neg (by simp only [rd]; omega)]
  iintro H
  iexists f
  iexact H

set_option maxHeartbeats 1600000 in
/-- One grid point: from its state to the next, its chunk's logits stored, the index written at the last. -/
theorem wp_body (c : Dev nD) (i : grid1.Coords) {X6 : S1x32768.Idx → Elt F .f32} {X7 : S1x1.Idx → Elt F .i32} {Φ : PUnit → sProp 𝕄} :
    iprop(State Q sc hq hv g c (i 0).val ∗ (∃ W, owes (c : Thread nD τ) 0 W) ∗ owns (c : Thread nD τ) arg1 fullShare sc ∗ owns (c : Thread nD τ) arg2 fullShare hq ∗ owns (c : Thread nD τ) arg3 fullShare hv
        ∗ owns (c : Thread nD τ) arg4 fullShare g ∗ owns (c : Thread nD τ) arg6 fullShare X6 ∗ owns (c : Thread nD τ) arg7 fullShare X7
        ∗ ((Run Q sc hq hv g c ((i 0).val + 1) ∗ (∃ W, owes (c : Thread nD τ) 0 W) ∗ owns (c : Thread nD τ) arg1 fullShare sc ∗ owns (c : Thread nD τ) arg2 fullShare hq ∗ owns (c : Thread nD τ) arg3 fullShare hv
            ∗ owns (c : Thread nD τ) arg4 fullShare g ∗ owns (c : Thread nD τ) arg6 fullShare (putChunk (pj i) (logitsOf Q sc hq hv (pj i)) X6)
            ∗ owns (c : Thread nD τ) arg7 fullShare (if (i 0).val = 15 then (fun _ => miS Q sc hq hv g ((i 0).val + 1)) else X7))
          -∗ Φ ⟨⟩))
      ⊢ wp frame (wpE defs₀ Variants.none (c : Thread nD τ) none) Set.univ (cc1__stream_body i arg1 harg1 arg2 harg2 arg3 harg3 arg4 harg4 (Memref.whole main_arg1) (Memref.isWhole_whole _) arg6 harg6 arg7 harg7 (Memref.whole cc1_scratch0) (Memref.isWhole_whole _) (Memref.whole cc1_scratch1) (Memref.isWhole_whole _) (Memref.whole cc1_scratch2) (Memref.isWhole_whole _) cc1_scratch3) Φ := by
  iintro ⟨HS, HO, H1, H2, H3, H4, H6, H7, Hk⟩
  rw [cc1__stream_body_eq_skeleton]
  unfold cc1__stream_body_skel
  rw [wp_bind]
  iapply (wp_part4 arg1 harg1 arg2 harg2 arg3 harg3 arg4 harg4 arg6 harg6 arg7 harg7 Q sc hq hv g c i)
  isplitl [HS]; · iexact HS
  isplitl [H1]; · iexact H1
  isplitl [HO]; · iexact HO
  iintro ⟨H9, H10, Hd, HL, H1, HO⟩
  dsimp only
  rw [wp_bind]
  iapply (wp_part5 arg1 harg1 arg2 harg2 arg3 harg3 arg4 harg4 arg6 harg6 arg7 harg7 Q sc hq hv g c i)
  isplitl [Hd]; · iexact Hd
  isplitl [HO]; · iexact HO
  isplitl [H2]; · iexact H2
  isplitl [H3]; · iexact H3
  isplitl [H4]; · iexact H4
  isplitl [H6]; · iexact H6
  iintro ⟨HR, HO, H2, H3, H4, H6⟩
  dsimp only
  iapply (wp_ownsWord c) $$ H9
  iintro H9
  iapply (wp_ownsWord c) $$ H9
  iintro H9
  iapply (wp_ownsSet1 c) $$ H9
  iintro H9
  simp only [ret_bind]
  iapply (wp_ownsWord c) $$ H10
  iintro H10
  iapply (wp_ownsWord c) $$ H10
  iintro H10
  iapply (wp_ownsSet1 c) $$ H10
  iintro H10
  simp only [ret_bind]
  by_cases hf : (i 0).val < 12
  · rw [dif_pos ((refill_iff i).mpr hf)]
    obtain ⟨n, hn⟩ : ∃ n : Fin 4, n.val = (rd i).val + 1 := ⟨⟨(rd i).val + 1, by simp only [rd]; omega⟩, rfl⟩
    imod (fill_begin c Q (sl i) n (chunkBuf Q (pj i))) $$ HR with HR
    iapply (wp_fill c Q (sl i) n 0 (k0 := 0) rfl (k1_off10_eq i) (refill_off i n hn 0 rfl) (k1_off9_eq i)) $$ HR
    iintro HR
    simp only [ret_bind]
    iapply (wp_fill c Q (sl i) n 1 (k0 := 1) rfl (k1_off12_eq i) (refill_off i n hn 1 rfl) (k1_off9_eq i)) $$ HR
    iintro HR
    simp only [ret_bind]
    iapply (wp_fill c Q (sl i) n 2 (k0 := 2) rfl (k1_off13_eq i) (refill_off i n hn 2 rfl) (k1_off9_eq i)) $$ HR
    iintro HR
    simp only [ret_bind]
    iapply (wp_fill c Q (sl i) n 3 (k0 := 3) rfl (k1_off14_eq i) (refill_off i n hn 3 rfl) (k1_off9_eq i)) $$ HR
    iintro HR
    simp only [ret_bind]
    ihave HR := (fill_end c Q (sl i) n (chunkBuf Q (pj i))) $$ HR
    ihave HR := (lane_refilled Q c i n hn) $$ HR

    by_cases hl : (i 0).val = 15
    · rw [dif_pos ((isLast_iff i).mpr hl)]
      iapply (wp_ownsWord c) $$ H10
      iintro H10
      iapply (wp_ownsWord c) $$ H7
      iintro H7
      iapply (wp_ownsSet11 c) $$ H7
      iintro H7
      simp only [ret_bind]
      rw [wp_pure]
      imodintro
      iapply Hk
      rw [if_pos hl, miS_succ]
      isplitl [H9 H10 HR HL]
      · unfold Run
        rw [lanes_hole Q c _ (sl i), ← lanesBut_succ, mS_succ, miS_succ]
        isplitl [H9]; · iexact H9
        isplitl [H10]; · iexact H10
        isplitl [HR]; · iexact HR
        iexact HL
      isplitl [HO]; · iexact HO
      isplitl [H1]; · iexact H1
      isplitl [H2]; · iexact H2
      isplitl [H3]; · iexact H3
      isplitl [H4]; · iexact H4
      isplitl [H6]; · iexact H6
      iexact H7
    · rw [dif_neg (fun h => hl ((isLast_iff i).mp h)), wp_pure]
      imodintro
      iapply Hk
      rw [if_neg hl]
      isplitl [H9 H10 HR HL]
      · unfold Run
        rw [lanes_hole Q c _ (sl i), ← lanesBut_succ, mS_succ, miS_succ]
        isplitl [H9]; · iexact H9
        isplitl [H10]; · iexact H10
        isplitl [HR]; · iexact HR
        iexact HL
      isplitl [HO]; · iexact HO
      isplitl [H1]; · iexact H1
      isplitl [H2]; · iexact H2
      isplitl [H3]; · iexact H3
      isplitl [H4]; · iexact H4
      isplitl [H6]; · iexact H6
      iexact H7

  · rw [dif_neg (fun h => hf ((refill_iff i).mp h))]
    ihave HR := (lane_done Q c i hf _) $$ HR

    by_cases hl : (i 0).val = 15
    · rw [dif_pos ((isLast_iff i).mpr hl)]
      iapply (wp_ownsWord c) $$ H10
      iintro H10
      iapply (wp_ownsWord c) $$ H7
      iintro H7
      iapply (wp_ownsSet11 c) $$ H7
      iintro H7
      simp only [ret_bind]
      rw [wp_pure]
      imodintro
      iapply Hk
      rw [if_pos hl, miS_succ]
      isplitl [H9 H10 HR HL]
      · unfold Run
        rw [lanes_hole Q c _ (sl i), ← lanesBut_succ, mS_succ, miS_succ]
        isplitl [H9]; · iexact H9
        isplitl [H10]; · iexact H10
        isplitl [HR]; · iexact HR
        iexact HL
      isplitl [HO]; · iexact HO
      isplitl [H1]; · iexact H1
      isplitl [H2]; · iexact H2
      isplitl [H3]; · iexact H3
      isplitl [H4]; · iexact H4
      isplitl [H6]; · iexact H6
      iexact H7
    · rw [dif_neg (fun h => hl ((isLast_iff i).mp h)), wp_pure]
      imodintro
      iapply Hk
      rw [if_neg hl]
      isplitl [H9 H10 HR HL]
      · unfold Run
        rw [lanes_hole Q c _ (sl i), ← lanesBut_succ, mS_succ, miS_succ]
        isplitl [H9]; · iexact H9
        isplitl [H10]; · iexact H10
        isplitl [HR]; · iexact HR
        iexact HL
      isplitl [HO]; · iexact HO
      isplitl [H1]; · iexact H1
      isplitl [H2]; · iexact H2
      isplitl [H3]; · iexact H3
      isplitl [H4]; · iexact H4
      isplitl [H6]; · iexact H6
      iexact H7

end Cert.KernelIdeal.Hand
-- ==== Proof.Ideal.Data.lean ====
/-
  What each of the two calls is given and leaves: the arrays' contents before and after it, the relation its body
  makes between what it finds in a window and what it leaves there, and the body of each call run under that.
-/
module

public import proofs.«01_k».proof.Proof.Ideal.Body
public import proofs.«01_k».proof.Proof.Gen.KernelIdeal.Regions
public import Idealize.ShloMosaic.Lib.Pipeline.FrameBody
public import Idealize.ShloMosaic.Lib.Pipeline.ArrRel
public import Idealize.ShloMosaic.Lib.Pipeline.RegionArrays

@[expose] public section

set_option maxRecDepth 3908

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (RDat)

variable {F : FTy → Type} [FloatOps F]

local notation "𝕄" => MT nD τ sig Unit (Elt F) ℕ (Pipeline.UD sig nD τ) ℕ

/-! ## The contents of the arrays between the calls -/

variable (m : (ℓ : Loc nD τ sig) → Buf (Elt F) ℓ)

/-- What the first call leaves: the hidden row, multiplied by the projection and shifted by its bias. -/
def projected (c : Dev nD) : S1x1024.Idx → Elt F .f32 := k0_pay1 (V3 m c main_v1) (V3 m c main_arg2) (V3 m c main_v19)

/-- The buffers after the first call. -/
def W4 (c : Dev nD) : Valuation τ sig (Elt F) := Function.update (V3 m c) main_v20 (projected m c)

/-- All the logits: column `x` is column `x % 2048` of chunk `x / 2048`. -/
def logitRow (Q : S32768x1024.Idx → Elt F .f32) (sc : S1x4.Idx → Elt F .f32) (hq hv : S1x1024.Idx → Elt F .f32) : S1x32768.Idx → Elt F .f32 :=
  fun x => logitsOf Q sc hq hv ⟨(x 1).val / 2048, by have h : (x 1).val < 32768 := (x 1).isLt; omega⟩ (ix2 (0 : Fin 1) (⟨(x 1).val % 2048, Nat.mod_lt _ (by decide)⟩ : Fin 2048))

/-- The second call's operands. -/
abbrev opQ (c : Dev nD) : S32768x1024.Idx → Elt F .f32 := V3 m c main_arg1
abbrev opS (c : Dev nD) : S1x4.Idx → Elt F .f32 := V3 m c main_v18
abbrev opV (c : Dev nD) : S1x1024.Idx → Elt F .f32 := V3 m c main_arg4
abbrev opG (c : Dev nD) : S1x32768.Idx → Elt F .f32 := V3 m c main_v9

/-- What the second call leaves in its two results. -/
def allLogits (c : Dev nD) : S1x32768.Idx → Elt F .f32 := logitRow (opQ m c) (opS m c) (projected m c) (opV m c)
def chosen (c : Dev nD) : S1x1.Idx → Elt F .i32 := fun _ => miS (opQ m c) (opS m c) (projected m c) (opV m c) (opG m c) 16

/-- The buffers after the second call. -/
def W5 (c : Dev nD) : Valuation τ sig (Elt F) := Function.update (Function.update (W4 m c) main_v21_0 (allLogits m c)) main_v21_1 (chosen m c)

/-- What each call leaves in the buffers it may change. -/
def left : Outs (F := F) := fun J r c => if J = 4 then W4 m c r else W5 m c r

theorem V4_left (c : Dev nD) : V4 m (left m) c = W4 m c := by
  show Function.update (V3 m c) main_v20 (W4 m c main_v20) = W4 m c
  unfold W4; rw [Function.update_self]

theorem V5_left (c : Dev nD) : V5 m (left m) c = W5 m c := by
  show Function.update (Function.update (V4 m (left m) c) main_v21_0 (W5 m c main_v21_0)) main_v21_1 (W5 m c main_v21_1) = W5 m c
  rw [V4_left]
  have h1 : W5 m c main_v21_1 = chosen m c := by unfold W5; rw [Function.update_self]
  have h0 : W5 m c main_v21_0 = allLogits m c := by unfold W5; rw [Function.update_of_ne (by decide), Function.update_self]
  rw [h0, h1]; rfl

/-! ## The relations -/

/-- What the first call's body leaves in window `w`, given what it found. -/
def after0 (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = projected m c
  | ⟨_ + 4, h⟩ => absurd h (Nat.not_lt.2 (Nat.le_add_left _ _))

/-- What the second call's body leaves in window `w` at point `t`, given what it found. -/
def after1 (c : Dev nD) : (w : Fin cfg1.W) → Fin cfg1.N → (Y X : (cfg1.win w).block.Idx → Elt F (cfg1.win w).elt) → Prop
  | 0 => fun _ Y X => X = Y
  | 1 => fun _ Y X => X = Y
  | 2 => fun _ Y X => X = Y
  | 3 => fun _ Y X => X = Y
  | 4 => fun t Y X => X = putChunk (pj (grid1.coords t)) (logitsOf (opQ m c) (opS m c) (projected m c) (opV m c) (pj (grid1.coords t))) Y
  | 5 => fun t Y X => X = if (grid1.coords t 0).val = 15 then (fun _ => miS (opQ m c) (opS m c) (projected m c) (opV m c) (opG m c) ((grid1.coords t 0).val + 1)) else Y
  | ⟨_ + 6, h⟩ => absurd h (Nat.not_lt.2 (Nat.le_add_left _ _))

/-- The buffers the second call leaves alone: the first call's staging buffers. -/
def Spare1 (c : Dev nD) : sProp 𝕄 :=
  iprop((∃ f, (c : Thread nD τ).loc cc0_stg0_0 ↦{fullShare} f) ∗ (∃ f, (c : Thread nD τ).loc cc0_stg1_0 ↦{fullShare} f)
    ∗ (∃ f, (c : Thread nD τ).loc cc0_stg2_0 ↦{fullShare} f) ∗ (∃ f, (c : Thread nD τ).loc cc0_stg3_0 ↦{fullShare} f))

/-- The first call's proof data. -/
def data0 (c : Dev nD) : RDat τ (Elt F) Unit ℕ (Pipeline.UD sig nD τ) ℕ cfg0 c where
  A w := V3 m c (Proc.devRef .tc (Pipeline.arrRef spec0 w))
  after := after0 m c
  Φ _ := Pipeline.scopedRest spec0 c
  q _ := fullShare
  owed _ := 0

/-- The second call's proof data. -/
def data1 (c : Dev nD) : RDat τ (Elt F) Unit ℕ (Pipeline.UD sig nD τ) ℕ cfg1 c where
  A w := W4 m c (Proc.devRef .tc (Pipeline.arrRef spec1 w))
  after := after1 m c
  Φ t := iprop(State (opQ m c) (opS m c) (projected m c) (opV m c) (opG m c) c t.val ∗ Spare1 c)
  q _ := fullShare
  owed _ := 0

/-- The proof data of both calls. -/
def data : (p : Fin 2) → (c : Dev nD) → RDat τ (Elt F) Unit ℕ (Pipeline.UD sig nD τ) ℕ (cfgs p) c
  | 0 => data0 m
  | 1 => data1 m

/-! ## What the bodies find in their input windows -/

/-- The first call's result is the only buffer it changes; the second call's operands are read past it. -/
theorem W4_v18 (c : Dev nD) : W4 m c main_v18 = opS m c := by unfold W4; rw [Function.update_of_ne (by decide)]
theorem W4_v20 (c : Dev nD) : W4 m c main_v20 = projected m c := by unfold W4; rw [Function.update_self]
theorem W4_arg4 (c : Dev nD) : W4 m c main_arg4 = opV m c := by unfold W4; rw [Function.update_of_ne (by decide)]
theorem W4_v9 (c : Dev nD) : W4 m c main_v9 = opG m c := by unfold W4; rw [Function.update_of_ne (by decide)]
theorem W4_arg1 (c : Dev nD) : W4 m c main_arg1 = opQ m c := by unfold W4; rw [Function.update_of_ne (by decide)]

/-- Each input window of either call holds its whole array whenever the body runs. -/
theorem found0_0 (c : Dev nD) (t : Fin cfg0.N) (Y : (cfg0.win 0).block.Idx → Elt F (cfg0.win 0).elt) (h : (data0 m c).Finds 0 t Y) : Y = V3 m c main_v1 := by
  obtain ⟨d, rfl⟩ := RDat.finds_in_eq_fetched (data0 m c) 0 rfl (fun _ _ _ => rfl) (fun _ _ _ h => h) t Y h
  unfold RDat.fetched
  funext j
  unfold Pipeline.Window.fill
  rw [dif_pos (((cfg0.win 0).moved_iff _ j).mpr fun a => (j a).isLt)]
  unfold RDat.blockOf
  show V3 m c main_v1 _ = _
  congr 1
  funext a
  apply Fin.ext
  fin_cases a <;> exact (Nat.zero_add _).trans (Nat.one_mul _)

theorem found0_1 (c : Dev nD) (t : Fin cfg0.N) (Y : (cfg0.win 1).block.Idx → Elt F (cfg0.win 1).elt) (h : (data0 m c).Finds 1 t Y) : Y = V3 m c main_arg2 := by
  obtain ⟨d, rfl⟩ := RDat.finds_in_eq_fetched (data0 m c) 1 rfl (fun _ _ _ => rfl) (fun _ _ _ h => h) t Y h
  unfold RDat.fetched
  funext j
  unfold Pipeline.Window.fill
  rw [dif_pos (((cfg0.win 1).moved_iff _ j).mpr fun a => (j a).isLt)]
  unfold RDat.blockOf
  show V3 m c main_arg2 _ = _
  congr 1
  funext a
  apply Fin.ext
  fin_cases a <;> exact (Nat.zero_add _).trans (Nat.one_mul _)

theorem found0_2 (c : Dev nD) (t : Fin cfg0.N) (Y : (cfg0.win 2).block.Idx → Elt F (cfg0.win 2).elt) (h : (data0 m c).Finds 2 t Y) : Y = V3 m c main_v19 := by
  obtain ⟨d, rfl⟩ := RDat.finds_in_eq_fetched (data0 m c) 2 rfl (fun _ _ _ => rfl) (fun _ _ _ h => h) t Y h
  unfold RDat.fetched
  funext j
  unfold Pipeline.Window.fill
  rw [dif_pos (((cfg0.win 2).moved_iff _ j).mpr fun a => (j a).isLt)]
  unfold RDat.blockOf
  show V3 m c main_v19 _ = _
  congr 1
  funext a
  apply Fin.ext
  fin_cases a <;> exact (Nat.zero_add _).trans (Nat.one_mul _)

theorem found1_0 (c : Dev nD) (t : Fin cfg1.N) (Y : (cfg1.win 0).block.Idx → Elt F (cfg1.win 0).elt) (h : (data1 m c).Finds 0 t Y) : Y = opS m c := by
  obtain ⟨d, rfl⟩ := RDat.finds_in_eq_fetched (data1 m c) 0 rfl (fun _ _ _ => rfl) (fun _ _ _ h => h) t Y h
  unfold RDat.fetched
  funext j
  show _ = (opS m c) j
  rw [← W4_v18]
  unfold Pipeline.Window.fill
  rw [dif_pos (((cfg1.win 0).moved_iff _ j).mpr fun a => (j a).isLt)]
  unfold RDat.blockOf
  show W4 m c main_v18 _ = _
  congr 1
  funext a
  apply Fin.ext
  fin_cases a <;> exact (Nat.zero_add _).trans (Nat.one_mul _)

theorem found1_1 (c : Dev nD) (t : Fin cfg1.N) (Y : (cfg1.win 1).block.Idx → Elt F (cfg1.win 1).elt) (h : (data1 m c).Finds 1 t Y) : Y = projected m c := by
  obtain ⟨d, rfl⟩ := RDat.finds_in_eq_fetched (data1 m c) 1 rfl (fun _ _ _ => rfl) (fun _ _ _ h => h) t Y h
  unfold RDat.fetched
  funext j
  show _ = (projected m c) j
  rw [← W4_v20]
  unfold Pipeline.Window.fill
  rw [dif_pos (((cfg1.win 1).moved_iff _ j).mpr fun a => (j a).isLt)]
  unfold RDat.blockOf
  show W4 m c main_v20 _ = _
  congr 1
  funext a
  apply Fin.ext
  fin_cases a <;> exact (Nat.zero_add _).trans (Nat.one_mul _)

theorem found1_2 (c : Dev nD) (t : Fin cfg1.N) (Y : (cfg1.win 2).block.Idx → Elt F (cfg1.win 2).elt) (h : (data1 m c).Finds 2 t Y) : Y = opV m c := by
  obtain ⟨d, rfl⟩ := RDat.finds_in_eq_fetched (data1 m c) 2 rfl (fun _ _ _ => rfl) (fun _ _ _ h => h) t Y h
  unfold RDat.fetched
  funext j
  show _ = (opV m c) j
  rw [← W4_arg4]
  unfold Pipeline.Window.fill
  rw [dif_pos (((cfg1.win 2).moved_iff _ j).mpr fun a => (j a).isLt)]
  unfold RDat.blockOf
  show W4 m c main_arg4 _ = _
  congr 1
  funext a
  apply Fin.ext
  fin_cases a <;> exact (Nat.zero_add _).trans (Nat.one_mul _)

theorem found1_3 (c : Dev nD) (t : Fin cfg1.N) (Y : (cfg1.win 3).block.Idx → Elt F (cfg1.win 3).elt) (h : (data1 m c).Finds 3 t Y) : Y = opG m c := by
  obtain ⟨d, rfl⟩ := RDat.finds_in_eq_fetched (data1 m c) 3 rfl (fun _ _ _ => rfl) (fun _ _ _ h => h) t Y h
  unfold RDat.fetched
  funext j
  show _ = (opG m c) j
  rw [← W4_v9]
  unfold Pipeline.Window.fill
  rw [dif_pos (((cfg1.win 3).moved_iff _ j).mpr fun a => (j a).isLt)]
  unfold RDat.blockOf
  show W4 m c main_v9 _ = _
  congr 1
  funext a
  apply Fin.ext
  fin_cases a
  · exact (Nat.zero_add _).trans (Nat.one_mul _)
  · show 0 * 32768 + 1 * (j 1).val = (j 1).val
    rw [Nat.zero_mul, Nat.zero_add, Nat.one_mul]

/-! ## The bodies -/

theorem read_square (X : S1024x1024.Idx → Elt F .f32) {inb : ∀ a, (![0, 0] : Fin 2 → ℕ) a + S1024x1024.size a ≤ S1024x1024.size a} :
    (fun x => X ((Rect.unit (s := S1024x1024) ![0, 0] S1024x1024.size inb).emb x)) = X := by
  funext x
  congr 1
  funext a
  apply Fin.ext
  fin_cases a <;> exact (Nat.zero_add _).trans (Nat.one_mul _)

/-- The first call's body reads its three operands and stores the projected row over the whole of its result. -/
theorem wp_project (arg0 : Memref sig .tc .vmem S1x1024 .f32) (harg0 : arg0.IsWhole) (arg1 : Memref sig .tc .vmem S1024x1024 .f32) (harg1 : arg1.IsWhole)
    (arg2 : Memref sig .tc .vmem S1x1024 .f32) (harg2 : arg2.IsWhole) (arg3 : Memref sig .tc .vmem S1x1024 .f32) (harg3 : arg3.IsWhole)
    (X0 : S1x1024.Idx → Elt F .f32) (X1 : S1024x1024.Idx → Elt F .f32) (X2 X3 : S1x1024.Idx → Elt F .f32) (c : Dev nD) {Φ : PUnit → sProp 𝕄} :
    iprop(owns (c : Thread nD τ) arg0 fullShare X0 ∗ owns (c : Thread nD τ) arg1 fullShare X1 ∗ owns (c : Thread nD τ) arg2 fullShare X2 ∗ owns (c : Thread nD τ) arg3 fullShare X3
        ∗ ((owns (c : Thread nD τ) arg0 fullShare X0 ∗ owns (c : Thread nD τ) arg1 fullShare X1 ∗ owns (c : Thread nD τ) arg2 fullShare X2
            ∗ owns (c : Thread nD τ) arg3 fullShare (k0_pay1 X0 X1 X2)) -∗ Φ ⟨⟩))
      ⊢ wp frame (wpE defs₀ Variants.none (c : Thread nD τ) none) Set.univ (cc0__proj_body arg0 harg0 arg1 harg1 arg2 harg2 arg3 harg3) Φ := by
  rw [cc0__proj_body_eq_skeleton]
  unfold cc0__proj_body_skel
  iintro ⟨H0, H1, H2, H3, K⟩
  iapply (wp_ownsLoad c) $$ H0
  iintro H0
  iapply (wp_ownsLoad c) $$ H1
  iintro H1
  iapply (wp_ownsLoad c) $$ H2
  iintro H2
  iapply (wp_ownsLoad c) $$ H3
  iintro H3
  rw [read_row, read_row, read_row, read_square]
  iapply (wp_ownsStore c (k0_pay1 X0 X1 X2) (fun x => congrFun (read_row (k0_pay1 X0 X1 X2)) x) (fun i hi => absurd (by
      rw [Rect.mem_set_unit]
      intro a
      have := (i a).isLt
      fin_cases a <;> exact ⟨Nat.zero_le _, by simpa using this⟩) hi)) $$ H3
  iintro H3
  rw [ret_bind, wp_pure]
  imodintro
  iapply K
  isplitl [H0]; · iexact H0
  isplitl [H1]; · iexact H1
  isplitl [H2]; · iexact H2
  iexact H3

theorem row0 (t : Fin cfg0.N) : defs₀ (F := F) .tc cfg0.body (cfg0.bodyArgs t (cfg0.slots t)) = bodyAt0 t := by
  unfold defs₀; rw [Defs.onTc_tc]

theorem row1 (t : Fin cfg1.N) : defs₀ (F := F) .tc cfg1.body (cfg1.bodyArgs t (cfg1.slots t)) = bodyAt1 t := by
  unfold defs₀; rw [Defs.onTc_tc]

theorem coords_val : ∀ t : Fin cfg1.N, (grid1.coords t 0).val = t.val := (by decide +kernel : ∀ t : Fin grid1.N, (grid1.coords t 0).val = t.val)

/-- The first call's body, at its one point. -/
theorem body0 (c : Dev nD) : (data0 m c).BodyObligation defs₀ Variants.none () Set.univ := by
  intro t Y hY
  rw [bigSep_W0, bigSep_W0, row0]
  have h0 := found0_0 m c t (Y 0) (hY 0)
  have h1 := found0_1 m c t (Y 1) (hY 1)
  have h2 := found0_2 m c t (Y 2) (hY 2)
  rw [h0, h1, h2]
  iintro ⟨HΦ, HO, H0, H1, H2, H3⟩
  iapply (wp_project _ _ _ _ _ _ _ _ (V3 m c main_v1) (V3 m c main_arg2) (V3 m c main_v19) (Y 3) c)
  isplitl [H0]; · iexact H0
  isplitl [H1]; · iexact H1
  isplitl [H2]; · iexact H2
  isplitl [H3]; · iexact H3
  iintro ⟨H0, H1, H2, H3⟩
  isplitl [HΦ]; · iapply (show (data0 m c).Φ t.castSucc ⊢ (data0 m c).Φ t.succ from .rfl) $$ HΦ
  isplitl [HO]; · iexact HO
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  iexists _
  isplitr; · ipureintro; exact rfl
  iexact H3

theorem State_succ (Q : S32768x1024.Idx → Elt F .f32) (sc : S1x4.Idx → Elt F .f32) (hq hv : S1x1024.Idx → Elt F .f32) (g : S1x32768.Idx → Elt F .f32) (c : Dev nD) (t : ℕ) :
    State Q sc hq hv g c (t + 1) = Run Q sc hq hv g c (t + 1) := if_neg (Nat.succ_ne_zero t)

/-- The second call's body, at every point. -/
theorem body1 (c : Dev nD) : (data1 m c).BodyObligation defs₀ Variants.none () Set.univ := by
  intro t Y hY
  rw [bigSep_W1, bigSep_W1, row1]
  have h0 := found1_0 m c t (Y 0) (hY 0)
  have h1 := found1_1 m c t (Y 1) (hY 1)
  have h2 := found1_2 m c t (Y 2) (hY 2)
  have h3 := found1_3 m c t (Y 3) (hY 3)
  rw [h0, h1, h2, h3]
  have et := coords_val t
  have eΦ : (data1 m c).Φ t.castSucc = iprop(State (opQ m c) (opS m c) (projected m c) (opV m c) (opG m c) c (grid1.coords t 0).val ∗ Spare1 c) := by rw [et]; rfl
  have eΦ' : (data1 m c).Φ t.succ = iprop(Run (opQ m c) (opS m c) (projected m c) (opV m c) (opG m c) c ((grid1.coords t 0).val + 1) ∗ Spare1 c) := by rw [et, ← State_succ]; rfl
  rw [eΦ, eΦ']
  unfold RDat.owesAt Pipeline.owesWithin
  iintro ⟨⟨HS, HP⟩, ⟨%Wd, -, HO⟩, H0, H1, H2, H3, H4, H5⟩
  iapply (wp_body _ _ _ _ _ _ _ _ _ _ _ _ (opQ m c) (opS m c) (projected m c) (opV m c) (opG m c) c (grid1.coords t) (X6 := Y 4) (X7 := Y 5))
  isplitl [HS]; · iexact HS
  isplitl [HO]; · iexists _; iexact HO
  isplitl [H0]; · iexact H0
  isplitl [H1]; · iexact H1
  isplitl [H2]; · iexact H2
  isplitl [H3]; · iexact H3
  isplitl [H4]; · iexact H4
  isplitl [H5]; · iexact H5
  iintro ⟨HS, ⟨%Wd', HO⟩, H0, H1, H2, H3, H4, H5⟩
  isplitl [HS HP]
  · isplitl [HS]; · iexact HS
    iexact HP
  isplitl [HO]
  · iexists Wd'
    isplitr; · ipureintro; exact fun _ _ => Or.inl trivial
    iexact HO
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  iexists _
  isplitr; · ipureintro; exact rfl
  iexact H5

end Cert.KernelIdeal.Hand

end

end
-- ==== Proof.Ideal.Segs.lean ====
/-
  The two calls as segments of the program: what each takes from the buffers held between the program's items,
  what it hands back, and the contents its results end at.
-/
module

public import proofs.«01_k».proof.Proof.Ideal.Data

@[expose] public section

set_option maxRecDepth 3908

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (RDat)

variable {F : FTy → Type} [FloatOps F]

local notation "𝕄" => MT nD τ sig Unit (Elt F) ℕ (Pipeline.UD sig nD τ) ℕ

variable (m : (ℓ : Loc nD τ sig) → Buf (Elt F) ℓ)

/-! ## What the results end at -/

/-- What each call leaves where it does not write. -/
theorem W4_v1 (c : Dev nD) : W4 m c main_v1 = V3 m c main_v1 := by unfold W4; rw [Function.update_of_ne (by decide)]
theorem W4_arg2 (c : Dev nD) : W4 m c main_arg2 = V3 m c main_arg2 := by unfold W4; rw [Function.update_of_ne (by decide)]
theorem W4_v19 (c : Dev nD) : W4 m c main_v19 = V3 m c main_v19 := by unfold W4; rw [Function.update_of_ne (by decide)]
theorem W5_v18 (c : Dev nD) : W5 m c main_v18 = W4 m c main_v18 := by unfold W5; rw [Function.update_of_ne (by decide), Function.update_of_ne (by decide)]
theorem W5_v20 (c : Dev nD) : W5 m c main_v20 = W4 m c main_v20 := by unfold W5; rw [Function.update_of_ne (by decide), Function.update_of_ne (by decide)]
theorem W5_arg4 (c : Dev nD) : W5 m c main_arg4 = W4 m c main_arg4 := by unfold W5; rw [Function.update_of_ne (by decide), Function.update_of_ne (by decide)]
theorem W5_v9 (c : Dev nD) : W5 m c main_v9 = W4 m c main_v9 := by unfold W5; rw [Function.update_of_ne (by decide), Function.update_of_ne (by decide)]
theorem W5_arg1 (c : Dev nD) : W5 m c main_arg1 = W4 m c main_arg1 := by unfold W5; rw [Function.update_of_ne (by decide), Function.update_of_ne (by decide)]
theorem W5_v21_0 (c : Dev nD) : W5 m c main_v21_0 = allLogits m c := by unfold W5; rw [Function.update_of_ne (by decide), Function.update_self]
theorem W5_v21_1 (c : Dev nD) : W5 m c main_v21_1 = chosen m c := by unfold W5; rw [Function.update_self]

/-- An input window's array ends as it began. -/
theorem unwritten {Λ : Idealize.SL.Sem.Labels} {cfg : Pipeline.Cfg sig Λ} {c : Dev nD} (rd : RDat τ (Elt F) Unit ℕ (Pipeline.UD sig nD τ) ℕ cfg c) (w : Fin cfg.W)
    (h : (cfg.win w).isOut = false) (n : ℕ) (G : Buf (Elt F) ((cfg.win w).arr.view.loc (c : Thread nD τ))) (hG : rd.ArrAt w n G) : G = rd.A w := by
  rw [RDat.ArrAt_in rd w h] at hG; exact hG

theorem whole0_3 : (cfg0.win 3).WholeAt t0_0 := (by decide +kernel : win0_3.WholeAt t0_0)

theorem exit0_0 (c : Dev nD) (G : Buf (Elt F) ((cfg0.win 0).arr.view.loc (c : Thread nD τ))) (hG : (data0 m c).ArrAt 0 cfg0.N G) : G = W4 m c (Proc.devRef .tc (Pipeline.arrRef spec0 0)) := by
  exact (unwritten (data0 m c) 0 rfl cfg0.N G hG).trans (W4_v1 m c).symm

theorem exit0_1 (c : Dev nD) (G : Buf (Elt F) ((cfg0.win 1).arr.view.loc (c : Thread nD τ))) (hG : (data0 m c).ArrAt 1 cfg0.N G) : G = W4 m c (Proc.devRef .tc (Pipeline.arrRef spec0 1)) := by
  exact (unwritten (data0 m c) 1 rfl cfg0.N G hG).trans (W4_arg2 m c).symm

theorem exit0_2 (c : Dev nD) (G : Buf (Elt F) ((cfg0.win 2).arr.view.loc (c : Thread nD τ))) (hG : (data0 m c).ArrAt 2 cfg0.N G) : G = W4 m c (Proc.devRef .tc (Pipeline.arrRef spec0 2)) := by
  exact (unwritten (data0 m c) 2 rfl cfg0.N G hG).trans (W4_v19 m c).symm

theorem exit0_3 (c : Dev nD) (G : Buf (Elt F) ((cfg0.win 3).arr.view.loc (c : Thread nD τ))) (hG : (data0 m c).ArrAt 3 cfg0.N G) : G = W4 m c (Proc.devRef .tc (Pipeline.arrRef spec0 3)) := by
  obtain ⟨X, ⟨Y, -, hX⟩, h⟩ := RDat.ArrAt.emb_eq_of_wholeAt hG whole0_3
  refine Eq.trans ?_ (W4_v20 m c).symm
  funext j
  refine (h j).trans ?_
  exact congrFun hX j

theorem exit0 (c : Dev nD) : ∀ (w : Fin cfg0.W) (G : Buf (Elt F) ((cfg0.win w).arr.view.loc (c : Thread nD τ))), (data0 m c).ArrAt w cfg0.N G → G = W4 m c (Proc.devRef .tc (Pipeline.arrRef spec0 w)) := by
  intro w G hG
  match w with
  | 0 => exact exit0_0 m c G hG
  | 1 => exact exit0_1 m c G hG
  | 2 => exact exit0_2 m c G hG
  | 3 => exact exit0_3 m c G hG

theorem last_lt : 15 < cfg1.N := by show 15 < grid1.N; rw [N_1]; decide
theorem whole1_4 : (cfg1.win 4).WholeAt ⟨15, last_lt⟩ := (by decide +kernel : win1_4.WholeAt ⟨15, last_lt⟩)
theorem whole1_5 : (cfg1.win 5).WholeAt ⟨15, last_lt⟩ := (by decide +kernel : win1_5.WholeAt ⟨15, last_lt⟩)

/-- After point `n`, the columns of the first `n + 1` chunks hold their logits. -/
theorem leaves_logits (c : Dev nD) : ∀ (n : ℕ) (t : Fin cfg1.N), t.val = n → ∀ X, (data1 m c).Leaves 4 t X →
    ∀ x : S1x32768.Idx, (x 1).val < 2048 * (n + 1) → (X : S1x32768.Idx → Elt F .f32) x = allLogits m c x := by
  intro n
  induction n with
  | zero =>
    rintro t ht X ⟨Y, -, hX⟩ x hx
    have hX' : X = putChunk (pj (grid1.coords t)) (logitsOf (opQ m c) (opS m c) (projected m c) (opV m c) (pj (grid1.coords t))) Y := hX
    have hp : (pj (grid1.coords t)).val = 0 := (coords_val t).trans ht
    rw [hX']
    unfold putChunk
    rw [dif_pos (by rw [hp]; omega)]
    unfold allLogits logitRow
    congr 1
    · congr 1; apply Fin.ext; rw [hp]; show 0 = (x 1).val / 2048; omega
    · congr 1; apply Fin.ext; show (x 1).val - 2048 * (pj (grid1.coords t)).val = (x 1).val % 2048; rw [hp]; omega
  | succ n ih =>
    rintro t ht X ⟨Y, hY, hX⟩ x hx
    have hX' : X = putChunk (pj (grid1.coords t)) (logitsOf (opQ m c) (opS m c) (projected m c) (opV m c) (pj (grid1.coords t))) Y := hX
    have hp : (pj (grid1.coords t)).val = n + 1 := (coords_val t).trans ht
    rw [hX']
    unfold putChunk
    by_cases hc : 2048 * (pj (grid1.coords t)).val ≤ (x 1).val ∧ (x 1).val < 2048 * (pj (grid1.coords t)).val + 2048
    · rw [dif_pos hc]
      rw [hp] at hc
      unfold allLogits logitRow
      congr 1
      · congr 1; apply Fin.ext; rw [hp]; show n + 1 = (x 1).val / 2048; omega
      · congr 1; apply Fin.ext; show (x 1).val - 2048 * (pj (grid1.coords t)).val = (x 1).val % 2048; rw [hp]; omega
    · rw [dif_neg hc]
      rw [hp] at hc
      rcases ((data1 m c).finds_of_pos (w := 4) (t := t) rfl (by omega) Y).mp hY with hf | hL
      · have h16 : t.val < 16 := by have := t.isLt; have h : cfg1.N = 16 := N_1; omega
        have := (flush1_4 _).mp hf
        simp only at this
        omega
      · exact ih _ (by simp only; omega) Y hL x (by omega)

theorem exit1_0 (c : Dev nD) (G : Buf (Elt F) ((cfg1.win 0).arr.view.loc (c : Thread nD τ))) (hG : (data1 m c).ArrAt 0 cfg1.N G) : G = W5 m c (Proc.devRef .tc (Pipeline.arrRef spec1 0)) := by
  exact (unwritten (data1 m c) 0 rfl cfg1.N G hG).trans (W5_v18 m c).symm

theorem exit1_1 (c : Dev nD) (G : Buf (Elt F) ((cfg1.win 1).arr.view.loc (c : Thread nD τ))) (hG : (data1 m c).ArrAt 1 cfg1.N G) : G = W5 m c (Proc.devRef .tc (Pipeline.arrRef spec1 1)) := by
  exact (unwritten (data1 m c) 1 rfl cfg1.N G hG).trans (W5_v20 m c).symm

theorem exit1_2 (c : Dev nD) (G : Buf (Elt F) ((cfg1.win 2).arr.view.loc (c : Thread nD τ))) (hG : (data1 m c).ArrAt 2 cfg1.N G) : G = W5 m c (Proc.devRef .tc (Pipeline.arrRef spec1 2)) := by
  exact (unwritten (data1 m c) 2 rfl cfg1.N G hG).trans (W5_arg4 m c).symm

theorem exit1_3 (c : Dev nD) (G : Buf (Elt F) ((cfg1.win 3).arr.view.loc (c : Thread nD τ))) (hG : (data1 m c).ArrAt 3 cfg1.N G) : G = W5 m c (Proc.devRef .tc (Pipeline.arrRef spec1 3)) := by
  exact (unwritten (data1 m c) 3 rfl cfg1.N G hG).trans (W5_v9 m c).symm

theorem exit1_4 (c : Dev nD) (G : Buf (Elt F) ((cfg1.win 4).arr.view.loc (c : Thread nD τ))) (hG : (data1 m c).ArrAt 4 cfg1.N G) : G = W5 m c (Proc.devRef .tc (Pipeline.arrRef spec1 4)) := by
  obtain ⟨X, hL, h⟩ := RDat.ArrAt.emb_eq_of_wholeAt hG whole1_4
  refine Eq.trans ?_ (W5_v21_0 m c).symm
  funext j
  refine (h j).trans ?_
  exact leaves_logits m c 15 _ rfl X hL j (j 1).isLt

theorem exit1_5 (c : Dev nD) (G : Buf (Elt F) ((cfg1.win 5).arr.view.loc (c : Thread nD τ))) (hG : (data1 m c).ArrAt 5 cfg1.N G) : G = W5 m c (Proc.devRef .tc (Pipeline.arrRef spec1 5)) := by
  obtain ⟨X, ⟨Y, -, hX⟩, h⟩ := RDat.ArrAt.emb_eq_of_wholeAt hG whole1_5
  refine Eq.trans ?_ (W5_v21_1 m c).symm
  funext j
  refine (h j).trans ?_
  have e := coords_val ⟨15, last_lt⟩
  have hX' : X = if (grid1.coords ⟨15, last_lt⟩ 0).val = 15 then (fun _ => miS (opQ m c) (opS m c) (projected m c) (opV m c) (opG m c) ((grid1.coords ⟨15, last_lt⟩ 0).val + 1)) else Y := hX
  rw [e, if_pos rfl] at hX'
  exact congrFun hX' j

theorem exit1 (c : Dev nD) : ∀ (w : Fin cfg1.W) (G : Buf (Elt F) ((cfg1.win w).arr.view.loc (c : Thread nD τ))), (data1 m c).ArrAt w cfg1.N G → G = W5 m c (Proc.devRef .tc (Pipeline.arrRef spec1 w)) := by
  intro w G hG
  match w with
  | 0 => exact exit1_0 m c G hG
  | 1 => exact exit1_1 m c G hG
  | 2 => exact exit1_2 m c G hG
  | 3 => exact exit1_3 m c G hG
  | 4 => exact exit1_4 m c G hG
  | 5 => exact exit1_5 m c G hG

/-! ## The buffers held between items, sorted for a call -/

/-- A call's arrays, held, are its windows' arrays one by one. -/
theorem arrs0_held (c : Dev nD) (V : Valuation τ sig (Elt F)) :
    (StableHlo.held (c : Thread nD τ) (Pipeline.arrRefs spec0) V : sProp 𝕄)
      = bigSep Finset.univ fun w : Fin 4 => ((c : Thread nD τ).loc (Pipeline.arrRef spec0 w)) ↦{fullShare} V (Proc.devRef .tc (Pipeline.arrRef spec0 w)) := by
  unfold StableHlo.held Pipeline.arrRefs
  rw [bigSep_map, show Finset.univ.image (Pipeline.arrRef spec0) = Finset.univ.map ⟨Pipeline.arrRef spec0, winFacts0.arr_inj⟩ from
    (Finset.map_eq_image ⟨Pipeline.arrRef spec0, winFacts0.arr_inj⟩ Finset.univ).symm, bigSep_map]
  rfl

theorem arrs1_held (c : Dev nD) (V : Valuation τ sig (Elt F)) :
    (StableHlo.held (c : Thread nD τ) (Pipeline.arrRefs spec1) V : sProp 𝕄)
      = bigSep Finset.univ fun w : Fin 6 => ((c : Thread nD τ).loc (Pipeline.arrRef spec1 w)) ↦{fullShare} V (Proc.devRef .tc (Pipeline.arrRef spec1 w)) := by
  unfold StableHlo.held Pipeline.arrRefs
  rw [bigSep_map, show Finset.univ.image (Pipeline.arrRef spec1) = Finset.univ.map ⟨Pipeline.arrRef spec1, winFacts1.arr_inj⟩ from
    (Finset.map_eq_image ⟨Pipeline.arrRef spec1, winFacts1.arr_inj⟩ Finset.univ).symm, bigSep_map]
  rfl

theorem sub0 : Pipeline.arrRefs (τ := τ) spec0 ⊆ Pipeline.ucRefs τ sig := Pipeline.arrRefs_sub_ucRefs spec0 winFacts0.arr_unscoped
theorem sub1 : Pipeline.arrRefs (τ := τ) spec1 ⊆ Pipeline.ucRefs τ sig := Pipeline.arrRefs_sub_ucRefs spec1 winFacts1.arr_unscoped

/-- The matrix, which the second call reads where it lies, is none of its windows' arrays. -/
theorem sub1_arg1 : ({Proc.devRef .tc main_arg1} : Finset (DevRef τ sig)) ⊆ Pipeline.ucRefs τ sig \ Pipeline.arrRefs spec1 := by
  rw [Finset.singleton_subset_iff, Finset.mem_sdiff]
  refine ⟨Finset.mem_filter.mpr ⟨StableHlo.devRef_mem_tcRefs main_arg1, by decide⟩, ?_⟩
  intro h
  obtain ⟨r, hr, e⟩ := Finset.mem_map.mp h
  obtain ⟨w, -, rfl⟩ := Finset.mem_image.mp hr
  have e' : Pipeline.arrRef spec1 w = main_arg1 := Proc.devRef_injective _ e
  revert e'
  revert w
  decide

/-- The second call's own semaphores: one per slot of its ring. -/
def slotSem (s : Fin 4) : SemLoc sig := .dma (slotCell s)

theorem slotSem_facts : Pipeline.OwnSemFacts spec1 slotSem := by decide +kernel

/-- A slot at some contents, its semaphore at zero and its rows of the matrix at home. -/
theorem ready_join (c : Dev nD) (Q : Buf (Elt F) (QLoc c)) :
    (bigSep Finset.univ fun s : Fin 4 => iprop(∃ f, Ready c Q s f) : sProp 𝕄)
      = iprop((bigSep Finset.univ fun s : Fin 4 => semVal ((c : Thread nD τ), slotSem s) 0)
          ∗ (bigSep Finset.univ fun s : Fin 4 => iprop(∃ f, RLoc c ↦[slotSet s]{fullShare} f)) ∗ (QLoc c ↦{fullShare} Q)) := by
  rw [homes_eq, ← bigSep_sep', ← bigSep_sep']
  refine bigSep_congr fun s _ => ?_
  unfold Ready
  apply Entails.antisymm
  · show (_ : sProp 𝕄) ⊢ _
    iintro ⟨%f, H1, H2, H3⟩
    isplitl [H1]; · iexact H1
    isplitl [H2]; · iexists f; iexact H2
    iexact H3
  · show (_ : sProp 𝕄) ⊢ _
    iintro ⟨H1, ⟨%f, H2⟩, H3⟩
    iexists f
    isplitl [H1]; · iexact H1
    isplitl [H2]; · iexact H2
    iexact H3

/-- The ring buffer is its four slots. -/
theorem ring_split (c : Dev nD) : (iprop(∃ f, RLoc c ↦{fullShare} f) : sProp 𝕄) ⊢ bigSep Finset.univ fun s : Fin 4 => iprop(∃ f, RLoc c ↦[slotSet s]{fullShare} f) := by
  iintro ⟨%f, H⟩
  iapply (show ((RLoc c ↦{fullShare} f) : sProp 𝕄) ⊢ bigSep Finset.univ fun s : Fin 4 => iprop(∃ f, RLoc c ↦[slotSet s]{fullShare} f) from by
    rw [Ring.pointsTo_blocks slotSet slotSet_disjoint slotSet_cover f]
    exact bigSep_mono fun s _ => (show (_ : sProp 𝕄) ⊢ _ from by iintro H; iexists f; iexact H))
  iexact H

theorem ring_join (c : Dev nD) : (bigSep Finset.univ fun s : Fin 4 => iprop(∃ f, RLoc c ↦[slotSet s]{fullShare} f) : sProp 𝕄) ⊢ iprop(∃ f, RLoc c ↦{fullShare} f) :=
  Ring.pointsTo_blocks_join_exists (ℓ := RLoc c) slotSet slotSet_disjoint slotSet_cover (fun _ => Classical.choice ((inferInstance : ∀ e : EltTy, Nonempty (Elt F e)) .f32))

end Cert.KernelIdeal.Hand

end

end
-- ==== Proof.Ideal.Calls.lean ====
/-
  The two calls as segments of the program: each entered from the buffers held at one valuation and left with them
  held at the next.
-/
module

public import proofs.«01_k».proof.Proof.Ideal.Segs

@[expose] public section

set_option maxRecDepth 3908

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (RDat)

variable {F : FTy → Type} [FloatOps F]

local notation "𝕄" => MT nD τ sig Unit (Elt F) ℕ (Pipeline.UD sig nD τ) ℕ

variable (m : (ℓ : Loc nD τ sig) → Buf (Elt F) ℓ)

/-- Nothing is owed at any level. -/
abbrev noPairs : GSem nD τ sig → Finset Unit := fun _ => ∅
abbrev noLevels : GSem nD τ sig → Unit → ℕ := fun _ _ => 0

/-- The buffers held at contents `V`, beside a core that owes nothing. -/
def Held (V : Dev nD → Valuation τ sig (Elt F)) (c : Dev nD) : sProp 𝕄 :=
  iprop(StableHlo.held (c : Thread nD τ) (Pipeline.ucRefs τ sig) (V c) ∗ ∃ W, owes (c : Thread nD τ) (0 : CellTallies nD τ sig Unit) W)

theorem share0 (c : Dev nD) (w : Fin cfg0.W) : (data0 m c).share w = fullShare := by
  unfold RDat.share; split <;> rfl
theorem share1 (c : Dev nD) (w : Fin cfg1.W) : (data1 m c).share w = fullShare := by
  unfold RDat.share; split <;> rfl

/-- The first call's arrays at entry, and at exit, as points-to. -/
theorem arrays0 (c : Dev nD) : ((data0 m c).arrays (data0 m c).A : sProp 𝕄)
    = bigSep Finset.univ fun w : Fin 4 => ((c : Thread nD τ).loc (Pipeline.arrRef spec0 w)) ↦{fullShare} V3 m c (Proc.devRef .tc (Pipeline.arrRef spec0 w)) :=
  RDat.arrays_eq (pcfgs (F := F)) adm (data m) 0 c arr_whole0 (share0 m c) _

theorem arrays1 (c : Dev nD) : ((data1 m c).arrays (data1 m c).A : sProp 𝕄)
    = bigSep Finset.univ fun w : Fin 6 => ((c : Thread nD τ).loc (Pipeline.arrRef spec1 w)) ↦{fullShare} W4 m c (Proc.devRef .tc (Pipeline.arrRef spec1 w)) :=
  RDat.arrays_eq (pcfgs (F := F)) adm (data m) 1 c arr_whole1 (share1 m c) _

theorem arraysEnd0 (c : Dev nD) : ((data0 m c).arraysAt cfg0.N : sProp 𝕄)
    ⊢ bigSep Finset.univ fun w : Fin 4 => ((c : Thread nD τ).loc (Pipeline.arrRef spec0 w)) ↦{fullShare} W4 m c (Proc.devRef .tc (Pipeline.arrRef spec0 w)) := by
  rw [show (data0 m c).arraysAt cfg0.N = _ from RDat.arraysAt_eq (pcfgs (F := F)) adm (data m) 0 c arr_whole0 (share0 m c) cfg0.N]
  refine bigSep_mono fun w _ => (show (_ : sProp 𝕄) ⊢ _ from ?_)
  iintro ⟨%G, %h, H⟩
  rw [← exit0 m c w G h]
  iexact H

theorem arraysEnd1 (c : Dev nD) : ((data1 m c).arraysAt cfg1.N : sProp 𝕄)
    ⊢ bigSep Finset.univ fun w : Fin 6 => ((c : Thread nD τ).loc (Pipeline.arrRef spec1 w)) ↦{fullShare} W5 m c (Proc.devRef .tc (Pipeline.arrRef spec1 w)) := by
  rw [show (data1 m c).arraysAt cfg1.N = _ from RDat.arraysAt_eq (pcfgs (F := F)) adm (data m) 1 c arr_whole1 (share1 m c) cfg1.N]
  refine bigSep_mono fun w _ => (show (_ : sProp 𝕄) ⊢ _ from ?_)
  iintro ⟨%G, %h, H⟩
  rw [← exit1 m c w G h]
  iexact H

/-- Outside the first call's arrays nothing changes. -/
theorem rest0 (c : Dev nD) : (StableHlo.held (c : Thread nD τ) (Pipeline.ucRefs τ sig \ Pipeline.arrRefs spec0) (W4 m c) : sProp 𝕄)
    = StableHlo.held (c : Thread nD τ) (Pipeline.ucRefs τ sig \ Pipeline.arrRefs spec0) (V3 m c) :=
  StableHlo.held_congr (c : Thread nD τ) fun d hd => by
    unfold W4
    refine Function.update_of_ne ?_ _ _
    rintro rfl
    exact (Finset.mem_sdiff.mp hd).2 (Finset.mem_map.mpr ⟨main_v20, Finset.mem_image.mpr ⟨(3 : Fin 4), Finset.mem_univ _, rfl⟩, rfl⟩)

theorem rest1 (c : Dev nD) : (StableHlo.held (c : Thread nD τ) (Pipeline.ucRefs τ sig \ Pipeline.arrRefs spec1) (W5 m c) : sProp 𝕄)
    = StableHlo.held (c : Thread nD τ) (Pipeline.ucRefs τ sig \ Pipeline.arrRefs spec1) (W4 m c) :=
  StableHlo.held_congr (c : Thread nD τ) fun d hd => by
    unfold W5
    refine (Function.update_of_ne ?_ _ _).trans (Function.update_of_ne ?_ _ _)
    · rintro rfl
      exact (Finset.mem_sdiff.mp hd).2 (Finset.mem_map.mpr ⟨main_v21_1, Finset.mem_image.mpr ⟨(5 : Fin 6), Finset.mem_univ _, rfl⟩, rfl⟩)
    · rintro rfl
      exact (Finset.mem_sdiff.mp hd).2 (Finset.mem_map.mpr ⟨main_v21_0, Finset.mem_image.mpr ⟨(4 : Fin 6), Finset.mem_univ _, rfl⟩, rfl⟩)

/-- The first call: its arrays and nothing else of the held buffers; no semaphore of its own. -/
def call0 : RDat.RegionSeg (pcfgs (F := F)) adm (data m) () defs₀ Variants.none noPairs noLevels 0 where
  win := winFacts0.to₀
  block_pos := block_pos0
  stage_whole := stage_whole0
  K := PEmpty
  osem k := k.elim
  ho := Pipeline.OwnSemFacts.none _
  hbody := body0 m
  hwaits c := RDat.hwaits_of_owed_zero (pcfgs (F := F)) adm (data m) () noPairs noLevels 0 (fun _ _ => rfl) c
  pre := Held (V3 m)
  post := Held (W4 m)
  X _ := BI.emp
  Y _ := BI.emp
  Z c := StableHlo.held (c : Thread nD τ) (Pipeline.ucRefs τ sig \ Pipeline.arrRefs spec0) (V3 m c)
  hentry c := by
    show _ ⊢ |={Set.univ}=> iprop((data0 m c).arrays (data0 m c).A ∗ _ ∗ (data0 m c).owesAt () 0 ∗ _ ∗ _)
    rw [Pipeline.ownSems0_none, Pipeline.prefHeld_of_none _ rfl, arrays0]
    unfold Held
    rw [StableHlo.held_sub_split (c : Thread nD τ) sub0 (V3 m c), arrs0_held]
    unfold RDat.owesAt Pipeline.owesWithin
    iintro ⟨⟨⟨Ha, Hr⟩, ⟨%W, HO⟩⟩, -, -⟩
    imodintro
    isplitl [Ha]; · iexact Ha
    isplitr; · iempintro
    isplitl [HO]
    · iexists W
      isplitr; · ipureintro; exact fun _ _ => Or.inl trivial
      iexact HO
    isplitr; · iempintro
    iexact Hr
  hin c := by
    show _ ⊢ Pipeline.scopedRest spec0 c
    iintro ⟨-, -, H⟩
    iexact H
  hout c := by
    show Pipeline.scopedRest spec0 c ⊢ _
    rw [Pipeline.ownSems0_none]
    iintro H
    isplitr; · iempintro
    isplitr; · iempintro
    iexact H
  hexit c := by
    show iprop((data0 m c).arraysAt cfg0.N ∗ (data0 m c).owesAt () (Fin.last cfg0.N) ∗ _ ∗ _) ⊢ _
    unfold Held
    rw [StableHlo.held_sub_split (c : Thread nD τ) sub0 (W4 m c), arrs0_held, rest0]
    unfold RDat.owesAt Pipeline.owesWithin
    iintro ⟨Ha, ⟨%W, -, HO⟩, -, Hr⟩
    ihave Ha := (arraysEnd0 m c) $$ Ha
    imodintro
    isplitl [Ha Hr]
    · isplitl [Ha]; · iexact Ha
      iexact Hr
    iexists W; iexact HO

/-- The matrix, held, beside the buffers the second call does not touch. -/
theorem rest1_split (c : Dev nD) : (StableHlo.held (c : Thread nD τ) (Pipeline.ucRefs τ sig \ Pipeline.arrRefs spec1) (W4 m c) : sProp 𝕄)
    = iprop((QLoc c ↦{fullShare} opQ m c) ∗ StableHlo.held (c : Thread nD τ) ((Pipeline.ucRefs τ sig \ Pipeline.arrRefs spec1) \ {Proc.devRef .tc main_arg1}) (W4 m c)) := by
  rw [StableHlo.held_sub_split (c : Thread nD τ) sub1_arg1 (W4 m c)]
  have e : (StableHlo.held (c : Thread nD τ) {Proc.devRef .tc main_arg1} (W4 m c) : sProp 𝕄) = (QLoc c ↦{fullShare} opQ m c) := by
    unfold StableHlo.held
    rw [bigSep_singleton, W4_arg1]
  rw [e]

/-- The second call's start from what it is given. -/
theorem begin1 (c : Dev nD) : iprop((bigSep Finset.univ fun s : Fin 4 => semVal ((c : Thread nD τ), slotSem s) 0) ∗ (QLoc c ↦{fullShare} opQ m c) ∗ Pipeline.scopedRest spec1 c)
    ⊢ (data1 m c).Φ 0 := by
  show _ ⊢ iprop(State (opQ m c) (opS m c) (projected m c) (opV m c) (opG m c) c 0 ∗ Spare1 c)
  rw [show State (opQ m c) (opS m c) (projected m c) (opV m c) (opG m c) c 0 = Init (opQ m c) c from if_pos rfl, scopedRest1_eq]
  unfold Init Spare1
  rw [ready_join]
  iintro ⟨Hs, HQ, H0, H1, H2, H3, HR, ⟨%f1, HM⟩, ⟨%f2, HI⟩⟩
  ihave HR := (ring_split c) $$ HR
  isplitl [Hs HQ HR HM HI]
  · isplitl [HM]; · iexists f1; rw [owns_whole]; iexact HM
    isplitl [HI]; · iexists f2; rw [owns_whole]; iexact HI
    isplitl [Hs]; · iexact Hs
    isplitl [HR]; · iexact HR
    iexact HQ
  isplitl [H0]; · iexact H0
  isplitl [H1]; · iexact H1
  isplitl [H2]; · iexact H2
  iexact H3

/-- After the last point every slot is idle. -/
theorem lanes_end (Q : S32768x1024.Idx → Elt F .f32) (c : Dev nD) : (bigSep Finset.univ fun s : Fin 4 => Lane c Q s (rounds 16 s) : sProp 𝕄)
    = bigSep Finset.univ fun s : Fin 4 => iprop(∃ f, Ready c Q s f) :=
  bigSep_congr fun s _ => by
    have h : rounds 16 s = 4 := by have := s.isLt; unfold rounds; omega
    rw [h]; exact dif_neg (by decide)

/-- What the second call gives back at its end. -/
theorem finish1 (c : Dev nD) : (data1 m c).Φ (Fin.last cfg1.N)
    ⊢ iprop((QLoc c ↦{fullShare} opQ m c) ∗ (bigSep Finset.univ fun s : Fin 4 => semVal ((c : Thread nD τ), slotSem s) 0) ∗ Pipeline.scopedRest spec1 c) := by
  show iprop(State (opQ m c) (opS m c) (projected m c) (opV m c) (opG m c) c (grid1.N) ∗ Spare1 c) ⊢ _
  rw [N_1, show State (opQ m c) (opS m c) (projected m c) (opV m c) (opG m c) c 16 = Run (opQ m c) (opS m c) (projected m c) (opV m c) (opG m c) c 16 from if_neg (by decide), scopedRest1_eq]
  unfold Run Spare1
  rw [lanes_end, ready_join, owns_whole, owns_whole]
  iintro ⟨⟨HM, HI, Hs, HR, HQ⟩, H0, H1, H2, H3⟩
  ihave HR := (ring_join c) $$ HR
  isplitl [HQ]; · iexact HQ
  isplitl [Hs]; · iexact Hs
  isplitl [H0]; · iexact H0
  isplitl [H1]; · iexact H1
  isplitl [H2]; · iexact H2
  isplitl [H3]; · iexact H3
  isplitl [HR]; · iexact HR
  isplitl [HM]; · iexists _; iexact HM
  iexists _; iexact HI

/-- The second call: its arrays, its ring's four semaphores, and the matrix it reads where it lies. -/
def call1 : RDat.RegionSeg (pcfgs (F := F)) adm (data m) () defs₀ Variants.none noPairs noLevels 1 where
  win := winFacts1.to₀
  block_pos := block_pos1
  stage_whole := stage_whole1
  K := Fin 4
  osem := slotSem
  ho := slotSem_facts
  hbody := body1 m
  hwaits c := RDat.hwaits_of_owed_zero (pcfgs (F := F)) adm (data m) () noPairs noLevels 1 (fun _ _ => rfl) c
  pre := Held (W4 m)
  post := Held (W5 m)
  X c := iprop((bigSep Finset.univ fun s : Fin 4 => semVal ((c : Thread nD τ), slotSem s) 0) ∗ (QLoc c ↦{fullShare} opQ m c))
  Y c := iprop(QLoc c ↦{fullShare} opQ m c)
  Z c := StableHlo.held (c : Thread nD τ) ((Pipeline.ucRefs τ sig \ Pipeline.arrRefs spec1) \ {Proc.devRef .tc main_arg1}) (W4 m c)
  hentry c := by
    show iprop(_ ∗ (bigSep Finset.univ fun s : Fin 4 => semVal ((c : Thread nD τ), slotSem s) 0) ∗ _) ⊢ |={Set.univ}=> iprop((data1 m c).arrays (data1 m c).A ∗ _ ∗ (data1 m c).owesAt () 0 ∗ _ ∗ _)
    rw [Pipeline.prefHeld_of_none _ rfl, arrays1]
    unfold Held
    rw [StableHlo.held_sub_split (c : Thread nD τ) sub1 (W4 m c), arrs1_held, rest1_split]
    unfold RDat.owesAt Pipeline.owesWithin
    iintro ⟨⟨⟨Ha, HQ, Hr⟩, ⟨%W, HO⟩⟩, Hs, -⟩
    imodintro
    isplitl [Ha]; · iexact Ha
    isplitr; · iempintro
    isplitl [HO]
    · iexists W
      isplitr; · ipureintro; exact fun _ _ => Or.inl trivial
      iexact HO
    isplitl [Hs HQ]
    · isplitl [Hs]; · iexact Hs
      iexact HQ
    iexact Hr
  hin c := by
    refine BIBase.Entails.trans ?_ (begin1 m c)
    iintro ⟨⟨Hs, HQ⟩, -, H⟩
    isplitl [Hs]; · iexact Hs
    isplitl [HQ]; · iexact HQ
    iexact H
  hout c := finish1 m c
  hexit c := by
    show iprop((data1 m c).arraysAt cfg1.N ∗ (data1 m c).owesAt () (Fin.last cfg1.N) ∗ _ ∗ _) ⊢ _
    unfold Held
    rw [StableHlo.held_sub_split (c : Thread nD τ) sub1 (W5 m c), arrs1_held, rest1, rest1_split]
    unfold RDat.owesAt Pipeline.owesWithin
    iintro ⟨Ha, ⟨%W, -, HO⟩, HQ, Hr⟩
    ihave Ha := (arraysEnd1 m c) $$ Ha
    imodintro
    isplitl [Ha HQ Hr]
    · isplitl [Ha]; · iexact Ha
      isplitl [HQ]; · iexact HQ
      iexact Hr
    iexists W; iexact HO

end Cert.KernelIdeal.Hand

end

end
-- ==== Proof.Ideal.Launch.lean ====
/-
  The whole program from its launch: it terminates, every buffer that outlives the calls ends at the contents the
  host operations and the two calls give it, and every semaphore counter ends at zero.
-/
module

public import proofs.«01_k».proof.Proof.Ideal.Calls
public import Idealize.ShloMosaic.Lib.Pipeline.Regions

@[expose] public section

set_option maxRecDepth 3908

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (RDat)
open Idealize.ShloMosaic.Rounds Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ)

/-- What rides beside the held buffers: the core owes nothing. -/
abbrev rider : Fin 3 → Dev nD → sProp 𝕄 := fun _ c => iprop(∃ W, owes (c : Thread nD τ) (0 : CellTallies nD τ sig Unit) W)

/-- The program's items: three host stretches, the two calls, the last host operation. -/
abbrev items (c : Dev nD) : List (RDat.Seg (pcfgs (F := F)) adm (data m) () defs₀ Variants.none noPairs noLevels) :=
  [.host (seg0 m Variants.none noPairs noLevels rider), .host (seg1 m Variants.none noPairs noLevels rider), .host (seg2 m Variants.none noPairs noLevels rider),
    .region (call0 m), .region (call1 m), .host (seg5 m (left m) Variants.none noPairs noLevels rider)]

set_option backward.isDefEq.respectTransparency.types false in
/-- Every execution terminates with every buffer that outlives the calls at its final contents and every counter at
    zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V6 m (left m) c b) ∧ r.2.sem = fun _ => 0) := by
  refine RDat.θ_run_regions_kit_dev_sems (pcfgs (F := F)) adm (data m) () cellOf_inj embL defs₀ Variants.none noPairs noLevels m ρ main
    (items m)
    (fun c Q => by
      rewrite [main_chain c, RDat.Seg.run_eq_chain,
        show (items m c).map RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (fun _ => 0) (fun _ _ => rfl) (fun _ => BI.emp)
    (initOf (Pipeline.cells cfgs cellOf_inj) (Pipeline.launchToks cfgs cellOf_inj), 1) ?_
    (T₀ := Held (V0 m))
    (Tₙ := fun c => StableHlo.held (c : Thread nD τ) (Pipeline.ucRefs τ sig) (V6 m (left m) c))
    (hch := fun c => ⟨.rfl, .rfl, .rfl, .rfl, .rfl,
      (show iprop(StableHlo.held (c : Thread nD τ) (Pipeline.ucRefs τ sig) (W5 m c) ∗ rider 2 c) ⊢ iprop(StableHlo.held (c : Thread nD τ) (Pipeline.ucRefs τ sig) (V5 m (left m) c) ∗ rider 2 c) from by rw [V5_left]), .rfl⟩)
    (hinit := ?_)
    (QY := fun c s => ∀ b ∈ Pipeline.ucRefs τ sig, s.mem ((c : Thread nD τ).1, b) = V6 m (left m) c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · iintro ⟨H, -⟩
    imodintro
    iapply (show (bigSep Finset.univ fun c : Dev nD => iprop(unscopedBufs c (fun b => m ((c.tc : Thread nD τ).loc b)) ∗ unscopedSems0 c
          ∗ owes (c : Thread nD τ) (0 : CellTallies nD τ sig Unit) ∅ ∗ Pipeline.launchCred (fun _ => 0) c ∗ prngReg c (ρ c) ∗ BI.emp) : sProp 𝕄) ⊢ bigSep Finset.univ (Held (V0 m)) from
      bigSep_mono fun c _ => (show (_ : sProp 𝕄) ⊢ _ from by
        unfold Held
        rw [← Pipeline.unscopedBufs_held c (V0 m c)]
        iintro ⟨Hb, -, HO, -⟩
        isplitl [Hb]; · iexact Hb
        iexists _; iexact HO))
    iexact H
  · unfold StableHlo.held
    iintro ⟨Hh, HSI⟩
    ihave Hr := (pointsTo_read_all (Pipeline.ucRefs τ sig) (fun b => ((c : Thread nD τ).1, b)) (V6 m (left m) c) s') $$ [Hh HSI]
    · isplitl [Hh] <;> iassumption
    icases Hr with ⟨%h, HSI⟩
    imodintro
    isplitr
    · ipureintro; exact h
    · iexact HSI

/-- A buffer that outlives the calls. -/
theorem outlives (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; exact Bool.false_ne_true⟩

end Cert.KernelIdeal.Hand

end

end
-- ==== Proof.Reference.Ops.lean ====
/- The reference program as lines of host operations: the logits and the key, the noise, and the greatest entry. -/
module

public import proofs.«01_k».proof.Proof.Gen.ReferenceIdeal
public import Idealize.ShloMosaic.Lib.Pipeline.Kit
public import Idealize.ShloMosaic.Lib.Pipeline.Regions

@[expose] public section

set_option maxRecDepth 4000

noncomputable section

namespace Cert.ReferenceIdeal.Hand

open Idealize.ShloMosaic Idealize.ShloMosaic.TcCoe Idealize.SL.Sem
open Facts₀ Facts

variable {F : FTy → Type} [FloatOps F]

/-- The logits, from the arguments, and the two words of the key. -/
abbrev logitOps : List (HloOp τ sig (Elt F)) :=
  [ StableHlo.unary main_arg0 main_v0 ((extractStridedSlice S1x1x1024 ![1, 0, 0] · slices_S2x1x1024_S1x1x1024_1_0_0) : (⟨S2x1x1024, .f32⟩ : BufTy).Contents (Elt F) → (⟨S1x1x1024, .f32⟩ : BufTy).Contents (Elt F)),
    StableHlo.reshape main_v0 main_v1 (rfl : (.f32 : EltTy) = .f32) shapeCasts_S1x1x1024_S1x1024,
    StableHlo.unary main_arg2 main_v2 ((transpose S1024x1024 [1, 0] · transposes_S1024x1024_S1024x1024_1_0) : (⟨S1024x1024, .f32⟩ : BufTy).Contents (Elt F) → (⟨S1024x1024, .f32⟩ : BufTy).Contents (Elt F)),
    StableHlo.binary main_v1 main_v2 main_v3 ((fun l r => Host.dotGeneral dot_S1x1024_S1024x1024_S1x1024_1_0_0_1_n_n none l r) : (⟨S1x1024, .f32⟩ : BufTy).Contents (Elt F) → (⟨S1024x1024, .f32⟩ : BufTy).Contents (Elt F) → (⟨S1x1024, .f32⟩ : BufTy).Contents (Elt F)),
    StableHlo.unary main_arg3 main_v4 (broadcastInDim S1x1024 ![1] bcast_S1024_S1x1024_1 : (⟨S1024, .f32⟩ : BufTy).Contents (Elt F) → (⟨S1x1024, .f32⟩ : BufTy).Contents (Elt F)),
    StableHlo.binary main_v3 main_v4 main_v5 (addf : (⟨S1x1024, .f32⟩ : BufTy).Contents (Elt F) → (⟨S1x1024, .f32⟩ : BufTy).Contents (Elt F) → (⟨S1x1024, .f32⟩ : BufTy).Contents (Elt F)),
    StableHlo.unary main_v5 main_v6 (broadcastInDim S32768x1024 ![0, 1] bcast_S1x1024_S32768x1024_0_1 : (⟨S1x1024, .f32⟩ : BufTy).Contents (Elt F) → (⟨S32768x1024, .f32⟩ : BufTy).Contents (Elt F)),
    StableHlo.binary main_arg1 main_v6 main_v7 (addf : (⟨S32768x1024, .f32⟩ : BufTy).Contents (Elt F) → (⟨S32768x1024, .f32⟩ : BufTy).Contents (Elt F) → (⟨S32768x1024, .f32⟩ : BufTy).Contents (Elt F)),
    StableHlo.unary main_v7 main_v8 (Host.tanh : (⟨S32768x1024, .f32⟩ : BufTy).Contents (Elt F) → (⟨S32768x1024, .f32⟩ : BufTy).Contents (Elt F)),
    StableHlo.unary main_arg4 main_v9 ((transpose S1024x1 [1, 0] · transposes_S1x1024_S1024x1_1_0) : (⟨S1x1024, .f32⟩ : BufTy).Contents (Elt F) → (⟨S1024x1, .f32⟩ : BufTy).Contents (Elt F)),
    StableHlo.binary main_v8 main_v9 main_v10 ((fun l r => Host.dotGeneral dot_S32768x1024_S1024x1_S32768x1_1_0_0_1_n_n none l r) : (⟨S32768x1024, .f32⟩ : BufTy).Contents (Elt F) → (⟨S1024x1, .f32⟩ : BufTy).Contents (Elt F) → (⟨S32768x1, .f32⟩ : BufTy).Contents (Elt F)),
    StableHlo.unary main_arg5 main_v11 (broadcastInDim S1x1 ![1] bcast_S1_S1x1_1 : (⟨S1, .f32⟩ : BufTy).Contents (Elt F) → (⟨S1x1, .f32⟩ : BufTy).Contents (Elt F)),
    StableHlo.unary main_v11 main_v12 (broadcastInDim S32768x1 ![0, 1] bcast_S1x1_S32768x1_0_1 : (⟨S1x1, .f32⟩ : BufTy).Contents (Elt F) → (⟨S32768x1, .f32⟩ : BufTy).Contents (Elt F)),
    StableHlo.binary main_v10 main_v12 main_v13 (addf : (⟨S32768x1, .f32⟩ : BufTy).Contents (Elt F) → (⟨S32768x1, .f32⟩ : BufTy).Contents (Elt F) → (⟨S32768x1, .f32⟩ : BufTy).Contents (Elt F)),
    StableHlo.reshape main_v13 main_v14 (rfl : (.f32 : EltTy) = .f32) shapeCasts_S32768x1_S1x32768,
    StableHlo.unary main_arg6 main_v15 (sitofp .f32 : (⟨S_, .i32⟩ : BufTy).Contents (Elt F) → (⟨S_, .f32⟩ : BufTy).Contents (Elt F)),
    StableHlo.unary main_v15 main_v16 (broadcastInDim S1x32768 ![] bcast_S_S1x32768 : (⟨S_, .f32⟩ : BufTy).Contents (Elt F) → (⟨S1x32768, .f32⟩ : BufTy).Contents (Elt F)),
    StableHlo.binary main_v14 main_v16 main_v17 (Host.divf : (⟨S1x32768, .f32⟩ : BufTy).Contents (Elt F) → (⟨S1x32768, .f32⟩ : BufTy).Contents (Elt F) → (⟨S1x32768, .f32⟩ : BufTy).Contents (Elt F)),
    StableHlo.unary main_v17 main_v18 (Host.tanh : (⟨S1x32768, .f32⟩ : BufTy).Contents (Elt F) → (⟨S1x32768, .f32⟩ : BufTy).Contents (Elt F)),
    StableHlo.unary main_arg7 main_v19 (sitofp .f32 : (⟨S_, .i32⟩ : BufTy).Contents (Elt F) → (⟨S_, .f32⟩ : BufTy).Contents (Elt F)),
    StableHlo.unary main_v19 main_v20 (broadcastInDim S1x32768 ![] bcast_S_S1x32768 : (⟨S_, .f32⟩ : BufTy).Contents (Elt F) → (⟨S1x32768, .f32⟩ : BufTy).Contents (Elt F)),
    StableHlo.binary main_v20 main_v18 main_v21 (mulf : (⟨S1x32768, .f32⟩ : BufTy).Contents (Elt F) → (⟨S1x32768, .f32⟩ : BufTy).Contents (Elt F) → (⟨S1x32768, .f32⟩ : BufTy).Contents (Elt F)),
    StableHlo.nullary main_c (constantI S_ 32 42#32),
    StableHlo.nullary main_c_0 (constantI S_ 32 32#32),
    StableHlo.binary main_c main_c_0 main_v22 (Host.shrui : (⟨S_, .i32⟩ : BufTy).Contents (Elt F) → (⟨S_, .i32⟩ : BufTy).Contents (Elt F) → (⟨S_, .i32⟩ : BufTy).Contents (Elt F)),
    StableHlo.unary main_v22 main_v23 (id : (⟨S_, .i32⟩ : BufTy).Contents (Elt F) → (⟨S_, .i32⟩ : BufTy).Contents (Elt F)),
    StableHlo.unary main_v23 main_v24 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v25 (andi : (⟨S_, .i32⟩ : BufTy).Contents (Elt F) → (⟨S_, .i32⟩ : BufTy).Contents (Elt F) → (⟨S_, .i32⟩ : BufTy).Contents (Elt F)),
    StableHlo.unary main_v25 main_v26 (id : (⟨S_, .i32⟩ : BufTy).Contents (Elt F) → (⟨S_, .i32⟩ : BufTy).Contents (Elt F)),
    StableHlo.unary main_v26 main_v27 (broadcastInDim S1 ![] bcast_S_S1 : (⟨S_, .i32⟩ : BufTy).Contents (Elt F) → (⟨S1, .i32⟩ : BufTy).Contents (Elt F)),
    StableHlo.binary main_v24 main_v27 main_v28 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

set_option maxHeartbeats 40000000 in
/-- The noise from the key. -/
abbrev noiseOps : List (HloOp τ sig (Elt F)) :=
  ( StableHlo.TRef.nullary (.of main_call0_cst : StableHlo.TRef sig ⟨S_, .f32⟩) (constant S_ .f32 0x3F800000#32)
  :: StableHlo.TRef.nullary (.of main_call0_cst_0 : StableHlo.TRef sig ⟨S_, .f32⟩) (constant S_ .f32 0x00800000#32)
  :: StableHlo.TRef.unary (.of main_call0_cst : StableHlo.TRef sig ⟨S_, .f32⟩) (.of main_call0_call0_v0 : StableHlo.TRef sig ⟨S_, .f32⟩) id
  :: StableHlo.TRef.unary (.of main_call0_cst_0 : StableHlo.TRef sig ⟨S_, .f32⟩) (.of main_call0_call0_v1 : StableHlo.TRef sig ⟨S1x1, .f32⟩) (broadcastInDim S1x1 ![] bcast_S_S1x1)
  :: StableHlo.TRef.unary (.of main_call0_call0_v0 : StableHlo.TRef sig ⟨S_, .f32⟩) (.of main_call0_call0_v2 : StableHlo.TRef sig ⟨S1x1, .f32⟩) (broadcastInDim S1x1 ![] bcast_S_S1x1)
  :: StableHlo.TRef.unary (.of main_v28 : StableHlo.TRef sig ⟨S2, .i32⟩) (.of main_call0_call0_v3 : StableHlo.TRef sig ⟨S1, .i32⟩) (extractStridedSlice S1 ![0] · slices_S2_S1_0)
  :: StableHlo.TRef.reshape (.of main_call0_call0_v3 : StableHlo.TRef sig ⟨S1, .i32⟩) (.of main_call0_call0_v4 : StableHlo.TRef sig ⟨S_, .i32⟩) (rfl : (.i32 : EltTy) = .i32) shapeCasts_S1_S_
  :: StableHlo.TRef.unary (.of main_v28 : StableHlo.TRef sig ⟨S2, .i32⟩) (.of main_call0_call0_v5 : StableHlo.TRef sig ⟨S1, .i32⟩) (extractStridedSlice S1 ![1] · slices_S2_S1_1)
  :: StableHlo.TRef.reshape (.of main_call0_call0_v5 : StableHlo.TRef sig ⟨S1, .i32⟩) (.of main_call0_call0_v6 : StableHlo.TRef sig ⟨S_, .i32⟩) (rfl : (.i32 : EltTy) = .i32) shapeCasts_S1_S_
  :: StableHlo.TRef.nullary (.of main_call0_call0_v7 : StableHlo.TRef sig ⟨S1x32768, .i64⟩) (iotaInDim S1x32768 64 0)
  :: StableHlo.TRef.nullary (.of main_call0_call0_v8 : StableHlo.TRef sig ⟨S1x32768, .i64⟩) (iotaInDim S1x32768 64 1)
  :: StableHlo.TRef.nullary (.of main_call0_call0_c : StableHlo.TRef sig ⟨S_, .i64⟩) (constantI S_ 64 32768#64)
  :: StableHlo.TRef.unary (.of main_call0_call0_c : StableHlo.TRef sig ⟨S_, .i64⟩) (.of main_call0_call0_v9 : StableHlo.TRef sig ⟨S1x32768, .i64⟩) (broadcastInDim S1x32768 ![] bcast_S_S1x32768)
  :: StableHlo.TRef.binary (.of main_call0_call0_v9 : StableHlo.TRef sig ⟨S1x32768, .i64⟩) (.of main_call0_call0_v7 : StableHlo.TRef sig ⟨S1x32768, .i64⟩) (.of main_call0_call0_v10 : StableHlo.TRef sig ⟨S1x32768, .i64⟩) muli
  :: StableHlo.TRef.nullary (.of main_call0_call0_c_0 : StableHlo.TRef sig ⟨S_, .i64⟩) (constantI S_ 64 1#64)
  :: StableHlo.TRef.unary (.of main_call0_call0_c_0 : StableHlo.TRef sig ⟨S_, .i64⟩) (.of main_call0_call0_v11 : StableHlo.TRef sig ⟨S1x32768, .i64⟩) (broadcastInDim S1x32768 ![] bcast_S_S1x32768)
  :: StableHlo.TRef.binary (.of main_call0_call0_v11 : StableHlo.TRef sig ⟨S1x32768, .i64⟩) (.of main_call0_call0_v8 : StableHlo.TRef sig ⟨S1x32768, .i64⟩) (.of main_call0_call0_v12 : StableHlo.TRef sig ⟨S1x32768, .i64⟩) muli
  :: StableHlo.TRef.binary (.of main_call0_call0_v10 : StableHlo.TRef sig ⟨S1x32768, .i64⟩) (.of main_call0_call0_v12 : StableHlo.TRef sig ⟨S1x32768, .i64⟩) (.of main_call0_call0_v13 : StableHlo.TRef sig ⟨S1x32768, .i64⟩) addi
  :: StableHlo.TRef.nullary (.of main_call0_call0_c_1 : StableHlo.TRef sig ⟨S_, .i64⟩) (constantI S_ 64 32#64)
  :: StableHlo.TRef.unary (.of main_call0_call0_c_1 : StableHlo.TRef sig ⟨S_, .i64⟩) (.of main_call0_call0_v14 : StableHlo.TRef sig ⟨S1x32768, .i64⟩) (broadcastInDim S1x32768 ![] bcast_S_S1x32768)
  :: StableHlo.TRef.binary (.of main_call0_call0_v13 : StableHlo.TRef sig ⟨S1x32768, .i64⟩) (.of main_call0_call0_v14 : StableHlo.TRef sig ⟨S1x32768, .i64⟩) (.of main_call0_call0_v15 : StableHlo.TRef sig ⟨S1x32768, .i64⟩) Host.shrui
  :: StableHlo.TRef.unary (.of main_call0_call0_v13 : StableHlo.TRef sig ⟨S1x32768, .i64⟩) (.of main_call0_call0_v16 : StableHlo.TRef sig ⟨S1x32768, .i32⟩) (trunci 32 · natLt_32_64)
  :: StableHlo.TRef.unary (.of main_call0_call0_v15 : StableHlo.TRef sig ⟨S1x32768, .i64⟩) (.of main_call0_call0_v17 : StableHlo.TRef sig ⟨S1x32768, .i32⟩) (trunci 32 · natLt_32_64)
  :: StableHlo.TRef.binary (.of main_call0_call0_v4 : StableHlo.TRef sig ⟨S_, .i32⟩) (.of main_call0_call0_v6 : StableHlo.TRef sig ⟨S_, .i32⟩) (.of main_call0_call0_call0_v0 : StableHlo.TRef sig ⟨S_, .i32⟩) xori
  :: StableHlo.TRef.nullary (.of main_call0_call0_call0_c : StableHlo.TRef sig ⟨S_, .i32⟩) (constantI S_ 32 466688986#32)
  :: StableHlo.TRef.binary (.of main_call0_call0_call0_v0 : StableHlo.TRef sig ⟨S_, .i32⟩) (.of main_call0_call0_call0_c : StableHlo.TRef sig ⟨S_, .i32⟩) (.of main_call0_call0_call0_v1 : StableHlo.TRef sig ⟨S_, .i32⟩) xori
  :: StableHlo.TRef.unary (.of main_call0_call0_v4 : StableHlo.TRef sig ⟨S_, .i32⟩) (.of main_call0_call0_call0_v2 : StableHlo.TRef sig ⟨S1x32768, .i32⟩) (broadcastInDim S1x32768 ![] bcast_S_S1x32768)
  :: StableHlo.TRef.binary (.of main_call0_call0_v17 : StableHlo.TRef sig ⟨S1x32768, .i32⟩) (.of main_call0_call0_call0_v2 : StableHlo.TRef sig ⟨S1x32768, .i32⟩) (.of main_call0_call0_call0_v3 : StableHlo.TRef sig ⟨S1x32768, .i32⟩) addi
  :: StableHlo.TRef.unary (.of main_call0_call0_v6 : StableHlo.TRef sig ⟨S_, .i32⟩) (.of main_call0_call0_call0_v4 : StableHlo.TRef sig ⟨S1x32768, .i32⟩) (broadcastInDim S1x32768 ![] bcast_S_S1x32768)
  :: StableHlo.TRef.binary (.of main_call0_call0_v16 : StableHlo.TRef sig ⟨S1x32768, .i32⟩) (.of main_call0_call0_call0_v4 : StableHlo.TRef sig ⟨S1x32768, .i32⟩) (.of main_call0_call0_call0_v5 : StableHlo.TRef sig ⟨S1x32768, .i32⟩) addi
  :: StableHlo.TRef.binary (.of main_call0_call0_call0_v3 : StableHlo.TRef sig ⟨S1x32768, .i32⟩) (.of main_call0_call0_call0_v5 : StableHlo.TRef sig ⟨S1x32768, .i32⟩) (.of main_call0_call0_call0_v6 : StableHlo.TRef sig ⟨S1x32768, .i32⟩) addi
  :: StableHlo.TRef.nullary (.of main_call0_call0_call0_c_0 : StableHlo.TRef sig ⟨S_, .i32⟩) (constantI S_ 32 13#32)
  :: StableHlo.TRef.unary (.of main_call0_call0_call0_c_0 : StableHlo.TRef sig ⟨S_, .i32⟩) (.of main_call0_call0_call0_v7 : StableHlo.TRef sig ⟨S1x32768, .i32⟩) (broadcastInDim S1x32768 ![] bcast_S_S1x32768)
  :: StableHlo.TRef.binary (.of main_call0_call0_call0_v5 : StableHlo.TRef sig ⟨S1x32768, .i32⟩) (.of main_call0_call0_call0_v7 : StableHlo.TRef sig ⟨S1x32768, .i32⟩) (.of main_call0_call0_call0_v8 : StableHlo.TRef sig ⟨S1x32768, .i32⟩) Host.shli
  :: StableHlo.TRef.nullary (.of main_call0_call0_call0_c_1 : StableHlo.TRef sig ⟨S_, .i32⟩) (constantI S_ 32 19#32)
  :: StableHlo.TRef.unary (.of main_call0_call0_call0_c_1 : StableHlo.TRef sig ⟨S_, .i32⟩) (.of main_call0_call0_call0_v9 : StableHlo.TRef sig ⟨S1x32768, .i32⟩) (broadcastInDim S1x32768 ![] bcast_S_S1x32768)
  :: StableHlo.TRef.binary (.of main_call0_call0_call0_v5 : StableHlo.TRef sig ⟨S1x32768, .i32⟩) (.of main_call0_call0_call0_v9 : StableHlo.TRef sig ⟨S1x32768, .i32⟩) (.of main_call0_call0_call0_v10 : StableHlo.TRef sig ⟨S1x32768, .i32⟩) Host.shrui
  :: StableHlo.TRef.binary (.of main_call0_call0_call0_v8 : StableHlo.TRef sig ⟨S1x32768, .i32⟩) (.of main_call0_call0_call0_v10 : StableHlo.TRef sig ⟨S1x32768, .i32⟩) (.of main_call0_call0_call0_v11 : StableHlo.TRef sig ⟨S1x32768, .i32⟩) ori
  :: StableHlo.TRef.binary (.of main_call0_call0_call0_v6 : StableHlo.TRef sig ⟨S1x32768, .i32⟩) (.of main_call0_call0_call0_v11 : StableHlo.TRef sig ⟨S1x32768, .i32⟩) (.of main_call0_call0_call0_v12 : StableHlo.TRef sig ⟨S1x32768, .i32⟩) xori
  :: StableHlo.TRef.binary (.of main_call0_call0_call0_v6 : StableHlo.TRef sig ⟨S1x32768, .i32⟩) (.of main_call0_call0_call0_v12 : StableHlo.TRef sig ⟨S1x32768, .i32⟩) (.of main_call0_call0_call0_v13 : StableHlo.TRef sig ⟨S1x32768, .i32⟩) addi
  :: StableHlo.TRef.nullary (.of main_call0_call0_call0_c_2 : StableHlo.TRef sig ⟨S_, .i32⟩) (constantI S_ 32 15#32)
  :: StableHlo.TRef.unary (.of main_call0_call0_call0_c_2 : StableHlo.TRef sig ⟨S_, .i32⟩) (.of main_call0_call0_call0_v14 : StableHlo.TRef sig ⟨S1x32768, .i32⟩) (broadcastInDim S1x32768 ![] bcast_S_S1x32768)
  :: StableHlo.TRef.binary (.of main_call0_call0_call0_v12 : StableHlo.TRef sig ⟨S1x32768, .i32⟩) (.of main_call0_call0_call0_v14 : StableHlo.TRef sig ⟨S1x32768, .i32⟩) (.of main_call0_call0_call0_v15 : StableHlo.TRef sig ⟨S1x32768, .i32⟩) Host.shli
  :: StableHlo.TRef.nullary (.of main_call0_call0_call0_c_3 : StableHlo.TRef sig ⟨S_, .i32⟩) (constantI S_ 32 17#32)
  :: StableHlo.TRef.unary (.of main_call0_call0_call0_c_3 : StableHlo.TRef sig ⟨S_, .i32⟩) (.of main_call0_call0_call0_v16 : StableHlo.TRef sig ⟨S1x32768, .i32⟩) (broadcastInDim S1x32768 ![] bcast_S_S1x32768)
  :: StableHlo.TRef.binary (.of main_call0_call0_call0_v12 : StableHlo.TRef sig ⟨S1x32768, .i32⟩) (.of main_call0_call0_call0_v16 : StableHlo.TRef sig ⟨S1x32768, .i32⟩) (.of main_call0_call0_call0_v17 : StableHlo.TRef sig ⟨S1x32768, .i32⟩) Host.shrui
  :: StableHlo.TRef.binary (.of main_call0_call0_call0_v15 : StableHlo.TRef sig ⟨S1x32768, .i32⟩) (.of main_call0_call0_call0_v17 : StableHlo.TRef sig ⟨S1x32768, .i32⟩) (.of main_call0_call0_call0_v18 : StableHlo.TRef sig ⟨S1x32768, .i32⟩) ori
  :: StableHlo.TRef.binary (.of main_call0_call0_call0_v13 : StableHlo.TRef sig ⟨S1x32768, .i32⟩) (.of main_call0_call0_call0_v18 : StableHlo.TRef sig ⟨S1x32768, .i32⟩) (.of main_call0_call0_call0_v19 : StableHlo.TRef sig ⟨S1x32768, .i32⟩) xori
  :: StableHlo.TRef.binary (.of main_call0_call0_call0_v13 : StableHlo.TRef sig ⟨S1x32768, .i32⟩) (.of main_call0_call0_call0_v19 : StableHlo.TRef sig ⟨S1x32768, .i32⟩) (.of main_call0_call0_call0_v20 : StableHlo.TRef sig ⟨S1x32768, .i32⟩) addi
  :: StableHlo.TRef.nullary (.of main_call0_call0_call0_c_4 : StableHlo.TRef sig ⟨S_, .i32⟩) (constantI S_ 32 26#32)
  :: StableHlo.TRef.unary (.of main_call0_call0_call0_c_4 : StableHlo.TRef sig ⟨S_, .i32⟩) (.of main_call0_call0_call0_v21 : StableHlo.TRef sig ⟨S1x32768, .i32⟩) (broadcastInDim S1x32768 ![] bcast_S_S1x32768)
  :: StableHlo.TRef.binary (.of main_call0_call0_call0_v19 : StableHlo.TRef sig ⟨S1x32768, .i32⟩) (.of main_call0_call0_call0_v21 : StableHlo.TRef sig ⟨S1x32768, .i32⟩) (.of main_call0_call0_call0_v22 : StableHlo.TRef sig ⟨S1x32768, .i32⟩) Host.shli
  :: StableHlo.TRef.nullary (.of main_call0_call0_call0_c_5 : StableHlo.TRef sig ⟨S_, .i32⟩) (constantI S_ 32 6#32)
  :: StableHlo.TRef.unary (.of main_call0_call0_call0_c_5 : StableHlo.TRef sig ⟨S_, .i32⟩) (.of main_call0_call0_call0_v23 : StableHlo.TRef sig ⟨S1x32768, .i32⟩) (broadcastInDim S1x32768 ![] bcast_S_S1x32768)
  :: StableHlo.TRef.binary (.of main_call0_call0_call0_v19 : StableHlo.TRef sig ⟨S1x32768, .i32⟩) (.of main_call0_call0_call0_v23 : StableHlo.TRef sig ⟨S1x32768, .i32⟩) (.of main_call0_call0_call0_v24 : StableHlo.TRef sig ⟨S1x32768, .i32⟩) Host.shrui
  :: StableHlo.TRef.binary (.of main_call0_call0_call0_v22 : StableHlo.TRef sig ⟨S1x32768, .i32⟩) (.of main_call0_call0_call0_v24 : StableHlo.TRef sig ⟨S1x32768, .i32⟩) (.of main_call0_call0_call0_v25 : StableHlo.TRef sig ⟨S1x32768, .i32⟩) ori
  :: StableHlo.TRef.binary (.of main_call0_call0_call0_v20 : StableHlo.TRef sig ⟨S1x32768, .i32⟩) (.of main_call0_call0_call0_v25 : StableHlo.TRef sig ⟨S1x32768, .i32⟩) (.of main_call0_call0_call0_v26 : StableHlo.TRef sig ⟨S1x32768, .i32⟩) xori
  :: StableHlo.TRef.binary (.of main_call0_call0_call0_v20 : StableHlo.TRef sig ⟨S1x32768, .i32⟩) (.of main_call0_call0_call0_v26 : StableHlo.TRef sig ⟨S1x32768, .i32⟩) (.of main_call0_call0_call0_v27 : StableHlo.TRef sig ⟨S1x32768, .i32⟩) addi
  :: StableHlo.TRef.nullary (.of main_call0_call0_call0_c_6 : StableHlo.TRef sig ⟨S_, .i32⟩) (constantI S_ 32 6#32)
  :: StableHlo.TRef.unary (.of main_call0_call0_call0_c_6 : StableHlo.TRef sig ⟨S_, .i32⟩) (.of main_call0_call0_call0_v28 : StableHlo.TRef sig ⟨S1x32768, .i32⟩) (broadcastInDim S1x32768 ![] bcast_S_S1x32768)
  :: StableHlo.TRef.binary (.of main_call0_call0_call0_v26 : StableHlo.TRef sig ⟨S1x32768, .i32⟩) (.of main_call0_call0_call0_v28 : StableHlo.TRef sig ⟨S1x32768, .i32⟩) (.of main_call0_call0_call0_v29 : StableHlo.TRef sig ⟨S1x32768, .i32⟩) Host.shli
  :: StableHlo.TRef.nullary (.of main_call0_call0_call0_c_7 : StableHlo.TRef sig ⟨S_, .i32⟩) (constantI S_ 32 26#32)
  :: StableHlo.TRef.unary (.of main_call0_call0_call0_c_7 : StableHlo.TRef sig ⟨S_, .i32⟩) (.of main_call0_call0_call0_v30 : StableHlo.TRef sig ⟨S1x32768, .i32⟩) (broadcastInDim S1x32768 ![] bcast_S_S1x32768)
  :: StableHlo.TRef.binary (.of main_call0_call0_call0_v26 : StableHlo.TRef sig ⟨S1x32768, .i32⟩) (.of main_call0_call0_call0_v30 : StableHlo.TRef sig ⟨S1x32768, .i32⟩) (.of main_call0_call0_call0_v31 : StableHlo.TRef sig ⟨S1x32768, .i32⟩) Host.shrui
  :: StableHlo.TRef.binary (.of main_call0_call0_call0_v29 : StableHlo.TRef sig ⟨S1x32768, .i32⟩) (.of main_call0_call0_call0_v31 : StableHlo.TRef sig ⟨S1x32768, .i32⟩) (.of main_call0_call0_call0_v32 : StableHlo.TRef sig ⟨S1x32768, .i32⟩) ori
  :: StableHlo.TRef.binary (.of main_call0_call0_call0_v27 : StableHlo.TRef sig ⟨S1x32768, .i32⟩) (.of main_call0_call0_call0_v32 : StableHlo.TRef sig ⟨S1x32768, .i32⟩) (.of main_call0_call0_call0_v33 : StableHlo.TRef sig ⟨S1x32768, .i32⟩) xori
  :: StableHlo.TRef.unary (.of main_call0_call0_v6 : StableHlo.TRef sig ⟨S_, .i32⟩) (.of main_call0_call0_call0_v34 : StableHlo.TRef sig ⟨S1x32768, .i32⟩) (broadcastInDim S1x32768 ![] bcast_S_S1x32768)
  :: StableHlo.TRef.binary (.of main_call0_call0_call0_v27 : StableHlo.TRef sig ⟨S1x32768, .i32⟩) (.of main_call0_call0_call0_v34 : StableHlo.TRef sig ⟨S1x32768, .i32⟩) (.of main_call0_call0_call0_v35 : StableHlo.TRef sig ⟨S1x32768, .i32⟩) addi
  :: StableHlo.TRef.unary (.of main_call0_call0_call0_v1 : StableHlo.TRef sig ⟨S_, .i32⟩) (.of main_call0_call0_call0_v36 : StableHlo.TRef sig ⟨S1x32768, .i32⟩) (broadcastInDim S1x32768 ![] bcast_S_S1x32768)
  :: StableHlo.TRef.binary (.of main_call0_call0_call0_v33 : StableHlo.TRef sig ⟨S1x32768, .i32⟩) (.of main_call0_call0_call0_v36 : StableHlo.TRef sig ⟨S1x32768, .i32⟩) (.of main_call0_call0_call0_v37 : StableHlo.TRef sig ⟨S1x32768, .i32⟩) addi
  :: StableHlo.TRef.nullary (.of main_call0_call0_call0_c_8 : StableHlo.TRef sig ⟨S_, .i32⟩) (constantI S_ 32 1#32)
  :: StableHlo.TRef.unary (.of main_call0_call0_call0_c_8 : StableHlo.TRef sig ⟨S_, .i32⟩) (.of main_call0_call0_call0_v38 : StableHlo.TRef sig ⟨S1x32768, .i32⟩) (broadcastInDim S1x32768 ![] bcast_S_S1x32768)
  :: StableHlo.TRef.binary (.of main_call0_call0_call0_v37 : StableHlo.TRef sig ⟨S1x32768, .i32⟩) (.of main_call0_call0_call0_v38 : StableHlo.TRef sig ⟨S1x32768, .i32⟩) (.of main_call0_call0_call0_v39 : StableHlo.TRef sig ⟨S1x32768, .i32⟩) addi
  :: StableHlo.TRef.binary (.of main_call0_call0_call0_v35 : StableHlo.TRef sig ⟨S1x32768, .i32⟩) (.of main_call0_call0_call0_v39 : StableHlo.TRef sig ⟨S1x32768, .i32⟩) (.of main_call0_call0_call0_v40 : StableHlo.TRef sig ⟨S1x32768, .i32⟩) addi
  :: StableHlo.TRef.nullary (.of main_call0_call0_call0_c_9 : StableHlo.TRef sig ⟨S_, .i32⟩) (constantI S_ 32 17#32)
  :: StableHlo.TRef.unary (.of main_call0_call0_call0_c_9 : StableHlo.TRef sig ⟨S_, .i32⟩) (.of main_call0_call0_call0_v41 : StableHlo.TRef sig ⟨S1x32768, .i32⟩) (broadcastInDim S1x32768 ![] bcast_S_S1x32768)
  :: StableHlo.TRef.binary (.of main_call0_call0_call0_v39 : StableHlo.TRef sig ⟨S1x32768, .i32⟩) (.of main_call0_call0_call0_v41 : StableHlo.TRef sig ⟨S1x32768, .i32⟩) (.of main_call0_call0_call0_v42 : StableHlo.TRef sig ⟨S1x32768, .i32⟩) Host.shli
  :: StableHlo.TRef.nullary (.of main_call0_call0_call0_c_10 : StableHlo.TRef sig ⟨S_, .i32⟩) (constantI S_ 32 15#32)
  :: StableHlo.TRef.unary (.of main_call0_call0_call0_c_10 : StableHlo.TRef sig ⟨S_, .i32⟩) (.of main_call0_call0_call0_v43 : StableHlo.TRef sig ⟨S1x32768, .i32⟩) (broadcastInDim S1x32768 ![] bcast_S_S1x32768)
  :: StableHlo.TRef.binary (.of main_call0_call0_call0_v39 : StableHlo.TRef sig ⟨S1x32768, .i32⟩) (.of main_call0_call0_call0_v43 : StableHlo.TRef sig ⟨S1x32768, .i32⟩) (.of main_call0_call0_call0_v44 : StableHlo.TRef sig ⟨S1x32768, .i32⟩) Host.shrui
  :: StableHlo.TRef.binary (.of main_call0_call0_call0_v42 : StableHlo.TRef sig ⟨S1x32768, .i32⟩) (.of main_call0_call0_call0_v44 : StableHlo.TRef sig ⟨S1x32768, .i32⟩) (.of main_call0_call0_call0_v45 : StableHlo.TRef sig ⟨S1x32768, .i32⟩) ori
  :: StableHlo.TRef.binary (.of main_call0_call0_call0_v40 : StableHlo.TRef sig ⟨S1x32768, .i32⟩) (.of main_call0_call0_call0_v45 : StableHlo.TRef sig ⟨S1x32768, .i32⟩) (.of main_call0_call0_call0_v46 : StableHlo.TRef sig ⟨S1x32768, .i32⟩) xori
  :: StableHlo.TRef.binary (.of main_call0_call0_call0_v40 : StableHlo.TRef sig ⟨S1x32768, .i32⟩) (.of main_call0_call0_call0_v46 : StableHlo.TRef sig ⟨S1x32768, .i32⟩) (.of main_call0_call0_call0_v47 : StableHlo.TRef sig ⟨S1x32768, .i32⟩) addi
  :: StableHlo.TRef.nullary (.of main_call0_call0_call0_c_11 : StableHlo.TRef sig ⟨S_, .i32⟩) (constantI S_ 32 29#32)
  :: StableHlo.TRef.unary (.of main_call0_call0_call0_c_11 : StableHlo.TRef sig ⟨S_, .i32⟩) (.of main_call0_call0_call0_v48 : StableHlo.TRef sig ⟨S1x32768, .i32⟩) (broadcastInDim S1x32768 ![] bcast_S_S1x32768)
  :: StableHlo.TRef.binary (.of main_call0_call0_call0_v46 : StableHlo.TRef sig ⟨S1x32768, .i32⟩) (.of main_call0_call0_call0_v48 : StableHlo.TRef sig ⟨S1x32768, .i32⟩) (.of main_call0_call0_call0_v49 : StableHlo.TRef sig ⟨S1x32768, .i32⟩) Host.shli
  :: StableHlo.TRef.nullary (.of main_call0_call0_call0_c_12 : StableHlo.TRef sig ⟨S_, .i32⟩) (constantI S_ 32 3#32)
  :: StableHlo.TRef.unary (.of main_call0_call0_call0_c_12 : StableHlo.TRef sig ⟨S_, .i32⟩) (.of main_call0_call0_call0_v50 : StableHlo.TRef sig ⟨S1x32768, .i32⟩) (broadcastInDim S1x32768 ![] bcast_S_S1x32768)
  :: StableHlo.TRef.binary (.of main_call0_call0_call0_v46 : StableHlo.TRef sig ⟨S1x32768, .i32⟩) (.of main_call0_call0_call0_v50 : StableHlo.TRef sig ⟨S1x32768, .i32⟩) (.of main_call0_call0_call0_v51 : StableHlo.TRef sig ⟨S1x32768, .i32⟩) Host.shrui
  :: StableHlo.TRef.binary (.of main_call0_call0_call0_v49 : StableHlo.TRef sig ⟨S1x32768, .i32⟩) (.of main_call0_call0_call0_v51 : StableHlo.TRef sig ⟨S1x32768, .i32⟩) (.of main_call0_call0_call0_v52 : StableHlo.TRef sig ⟨S1x32768, .i32⟩) ori
  :: StableHlo.TRef.binary (.of main_call0_call0_call0_v47 : StableHlo.TRef sig ⟨S1x32768, .i32⟩) (.of main_call0_call0_call0_v52 : StableHlo.TRef sig ⟨S1x32768, .i32⟩) (.of main_call0_call0_call0_v53 : StableHlo.TRef sig ⟨S1x32768, .i32⟩) xori
  :: StableHlo.TRef.binary (.of main_call0_call0_call0_v47 : StableHlo.TRef sig ⟨S1x32768, .i32⟩) (.of main_call0_call0_call0_v53 : StableHlo.TRef sig ⟨S1x32768, .i32⟩) (.of main_call0_call0_call0_v54 : StableHlo.TRef sig ⟨S1x32768, .i32⟩) addi
  :: StableHlo.TRef.nullary (.of main_call0_call0_call0_c_13 : StableHlo.TRef sig ⟨S_, .i32⟩) (constantI S_ 32 16#32)
  :: StableHlo.TRef.unary (.of main_call0_call0_call0_c_13 : StableHlo.TRef sig ⟨S_, .i32⟩) (.of main_call0_call0_call0_v55 : StableHlo.TRef sig ⟨S1x32768, .i32⟩) (broadcastInDim S1x32768 ![] bcast_S_S1x32768)
  :: StableHlo.TRef.binary (.of main_call0_call0_call0_v53 : StableHlo.TRef sig ⟨S1x32768, .i32⟩) (.of main_call0_call0_call0_v55 : StableHlo.TRef sig ⟨S1x32768, .i32⟩) (.of main_call0_call0_call0_v56 : StableHlo.TRef sig ⟨S1x32768, .i32⟩) Host.shli
  :: StableHlo.TRef.nullary (.of main_call0_call0_call0_c_14 : StableHlo.TRef sig ⟨S_, .i32⟩) (constantI S_ 32 16#32)
  :: StableHlo.TRef.unary (.of main_call0_call0_call0_c_14 : StableHlo.TRef sig ⟨S_, .i32⟩) (.of main_call0_call0_call0_v57 : StableHlo.TRef sig ⟨S1x32768, .i32⟩) (broadcastInDim S1x32768 ![] bcast_S_S1x32768)
  :: StableHlo.TRef.binary (.of main_call0_call0_call0_v53 : StableHlo.TRef sig ⟨S1x32768, .i32⟩) (.of main_call0_call0_call0_v57 : StableHlo.TRef sig ⟨S1x32768, .i32⟩) (.of main_call0_call0_call0_v58 : StableHlo.TRef sig ⟨S1x32768, .i32⟩) Host.shrui
  :: StableHlo.TRef.binary (.of main_call0_call0_call0_v56 : StableHlo.TRef sig ⟨S1x32768, .i32⟩) (.of main_call0_call0_call0_v58 : StableHlo.TRef sig ⟨S1x32768, .i32⟩) (.of main_call0_call0_call0_v59 : StableHlo.TRef sig ⟨S1x32768, .i32⟩) ori
  :: StableHlo.TRef.binary (.of main_call0_call0_call0_v54 : StableHlo.TRef sig ⟨S1x32768, .i32⟩) (.of main_call0_call0_call0_v59 : StableHlo.TRef sig ⟨S1x32768, .i32⟩) (.of main_call0_call0_call0_v60 : StableHlo.TRef sig ⟨S1x32768, .i32⟩) xori
  :: StableHlo.TRef.binary (.of main_call0_call0_call0_v54 : StableHlo.TRef sig ⟨S1x32768, .i32⟩) (.of main_call0_call0_call0_v60 : StableHlo.TRef sig ⟨S1x32768, .i32⟩) (.of main_call0_call0_call0_v61 : StableHlo.TRef sig ⟨S1x32768, .i32⟩) addi
  :: StableHlo.TRef.nullary (.of main_call0_call0_call0_c_15 : StableHlo.TRef sig ⟨S_, .i32⟩) (constantI S_ 32 24#32)
  :: StableHlo.TRef.unary (.of main_call0_call0_call0_c_15 : StableHlo.TRef sig ⟨S_, .i32⟩) (.of main_call0_call0_call0_v62 : StableHlo.TRef sig ⟨S1x32768, .i32⟩) (broadcastInDim S1x32768 ![] bcast_S_S1x32768)
  :: StableHlo.TRef.binary (.of main_call0_call0_call0_v60 : StableHlo.TRef sig ⟨S1x32768, .i32⟩) (.of main_call0_call0_call0_v62 : StableHlo.TRef sig ⟨S1x32768, .i32⟩) (.of main_call0_call0_call0_v63 : StableHlo.TRef sig ⟨S1x32768, .i32⟩) Host.shli
  :: StableHlo.TRef.nullary (.of main_call0_call0_call0_c_16 : StableHlo.TRef sig ⟨S_, .i32⟩) (constantI S_ 32 8#32)
  :: StableHlo.TRef.unary (.of main_call0_call0_call0_c_16 : StableHlo.TRef sig ⟨S_, .i32⟩) (.of main_call0_call0_call0_v64 : StableHlo.TRef sig ⟨S1x32768, .i32⟩) (broadcastInDim S1x32768 ![] bcast_S_S1x32768)
  :: StableHlo.TRef.binary (.of main_call0_call0_call0_v60 : StableHlo.TRef sig ⟨S1x32768, .i32⟩) (.of main_call0_call0_call0_v64 : StableHlo.TRef sig ⟨S1x32768, .i32⟩) (.of main_call0_call0_call0_v65 : StableHlo.TRef sig ⟨S1x32768, .i32⟩) Host.shrui
  :: StableHlo.TRef.binary (.of main_call0_call0_call0_v63 : StableHlo.TRef sig ⟨S1x32768, .i32⟩) (.of main_call0_call0_call0_v65 : StableHlo.TRef sig ⟨S1x32768, .i32⟩) (.of main_call0_call0_call0_v66 : StableHlo.TRef sig ⟨S1x32768, .i32⟩) ori
  :: StableHlo.TRef.binary (.of main_call0_call0_call0_v61 : StableHlo.TRef sig ⟨S1x32768, .i32⟩) (.of main_call0_call0_call0_v66 : StableHlo.TRef sig ⟨S1x32768, .i32⟩) (.of main_call0_call0_call0_v67 : StableHlo.TRef sig ⟨S1x32768, .i32⟩) xori
  :: StableHlo.TRef.unary (.of main_call0_call0_call0_v1 : StableHlo.TRef sig ⟨S_, .i32⟩) (.of main_call0_call0_call0_v68 : StableHlo.TRef sig ⟨S1x32768, .i32⟩) (broadcastInDim S1x32768 ![] bcast_S_S1x32768)
  :: StableHlo.TRef.binary (.of main_call0_call0_call0_v61 : StableHlo.TRef sig ⟨S1x32768, .i32⟩) (.of main_call0_call0_call0_v68 : StableHlo.TRef sig ⟨S1x32768, .i32⟩) (.of main_call0_call0_call0_v69 : StableHlo.TRef sig ⟨S1x32768, .i32⟩) addi
  :: StableHlo.TRef.unary (.of main_call0_call0_v4 : StableHlo.TRef sig ⟨S_, .i32⟩) (.of main_call0_call0_call0_v70 : StableHlo.TRef sig ⟨S1x32768, .i32⟩) (broadcastInDim S1x32768 ![] bcast_S_S1x32768)
  :: StableHlo.TRef.binary (.of main_call0_call0_call0_v67 : StableHlo.TRef sig ⟨S1x32768, .i32⟩) (.of main_call0_call0_call0_v70 : StableHlo.TRef sig ⟨S1x32768, .i32⟩) (.of main_call0_call0_call0_v71 : StableHlo.TRef sig ⟨S1x32768, .i32⟩) addi
  :: StableHlo.TRef.nullary (.of main_call0_call0_call0_c_17 : StableHlo.TRef sig ⟨S_, .i32⟩) (constantI S_ 32 2#32)
  :: StableHlo.TRef.unary (.of main_call0_call0_call0_c_17 : StableHlo.TRef sig ⟨S_, .i32⟩) (.of main_call0_call0_call0_v72 : StableHlo.TRef sig ⟨S1x32768, .i32⟩) (broadcastInDim S1x32768 ![] bcast_S_S1x32768)
  :: StableHlo.TRef.binary (.of main_call0_call0_call0_v71 : StableHlo.TRef sig ⟨S1x32768, .i32⟩) (.of main_call0_call0_call0_v72 : StableHlo.TRef sig ⟨S1x32768, .i32⟩) (.of main_call0_call0_call0_v73 : StableHlo.TRef sig ⟨S1x32768, .i32⟩) addi
  :: StableHlo.TRef.binary (.of main_call0_call0_call0_v69 : StableHlo.TRef sig ⟨S1x32768, .i32⟩) (.of main_call0_call0_call0_v73 : StableHlo.TRef sig ⟨S1x32768, .i32⟩) (.of main_call0_call0_call0_v74 : StableHlo.TRef sig ⟨S1x32768, .i32⟩) addi
  :: StableHlo.TRef.nullary (.of main_call0_call0_call0_c_18 : StableHlo.TRef sig ⟨S_, .i32⟩) (constantI S_ 32 13#32)
  :: StableHlo.TRef.unary (.of main_call0_call0_call0_c_18 : StableHlo.TRef sig ⟨S_, .i32⟩) (.of main_call0_call0_call0_v75 : StableHlo.TRef sig ⟨S1x32768, .i32⟩) (broadcastInDim S1x32768 ![] bcast_S_S1x32768)
  :: StableHlo.TRef.binary (.of main_call0_call0_call0_v73 : StableHlo.TRef sig ⟨S1x32768, .i32⟩) (.of main_call0_call0_call0_v75 : StableHlo.TRef sig ⟨S1x32768, .i32⟩) (.of main_call0_call0_call0_v76 : StableHlo.TRef sig ⟨S1x32768, .i32⟩) Host.shli
  :: StableHlo.TRef.nullary (.of main_call0_call0_call0_c_19 : StableHlo.TRef sig ⟨S_, .i32⟩) (constantI S_ 32 19#32)
  :: StableHlo.TRef.unary (.of main_call0_call0_call0_c_19 : StableHlo.TRef sig ⟨S_, .i32⟩) (.of main_call0_call0_call0_v77 : StableHlo.TRef sig ⟨S1x32768, .i32⟩) (broadcastInDim S1x32768 ![] bcast_S_S1x32768)
  :: StableHlo.TRef.binary (.of main_call0_call0_call0_v73 : StableHlo.TRef sig ⟨S1x32768, .i32⟩) (.of main_call0_call0_call0_v77 : StableHlo.TRef sig ⟨S1x32768, .i32⟩) (.of main_call0_call0_call0_v78 : StableHlo.TRef sig ⟨S1x32768, .i32⟩) Host.shrui
  :: StableHlo.TRef.binary (.of main_call0_call0_call0_v76 : StableHlo.TRef sig ⟨S1x32768, .i32⟩) (.of main_call0_call0_call0_v78 : StableHlo.TRef sig ⟨S1x32768, .i32⟩) (.of main_call0_call0_call0_v79 : StableHlo.TRef sig ⟨S1x32768, .i32⟩) ori
  :: StableHlo.TRef.binary (.of main_call0_call0_call0_v74 : StableHlo.TRef sig ⟨S1x32768, .i32⟩) (.of main_call0_call0_call0_v79 : StableHlo.TRef sig ⟨S1x32768, .i32⟩) (.of main_call0_call0_call0_v80 : StableHlo.TRef sig ⟨S1x32768, .i32⟩) xori
  :: StableHlo.TRef.binary (.of main_call0_call0_call0_v74 : StableHlo.TRef sig ⟨S1x32768, .i32⟩) (.of main_call0_call0_call0_v80 : StableHlo.TRef sig ⟨S1x32768, .i32⟩) (.of main_call0_call0_call0_v81 : StableHlo.TRef sig ⟨S1x32768, .i32⟩) addi
  :: StableHlo.TRef.nullary (.of main_call0_call0_call0_c_20 : StableHlo.TRef sig ⟨S_, .i32⟩) (constantI S_ 32 15#32)
  :: StableHlo.TRef.unary (.of main_call0_call0_call0_c_20 : StableHlo.TRef sig ⟨S_, .i32⟩) (.of main_call0_call0_call0_v82 : StableHlo.TRef sig ⟨S1x32768, .i32⟩) (broadcastInDim S1x32768 ![] bcast_S_S1x32768)
  :: StableHlo.TRef.binary (.of main_call0_call0_call0_v80 : StableHlo.TRef sig ⟨S1x32768, .i32⟩) (.of main_call0_call0_call0_v82 : StableHlo.TRef sig ⟨S1x32768, .i32⟩) (.of main_call0_call0_call0_v83 : StableHlo.TRef sig ⟨S1x32768, .i32⟩) Host.shli
  :: StableHlo.TRef.nullary (.of main_call0_call0_call0_c_21 : StableHlo.TRef sig ⟨S_, .i32⟩) (constantI S_ 32 17#32)
  :: StableHlo.TRef.unary (.of main_call0_call0_call0_c_21 : StableHlo.TRef sig ⟨S_, .i32⟩) (.of main_call0_call0_call0_v84 : StableHlo.TRef sig ⟨S1x32768, .i32⟩) (broadcastInDim S1x32768 ![] bcast_S_S1x32768)
  :: StableHlo.TRef.binary (.of main_call0_call0_call0_v80 : StableHlo.TRef sig ⟨S1x32768, .i32⟩) (.of main_call0_call0_call0_v84 : StableHlo.TRef sig ⟨S1x32768, .i32⟩) (.of main_call0_call0_call0_v85 : StableHlo.TRef sig ⟨S1x32768, .i32⟩) Host.shrui
  :: StableHlo.TRef.binary (.of main_call0_call0_call0_v83 : StableHlo.TRef sig ⟨S1x32768, .i32⟩) (.of main_call0_call0_call0_v85 : StableHlo.TRef sig ⟨S1x32768, .i32⟩) (.of main_call0_call0_call0_v86 : StableHlo.TRef sig ⟨S1x32768, .i32⟩) ori
  :: StableHlo.TRef.binary (.of main_call0_call0_call0_v81 : StableHlo.TRef sig ⟨S1x32768, .i32⟩) (.of main_call0_call0_call0_v86 : StableHlo.TRef sig ⟨S1x32768, .i32⟩) (.of main_call0_call0_call0_v87 : StableHlo.TRef sig ⟨S1x32768, .i32⟩) xori
  :: StableHlo.TRef.binary (.of main_call0_call0_call0_v81 : StableHlo.TRef sig ⟨S1x32768, .i32⟩) (.of main_call0_call0_call0_v87 : StableHlo.TRef sig ⟨S1x32768, .i32⟩) (.of main_call0_call0_call0_v88 : StableHlo.TRef sig ⟨S1x32768, .i32⟩) addi
  :: StableHlo.TRef.nullary (.of main_call0_call0_call0_c_22 : StableHlo.TRef sig ⟨S_, .i32⟩) (constantI S_ 32 26#32)
  :: StableHlo.TRef.unary (.of main_call0_call0_call0_c_22 : StableHlo.TRef sig ⟨S_, .i32⟩) (.of main_call0_call0_call0_v89 : StableHlo.TRef sig ⟨S1x32768, .i32⟩) (broadcastInDim S1x32768 ![] bcast_S_S1x32768)
  :: StableHlo.TRef.binary (.of main_call0_call0_call0_v87 : StableHlo.TRef sig ⟨S1x32768, .i32⟩) (.of main_call0_call0_call0_v89 : StableHlo.TRef sig ⟨S1x32768, .i32⟩) (.of main_call0_call0_call0_v90 : StableHlo.TRef sig ⟨S1x32768, .i32⟩) Host.shli
  :: StableHlo.TRef.nullary (.of main_call0_call0_call0_c_23 : StableHlo.TRef sig ⟨S_, .i32⟩) (constantI S_ 32 6#32)
  :: StableHlo.TRef.unary (.of main_call0_call0_call0_c_23 : StableHlo.TRef sig ⟨S_, .i32⟩) (.of main_call0_call0_call0_v91 : StableHlo.TRef sig ⟨S1x32768, .i32⟩) (broadcastInDim S1x32768 ![] bcast_S_S1x32768)
  :: StableHlo.TRef.binary (.of main_call0_call0_call0_v87 : StableHlo.TRef sig ⟨S1x32768, .i32⟩) (.of main_call0_call0_call0_v91 : StableHlo.TRef sig ⟨S1x32768, .i32⟩) (.of main_call0_call0_call0_v92 : StableHlo.TRef sig ⟨S1x32768, .i32⟩) Host.shrui
  :: StableHlo.TRef.binary (.of main_call0_call0_call0_v90 : StableHlo.TRef sig ⟨S1x32768, .i32⟩) (.of main_call0_call0_call0_v92 : StableHlo.TRef sig ⟨S1x32768, .i32⟩) (.of main_call0_call0_call0_v93 : StableHlo.TRef sig ⟨S1x32768, .i32⟩) ori
  :: StableHlo.TRef.binary (.of main_call0_call0_call0_v88 : StableHlo.TRef sig ⟨S1x32768, .i32⟩) (.of main_call0_call0_call0_v93 : StableHlo.TRef sig ⟨S1x32768, .i32⟩) (.of main_call0_call0_call0_v94 : StableHlo.TRef sig ⟨S1x32768, .i32⟩) xori
  :: StableHlo.TRef.binary (.of main_call0_call0_call0_v88 : StableHlo.TRef sig ⟨S1x32768, .i32⟩) (.of main_call0_call0_call0_v94 : StableHlo.TRef sig ⟨S1x32768, .i32⟩) (.of main_call0_call0_call0_v95 : StableHlo.TRef sig ⟨S1x32768, .i32⟩) addi
  :: StableHlo.TRef.nullary (.of main_call0_call0_call0_c_24 : StableHlo.TRef sig ⟨S_, .i32⟩) (constantI S_ 32 6#32)
  :: StableHlo.TRef.unary (.of main_call0_call0_call0_c_24 : StableHlo.TRef sig ⟨S_, .i32⟩) (.of main_call0_call0_call0_v96 : StableHlo.TRef sig ⟨S1x32768, .i32⟩) (broadcastInDim S1x32768 ![] bcast_S_S1x32768)
  :: StableHlo.TRef.binary (.of main_call0_call0_call0_v94 : StableHlo.TRef sig ⟨S1x32768, .i32⟩) (.of main_call0_call0_call0_v96 : StableHlo.TRef sig ⟨S1x32768, .i32⟩) (.of main_call0_call0_call0_v97 : StableHlo.TRef sig ⟨S1x32768, .i32⟩) Host.shli
  :: StableHlo.TRef.nullary (.of main_call0_call0_call0_c_25 : StableHlo.TRef sig ⟨S_, .i32⟩) (constantI S_ 32 26#32)
  :: StableHlo.TRef.unary (.of main_call0_call0_call0_c_25 : StableHlo.TRef sig ⟨S_, .i32⟩) (.of main_call0_call0_call0_v98 : StableHlo.TRef sig ⟨S1x32768, .i32⟩) (broadcastInDim S1x32768 ![] bcast_S_S1x32768)
  :: StableHlo.TRef.binary (.of main_call0_call0_call0_v94 : StableHlo.TRef sig ⟨S1x32768, .i32⟩) (.of main_call0_call0_call0_v98 : StableHlo.TRef sig ⟨S1x32768, .i32⟩) (.of main_call0_call0_call0_v99 : StableHlo.TRef sig ⟨S1x32768, .i32⟩) Host.shrui
  :: StableHlo.TRef.binary (.of main_call0_call0_call0_v97 : StableHlo.TRef sig ⟨S1x32768, .i32⟩) (.of main_call0_call0_call0_v99 : StableHlo.TRef sig ⟨S1x32768, .i32⟩) (.of main_call0_call0_call0_v100 : StableHlo.TRef sig ⟨S1x32768, .i32⟩) ori
  :: StableHlo.TRef.binary (.of main_call0_call0_call0_v95 : StableHlo.TRef sig ⟨S1x32768, .i32⟩) (.of main_call0_call0_call0_v100 : StableHlo.TRef sig ⟨S1x32768, .i32⟩) (.of main_call0_call0_call0_v101 : StableHlo.TRef sig ⟨S1x32768, .i32⟩) xori
  :: StableHlo.TRef.unary (.of main_call0_call0_v4 : StableHlo.TRef sig ⟨S_, .i32⟩) (.of main_call0_call0_call0_v102 : StableHlo.TRef sig ⟨S1x32768, .i32⟩) (broadcastInDim S1x32768 ![] bcast_S_S1x32768)
  :: StableHlo.TRef.binary (.of main_call0_call0_call0_v95 : StableHlo.TRef sig ⟨S1x32768, .i32⟩) (.of main_call0_call0_call0_v102 : StableHlo.TRef sig ⟨S1x32768, .i32⟩) (.of main_call0_call0_call0_v103 : StableHlo.TRef sig ⟨S1x32768, .i32⟩) addi
  :: StableHlo.TRef.unary (.of main_call0_call0_v6 : StableHlo.TRef sig ⟨S_, .i32⟩) (.of main_call0_call0_call0_v104 : StableHlo.TRef sig ⟨S1x32768, .i32⟩) (broadcastInDim S1x32768 ![] bcast_S_S1x32768)
  :: StableHlo.TRef.binary (.of main_call0_call0_call0_v101 : StableHlo.TRef sig ⟨S1x32768, .i32⟩) (.of main_call0_call0_call0_v104 : StableHlo.TRef sig ⟨S1x32768, .i32⟩) (.of main_call0_call0_call0_v105 : StableHlo.TRef sig ⟨S1x32768, .i32⟩) addi
  :: StableHlo.TRef.nullary (.of main_call0_call0_call0_c_26 : StableHlo.TRef sig ⟨S_, .i32⟩) (constantI S_ 32 3#32)
  :: StableHlo.TRef.unary (.of main_call0_call0_call0_c_26 : StableHlo.TRef sig ⟨S_, .i32⟩) (.of main_call0_call0_call0_v106 : StableHlo.TRef sig ⟨S1x32768, .i32⟩) (broadcastInDim S1x32768 ![] bcast_S_S1x32768)
  :: StableHlo.TRef.binary (.of main_call0_call0_call0_v105 : StableHlo.TRef sig ⟨S1x32768, .i32⟩) (.of main_call0_call0_call0_v106 : StableHlo.TRef sig ⟨S1x32768, .i32⟩) (.of main_call0_call0_call0_v107 : StableHlo.TRef sig ⟨S1x32768, .i32⟩) addi
  :: StableHlo.TRef.binary (.of main_call0_call0_call0_v103 : StableHlo.TRef sig ⟨S1x32768, .i32⟩) (.of main_call0_call0_call0_v107 : StableHlo.TRef sig ⟨S1x32768, .i32⟩) (.of main_call0_call0_call0_v108 : StableHlo.TRef sig ⟨S1x32768, .i32⟩) addi
  :: StableHlo.TRef.nullary (.of main_call0_call0_call0_c_27 : StableHlo.TRef sig ⟨S_, .i32⟩) (constantI S_ 32 17#32)
  :: StableHlo.TRef.unary (.of main_call0_call0_call0_c_27 : StableHlo.TRef sig ⟨S_, .i32⟩) (.of main_call0_call0_call0_v109 : StableHlo.TRef sig ⟨S1x32768, .i32⟩) (broadcastInDim S1x32768 ![] bcast_S_S1x32768)
  :: StableHlo.TRef.binary (.of main_call0_call0_call0_v107 : StableHlo.TRef sig ⟨S1x32768, .i32⟩) (.of main_call0_call0_call0_v109 : StableHlo.TRef sig ⟨S1x32768, .i32⟩) (.of main_call0_call0_call0_v110 : StableHlo.TRef sig ⟨S1x32768, .i32⟩) Host.shli
  :: StableHlo.TRef.nullary (.of main_call0_call0_call0_c_28 : StableHlo.TRef sig ⟨S_, .i32⟩) (constantI S_ 32 15#32)
  :: StableHlo.TRef.unary (.of main_call0_call0_call0_c_28 : StableHlo.TRef sig ⟨S_, .i32⟩) (.of main_call0_call0_call0_v111 : StableHlo.TRef sig ⟨S1x32768, .i32⟩) (broadcastInDim S1x32768 ![] bcast_S_S1x32768)
  :: StableHlo.TRef.binary (.of main_call0_call0_call0_v107 : StableHlo.TRef sig ⟨S1x32768, .i32⟩) (.of main_call0_call0_call0_v111 : StableHlo.TRef sig ⟨S1x32768, .i32⟩) (.of main_call0_call0_call0_v112 : StableHlo.TRef sig ⟨S1x32768, .i32⟩) Host.shrui
  :: StableHlo.TRef.binary (.of main_call0_call0_call0_v110 : StableHlo.TRef sig ⟨S1x32768, .i32⟩) (.of main_call0_call0_call0_v112 : StableHlo.TRef sig ⟨S1x32768, .i32⟩) (.of main_call0_call0_call0_v113 : StableHlo.TRef sig ⟨S1x32768, .i32⟩) ori
  :: StableHlo.TRef.binary (.of main_call0_call0_call0_v108 : StableHlo.TRef sig ⟨S1x32768, .i32⟩) (.of main_call0_call0_call0_v113 : StableHlo.TRef sig ⟨S1x32768, .i32⟩) (.of main_call0_call0_call0_v114 : StableHlo.TRef sig ⟨S1x32768, .i32⟩) xori
  :: StableHlo.TRef.binary (.of main_call0_call0_call0_v108 : StableHlo.TRef sig ⟨S1x32768, .i32⟩) (.of main_call0_call0_call0_v114 : StableHlo.TRef sig ⟨S1x32768, .i32⟩) (.of main_call0_call0_call0_v115 : StableHlo.TRef sig ⟨S1x32768, .i32⟩) addi
  :: StableHlo.TRef.nullary (.of main_call0_call0_call0_c_29 : StableHlo.TRef sig ⟨S_, .i32⟩) (constantI S_ 32 29#32)
  :: StableHlo.TRef.unary (.of main_call0_call0_call0_c_29 : StableHlo.TRef sig ⟨S_, .i32⟩) (.of main_call0_call0_call0_v116 : StableHlo.TRef sig ⟨S1x32768, .i32⟩) (broadcastInDim S1x32768 ![] bcast_S_S1x32768)
  :: StableHlo.TRef.binary (.of main_call0_call0_call0_v114 : StableHlo.TRef sig ⟨S1x32768, .i32⟩) (.of main_call0_call0_call0_v116 : StableHlo.TRef sig ⟨S1x32768, .i32⟩) (.of main_call0_call0_call0_v117 : StableHlo.TRef sig ⟨S1x32768, .i32⟩) Host.shli
  :: StableHlo.TRef.nullary (.of main_call0_call0_call0_c_30 : StableHlo.TRef sig ⟨S_, .i32⟩) (constantI S_ 32 3#32)
  :: StableHlo.TRef.unary (.of main_call0_call0_call0_c_30 : StableHlo.TRef sig ⟨S_, .i32⟩) (.of main_call0_call0_call0_v118 : StableHlo.TRef sig ⟨S1x32768, .i32⟩) (broadcastInDim S1x32768 ![] bcast_S_S1x32768)
  :: StableHlo.TRef.binary (.of main_call0_call0_call0_v114 : StableHlo.TRef sig ⟨S1x32768, .i32⟩) (.of main_call0_call0_call0_v118 : StableHlo.TRef sig ⟨S1x32768, .i32⟩) (.of main_call0_call0_call0_v119 : StableHlo.TRef sig ⟨S1x32768, .i32⟩) Host.shrui
  :: StableHlo.TRef.binary (.of main_call0_call0_call0_v117 : StableHlo.TRef sig ⟨S1x32768, .i32⟩) (.of main_call0_call0_call0_v119 : StableHlo.TRef sig ⟨S1x32768, .i32⟩) (.of main_call0_call0_call0_v120 : StableHlo.TRef sig ⟨S1x32768, .i32⟩) ori
  :: StableHlo.TRef.binary (.of main_call0_call0_call0_v115 : StableHlo.TRef sig ⟨S1x32768, .i32⟩) (.of main_call0_call0_call0_v120 : StableHlo.TRef sig ⟨S1x32768, .i32⟩) (.of main_call0_call0_call0_v121 : StableHlo.TRef sig ⟨S1x32768, .i32⟩) xori
  :: StableHlo.TRef.binary (.of main_call0_call0_call0_v115 : StableHlo.TRef sig ⟨S1x32768, .i32⟩) (.of main_call0_call0_call0_v121 : StableHlo.TRef sig ⟨S1x32768, .i32⟩) (.of main_call0_call0_call0_v122 : StableHlo.TRef sig ⟨S1x32768, .i32⟩) addi
  :: StableHlo.TRef.nullary (.of main_call0_call0_call0_c_31 : StableHlo.TRef sig ⟨S_, .i32⟩) (constantI S_ 32 16#32)
  :: StableHlo.TRef.unary (.of main_call0_call0_call0_c_31 : StableHlo.TRef sig ⟨S_, .i32⟩) (.of main_call0_call0_call0_v123 : StableHlo.TRef sig ⟨S1x32768, .i32⟩) (broadcastInDim S1x32768 ![] bcast_S_S1x32768)
  :: StableHlo.TRef.binary (.of main_call0_call0_call0_v121 : StableHlo.TRef sig ⟨S1x32768, .i32⟩) (.of main_call0_call0_call0_v123 : StableHlo.TRef sig ⟨S1x32768, .i32⟩) (.of main_call0_call0_call0_v124 : StableHlo.TRef sig ⟨S1x32768, .i32⟩) Host.shli
  :: StableHlo.TRef.nullary (.of main_call0_call0_call0_c_32 : StableHlo.TRef sig ⟨S_, .i32⟩) (constantI S_ 32 16#32)
  :: StableHlo.TRef.unary (.of main_call0_call0_call0_c_32 : StableHlo.TRef sig ⟨S_, .i32⟩) (.of main_call0_call0_call0_v125 : StableHlo.TRef sig ⟨S1x32768, .i32⟩) (broadcastInDim S1x32768 ![] bcast_S_S1x32768)
  :: StableHlo.TRef.binary (.of main_call0_call0_call0_v121 : StableHlo.TRef sig ⟨S1x32768, .i32⟩) (.of main_call0_call0_call0_v125 : StableHlo.TRef sig ⟨S1x32768, .i32⟩) (.of main_call0_call0_call0_v126 : StableHlo.TRef sig ⟨S1x32768, .i32⟩) Host.shrui
  :: StableHlo.TRef.binary (.of main_call0_call0_call0_v124 : StableHlo.TRef sig ⟨S1x32768, .i32⟩) (.of main_call0_call0_call0_v126 : StableHlo.TRef sig ⟨S1x32768, .i32⟩) (.of main_call0_call0_call0_v127 : StableHlo.TRef sig ⟨S1x32768, .i32⟩) ori
  :: StableHlo.TRef.binary (.of main_call0_call0_call0_v122 : StableHlo.TRef sig ⟨S1x32768, .i32⟩) (.of main_call0_call0_call0_v127 : StableHlo.TRef sig ⟨S1x32768, .i32⟩) (.of main_call0_call0_call0_v128 : StableHlo.TRef sig ⟨S1x32768, .i32⟩) xori
  :: StableHlo.TRef.binary (.of main_call0_call0_call0_v122 : StableHlo.TRef sig ⟨S1x32768, .i32⟩) (.of main_call0_call0_call0_v128 : StableHlo.TRef sig ⟨S1x32768, .i32⟩) (.of main_call0_call0_call0_v129 : StableHlo.TRef sig ⟨S1x32768, .i32⟩) addi
  :: StableHlo.TRef.nullary (.of main_call0_call0_call0_c_33 : StableHlo.TRef sig ⟨S_, .i32⟩) (constantI S_ 32 24#32)
  :: StableHlo.TRef.unary (.of main_call0_call0_call0_c_33 : StableHlo.TRef sig ⟨S_, .i32⟩) (.of main_call0_call0_call0_v130 : StableHlo.TRef sig ⟨S1x32768, .i32⟩) (broadcastInDim S1x32768 ![] bcast_S_S1x32768)
  :: StableHlo.TRef.binary (.of main_call0_call0_call0_v128 : StableHlo.TRef sig ⟨S1x32768, .i32⟩) (.of main_call0_call0_call0_v130 : StableHlo.TRef sig ⟨S1x32768, .i32⟩) (.of main_call0_call0_call0_v131 : StableHlo.TRef sig ⟨S1x32768, .i32⟩) Host.shli
  :: StableHlo.TRef.nullary (.of main_call0_call0_call0_c_34 : StableHlo.TRef sig ⟨S_, .i32⟩) (constantI S_ 32 8#32)
  :: StableHlo.TRef.unary (.of main_call0_call0_call0_c_34 : StableHlo.TRef sig ⟨S_, .i32⟩) (.of main_call0_call0_call0_v132 : StableHlo.TRef sig ⟨S1x32768, .i32⟩) (broadcastInDim S1x32768 ![] bcast_S_S1x32768)
  :: StableHlo.TRef.binary (.of main_call0_call0_call0_v128 : StableHlo.TRef sig ⟨S1x32768, .i32⟩) (.of main_call0_call0_call0_v132 : StableHlo.TRef sig ⟨S1x32768, .i32⟩) (.of main_call0_call0_call0_v133 : StableHlo.TRef sig ⟨S1x32768, .i32⟩) Host.shrui
  :: StableHlo.TRef.binary (.of main_call0_call0_call0_v131 : StableHlo.TRef sig ⟨S1x32768, .i32⟩) (.of main_call0_call0_call0_v133 : StableHlo.TRef sig ⟨S1x32768, .i32⟩) (.of main_call0_call0_call0_v134 : StableHlo.TRef sig ⟨S1x32768, .i32⟩) ori
  :: StableHlo.TRef.binary (.of main_call0_call0_call0_v129 : StableHlo.TRef sig ⟨S1x32768, .i32⟩) (.of main_call0_call0_call0_v134 : StableHlo.TRef sig ⟨S1x32768, .i32⟩) (.of main_call0_call0_call0_v135 : StableHlo.TRef sig ⟨S1x32768, .i32⟩) xori
  :: StableHlo.TRef.unary (.of main_call0_call0_v6 : StableHlo.TRef sig ⟨S_, .i32⟩) (.of main_call0_call0_call0_v136 : StableHlo.TRef sig ⟨S1x32768, .i32⟩) (broadcastInDim S1x32768 ![] bcast_S_S1x32768)
  :: StableHlo.TRef.binary (.of main_call0_call0_call0_v129 : StableHlo.TRef sig ⟨S1x32768, .i32⟩) (.of main_call0_call0_call0_v136 : StableHlo.TRef sig ⟨S1x32768, .i32⟩) (.of main_call0_call0_call0_v137 : StableHlo.TRef sig ⟨S1x32768, .i32⟩) addi
  :: StableHlo.TRef.unary (.of main_call0_call0_call0_v1 : StableHlo.TRef sig ⟨S_, .i32⟩) (.of main_call0_call0_call0_v138 : StableHlo.TRef sig ⟨S1x32768, .i32⟩) (broadcastInDim S1x32768 ![] bcast_S_S1x32768)
  :: StableHlo.TRef.binary (.of main_call0_call0_call0_v135 : StableHlo.TRef sig ⟨S1x32768, .i32⟩) (.of main_call0_call0_call0_v138 : StableHlo.TRef sig ⟨S1x32768, .i32⟩) (.of main_call0_call0_call0_v139 : StableHlo.TRef sig ⟨S1x32768, .i32⟩) addi
  :: StableHlo.TRef.nullary (.of main_call0_call0_call0_c_35 : StableHlo.TRef sig ⟨S_, .i32⟩) (constantI S_ 32 4#32)
  :: StableHlo.TRef.unary (.of main_call0_call0_call0_c_35 : StableHlo.TRef sig ⟨S_, .i32⟩) (.of main_call0_call0_call0_v140 : StableHlo.TRef sig ⟨S1x32768, .i32⟩) (broadcastInDim S1x32768 ![] bcast_S_S1x32768)
  :: StableHlo.TRef.binary (.of main_call0_call0_call0_v139 : StableHlo.TRef sig ⟨S1x32768, .i32⟩) (.of main_call0_call0_call0_v140 : StableHlo.TRef sig ⟨S1x32768, .i32⟩) (.of main_call0_call0_call0_v141 : StableHlo.TRef sig ⟨S1x32768, .i32⟩) addi
  :: StableHlo.TRef.binary (.of main_call0_call0_call0_v137 : StableHlo.TRef sig ⟨S1x32768, .i32⟩) (.of main_call0_call0_call0_v141 : StableHlo.TRef sig ⟨S1x32768, .i32⟩) (.of main_call0_call0_call0_v142 : StableHlo.TRef sig ⟨S1x32768, .i32⟩) addi
  :: StableHlo.TRef.nullary (.of main_call0_call0_call0_c_36 : StableHlo.TRef sig ⟨S_, .i32⟩) (constantI S_ 32 13#32)
  :: StableHlo.TRef.unary (.of main_call0_call0_call0_c_36 : StableHlo.TRef sig ⟨S_, .i32⟩) (.of main_call0_call0_call0_v143 : StableHlo.TRef sig ⟨S1x32768, .i32⟩) (broadcastInDim S1x32768 ![] bcast_S_S1x32768)
  :: StableHlo.TRef.binary (.of main_call0_call0_call0_v141 : StableHlo.TRef sig ⟨S1x32768, .i32⟩) (.of main_call0_call0_call0_v143 : StableHlo.TRef sig ⟨S1x32768, .i32⟩) (.of main_call0_call0_call0_v144 : StableHlo.TRef sig ⟨S1x32768, .i32⟩) Host.shli
  :: StableHlo.TRef.nullary (.of main_call0_call0_call0_c_37 : StableHlo.TRef sig ⟨S_, .i32⟩) (constantI S_ 32 19#32)
  :: StableHlo.TRef.unary (.of main_call0_call0_call0_c_37 : StableHlo.TRef sig ⟨S_, .i32⟩) (.of main_call0_call0_call0_v145 : StableHlo.TRef sig ⟨S1x32768, .i32⟩) (broadcastInDim S1x32768 ![] bcast_S_S1x32768)
  :: StableHlo.TRef.binary (.of main_call0_call0_call0_v141 : StableHlo.TRef sig ⟨S1x32768, .i32⟩) (.of main_call0_call0_call0_v145 : StableHlo.TRef sig ⟨S1x32768, .i32⟩) (.of main_call0_call0_call0_v146 : StableHlo.TRef sig ⟨S1x32768, .i32⟩) Host.shrui
  :: StableHlo.TRef.binary (.of main_call0_call0_call0_v144 : StableHlo.TRef sig ⟨S1x32768, .i32⟩) (.of main_call0_call0_call0_v146 : StableHlo.TRef sig ⟨S1x32768, .i32⟩) (.of main_call0_call0_call0_v147 : StableHlo.TRef sig ⟨S1x32768, .i32⟩) ori
  :: StableHlo.TRef.binary (.of main_call0_call0_call0_v142 : StableHlo.TRef sig ⟨S1x32768, .i32⟩) (.of main_call0_call0_call0_v147 : StableHlo.TRef sig ⟨S1x32768, .i32⟩) (.of main_call0_call0_call0_v148 : StableHlo.TRef sig ⟨S1x32768, .i32⟩) xori
  :: StableHlo.TRef.binary (.of main_call0_call0_call0_v142 : StableHlo.TRef sig ⟨S1x32768, .i32⟩) (.of main_call0_call0_call0_v148 : StableHlo.TRef sig ⟨S1x32768, .i32⟩) (.of main_call0_call0_call0_v149 : StableHlo.TRef sig ⟨S1x32768, .i32⟩) addi
  :: StableHlo.TRef.nullary (.of main_call0_call0_call0_c_38 : StableHlo.TRef sig ⟨S_, .i32⟩) (constantI S_ 32 15#32)
  :: StableHlo.TRef.unary (.of main_call0_call0_call0_c_38 : StableHlo.TRef sig ⟨S_, .i32⟩) (.of main_call0_call0_call0_v150 : StableHlo.TRef sig ⟨S1x32768, .i32⟩) (broadcastInDim S1x32768 ![] bcast_S_S1x32768)
  :: StableHlo.TRef.binary (.of main_call0_call0_call0_v148 : StableHlo.TRef sig ⟨S1x32768, .i32⟩) (.of main_call0_call0_call0_v150 : StableHlo.TRef sig ⟨S1x32768, .i32⟩) (.of main_call0_call0_call0_v151 : StableHlo.TRef sig ⟨S1x32768, .i32⟩) Host.shli
  :: StableHlo.TRef.nullary (.of main_call0_call0_call0_c_39 : StableHlo.TRef sig ⟨S_, .i32⟩) (constantI S_ 32 17#32)
  :: StableHlo.TRef.unary (.of main_call0_call0_call0_c_39 : StableHlo.TRef sig ⟨S_, .i32⟩) (.of main_call0_call0_call0_v152 : StableHlo.TRef sig ⟨S1x32768, .i32⟩) (broadcastInDim S1x32768 ![] bcast_S_S1x32768)
  :: StableHlo.TRef.binary (.of main_call0_call0_call0_v148 : StableHlo.TRef sig ⟨S1x32768, .i32⟩) (.of main_call0_call0_call0_v152 : StableHlo.TRef sig ⟨S1x32768, .i32⟩) (.of main_call0_call0_call0_v153 : StableHlo.TRef sig ⟨S1x32768, .i32⟩) Host.shrui
  :: StableHlo.TRef.binary (.of main_call0_call0_call0_v151 : StableHlo.TRef sig ⟨S1x32768, .i32⟩) (.of main_call0_call0_call0_v153 : StableHlo.TRef sig ⟨S1x32768, .i32⟩) (.of main_call0_call0_call0_v154 : StableHlo.TRef sig ⟨S1x32768, .i32⟩) ori
  :: StableHlo.TRef.binary (.of main_call0_call0_call0_v149 : StableHlo.TRef sig ⟨S1x32768, .i32⟩) (.of main_call0_call0_call0_v154 : StableHlo.TRef sig ⟨S1x32768, .i32⟩) (.of main_call0_call0_call0_v155 : StableHlo.TRef sig ⟨S1x32768, .i32⟩) xori
  :: StableHlo.TRef.binary (.of main_call0_call0_call0_v149 : StableHlo.TRef sig ⟨S1x32768, .i32⟩) (.of main_call0_call0_call0_v155 : StableHlo.TRef sig ⟨S1x32768, .i32⟩) (.of main_call0_call0_call0_v156 : StableHlo.TRef sig ⟨S1x32768, .i32⟩) addi
  :: StableHlo.TRef.nullary (.of main_call0_call0_call0_c_40 : StableHlo.TRef sig ⟨S_, .i32⟩) (constantI S_ 32 26#32)
  :: StableHlo.TRef.unary (.of main_call0_call0_call0_c_40 : StableHlo.TRef sig ⟨S_, .i32⟩) (.of main_call0_call0_call0_v157 : StableHlo.TRef sig ⟨S1x32768, .i32⟩) (broadcastInDim S1x32768 ![] bcast_S_S1x32768)
  :: StableHlo.TRef.binary (.of main_call0_call0_call0_v155 : StableHlo.TRef sig ⟨S1x32768, .i32⟩) (.of main_call0_call0_call0_v157 : StableHlo.TRef sig ⟨S1x32768, .i32⟩) (.of main_call0_call0_call0_v158 : StableHlo.TRef sig ⟨S1x32768, .i32⟩) Host.shli
  :: StableHlo.TRef.nullary (.of main_call0_call0_call0_c_41 : StableHlo.TRef sig ⟨S_, .i32⟩) (constantI S_ 32 6#32)
  :: StableHlo.TRef.unary (.of main_call0_call0_call0_c_41 : StableHlo.TRef sig ⟨S_, .i32⟩) (.of main_call0_call0_call0_v159 : StableHlo.TRef sig ⟨S1x32768, .i32⟩) (broadcastInDim S1x32768 ![] bcast_S_S1x32768)
  :: StableHlo.TRef.binary (.of main_call0_call0_call0_v155 : StableHlo.TRef sig ⟨S1x32768, .i32⟩) (.of main_call0_call0_call0_v159 : StableHlo.TRef sig ⟨S1x32768, .i32⟩) (.of main_call0_call0_call0_v160 : StableHlo.TRef sig ⟨S1x32768, .i32⟩) Host.shrui
  :: StableHlo.TRef.binary (.of main_call0_call0_call0_v158 : StableHlo.TRef sig ⟨S1x32768, .i32⟩) (.of main_call0_call0_call0_v160 : StableHlo.TRef sig ⟨S1x32768, .i32⟩) (.of main_call0_call0_call0_v161 : StableHlo.TRef sig ⟨S1x32768, .i32⟩) ori
  :: StableHlo.TRef.binary (.of main_call0_call0_call0_v156 : StableHlo.TRef sig ⟨S1x32768, .i32⟩) (.of main_call0_call0_call0_v161 : StableHlo.TRef sig ⟨S1x32768, .i32⟩) (.of main_call0_call0_call0_v162 : StableHlo.TRef sig ⟨S1x32768, .i32⟩) xori
  :: StableHlo.TRef.binary (.of main_call0_call0_call0_v156 : StableHlo.TRef sig ⟨S1x32768, .i32⟩) (.of main_call0_call0_call0_v162 : StableHlo.TRef sig ⟨S1x32768, .i32⟩) (.of main_call0_call0_call0_v163 : StableHlo.TRef sig ⟨S1x32768, .i32⟩) addi
  :: StableHlo.TRef.nullary (.of main_call0_call0_call0_c_42 : StableHlo.TRef sig ⟨S_, .i32⟩) (constantI S_ 32 6#32)
  :: StableHlo.TRef.unary (.of main_call0_call0_call0_c_42 : StableHlo.TRef sig ⟨S_, .i32⟩) (.of main_call0_call0_call0_v164 : StableHlo.TRef sig ⟨S1x32768, .i32⟩) (broadcastInDim S1x32768 ![] bcast_S_S1x32768)
  :: StableHlo.TRef.binary (.of main_call0_call0_call0_v162 : StableHlo.TRef sig ⟨S1x32768, .i32⟩) (.of main_call0_call0_call0_v164 : StableHlo.TRef sig ⟨S1x32768, .i32⟩) (.of main_call0_call0_call0_v165 : StableHlo.TRef sig ⟨S1x32768, .i32⟩) Host.shli
  :: StableHlo.TRef.nullary (.of main_call0_call0_call0_c_43 : StableHlo.TRef sig ⟨S_, .i32⟩) (constantI S_ 32 26#32)
  :: StableHlo.TRef.unary (.of main_call0_call0_call0_c_43 : StableHlo.TRef sig ⟨S_, .i32⟩) (.of main_call0_call0_call0_v166 : StableHlo.TRef sig ⟨S1x32768, .i32⟩) (broadcastInDim S1x32768 ![] bcast_S_S1x32768)
  :: StableHlo.TRef.binary (.of main_call0_call0_call0_v162 : StableHlo.TRef sig ⟨S1x32768, .i32⟩) (.of main_call0_call0_call0_v166 : StableHlo.TRef sig ⟨S1x32768, .i32⟩) (.of main_call0_call0_call0_v167 : StableHlo.TRef sig ⟨S1x32768, .i32⟩) Host.shrui
  :: StableHlo.TRef.binary (.of main_call0_call0_call0_v165 : StableHlo.TRef sig ⟨S1x32768, .i32⟩) (.of main_call0_call0_call0_v167 : StableHlo.TRef sig ⟨S1x32768, .i32⟩) (.of main_call0_call0_call0_v168 : StableHlo.TRef sig ⟨S1x32768, .i32⟩) ori
  :: StableHlo.TRef.binary (.of main_call0_call0_call0_v163 : StableHlo.TRef sig ⟨S1x32768, .i32⟩) (.of main_call0_call0_call0_v168 : StableHlo.TRef sig ⟨S1x32768, .i32⟩) (.of main_call0_call0_call0_v169 : StableHlo.TRef sig ⟨S1x32768, .i32⟩) xori
  :: StableHlo.TRef.unary (.of main_call0_call0_call0_v1 : StableHlo.TRef sig ⟨S_, .i32⟩) (.of main_call0_call0_call0_v170 : StableHlo.TRef sig ⟨S1x32768, .i32⟩) (broadcastInDim S1x32768 ![] bcast_S_S1x32768)
  :: StableHlo.TRef.binary (.of main_call0_call0_call0_v163 : StableHlo.TRef sig ⟨S1x32768, .i32⟩) (.of main_call0_call0_call0_v170 : StableHlo.TRef sig ⟨S1x32768, .i32⟩) (.of main_call0_call0_v18_0 : StableHlo.TRef sig ⟨S1x32768, .i32⟩) addi
  :: StableHlo.TRef.unary (.of main_call0_call0_v4 : StableHlo.TRef sig ⟨S_, .i32⟩) (.of main_call0_call0_call0_v172 : StableHlo.TRef sig ⟨S1x32768, .i32⟩) (broadcastInDim S1x32768 ![] bcast_S_S1x32768)
  :: StableHlo.TRef.binary (.of main_call0_call0_call0_v169 : StableHlo.TRef sig ⟨S1x32768, .i32⟩) (.of main_call0_call0_call0_v172 : StableHlo.TRef sig ⟨S1x32768, .i32⟩) (.of main_call0_call0_call0_v173 : StableHlo.TRef sig ⟨S1x32768, .i32⟩) addi
  :: StableHlo.TRef.nullary (.of main_call0_call0_call0_c_44 : StableHlo.TRef sig ⟨S_, .i32⟩) (constantI S_ 32 5#32)
  :: StableHlo.TRef.unary (.of main_call0_call0_call0_c_44 : StableHlo.TRef sig ⟨S_, .i32⟩) (.of main_call0_call0_call0_v174 : StableHlo.TRef sig ⟨S1x32768, .i32⟩) (broadcastInDim S1x32768 ![] bcast_S_S1x32768)
  :: StableHlo.TRef.binary (.of main_call0_call0_call0_v173 : StableHlo.TRef sig ⟨S1x32768, .i32⟩) (.of main_call0_call0_call0_v174 : StableHlo.TRef sig ⟨S1x32768, .i32⟩) (.of main_call0_call0_v18_1 : StableHlo.TRef sig ⟨S1x32768, .i32⟩) addi
  :: StableHlo.TRef.binary main_call0_call0_call0.v171 main_call0_call0_call0.v175 (.of main_call0_call0_v19 : StableHlo.TRef sig ⟨S1x32768, .i32⟩) xori
  :: StableHlo.TRef.nullary (.of main_call0_call0_c_2 : StableHlo.TRef sig ⟨S_, .i32⟩) (constantI S_ 32 9#32)
  :: StableHlo.TRef.unary (.of main_call0_call0_c_2 : StableHlo.TRef sig ⟨S_, .i32⟩) (.of main_call0_call0_v20 : StableHlo.TRef sig ⟨S1x32768, .i32⟩) (broadcastInDim S1x32768 ![] bcast_S_S1x32768)
  :: StableHlo.TRef.binary (.of main_call0_call0_v19 : StableHlo.TRef sig ⟨S1x32768, .i32⟩) (.of main_call0_call0_v20 : StableHlo.TRef sig ⟨S1x32768, .i32⟩) (.of main_call0_call0_v21 : StableHlo.TRef sig ⟨S1x32768, .i32⟩) Host.shrui
  :: StableHlo.TRef.nullary (.of main_call0_call0_c_3 : StableHlo.TRef sig ⟨S_, .i32⟩) (constantI S_ 32 1065353216#32)
  :: StableHlo.TRef.unary (.of main_call0_call0_c_3 : StableHlo.TRef sig ⟨S_, .i32⟩) (.of main_call0_call0_v22 : StableHlo.TRef sig ⟨S1x32768, .i32⟩) (broadcastInDim S1x32768 ![] bcast_S_S1x32768)
  :: StableHlo.TRef.binary (.of main_call0_call0_v21 : StableHlo.TRef sig ⟨S1x32768, .i32⟩) (.of main_call0_call0_v22 : StableHlo.TRef sig ⟨S1x32768, .i32⟩) (.of main_call0_call0_v23 : StableHlo.TRef sig ⟨S1x32768, .i32⟩) ori
  :: StableHlo.TRef.unary (.of main_call0_call0_v23 : StableHlo.TRef sig ⟨S1x32768, .i32⟩) (.of main_call0_call0_v24 : StableHlo.TRef sig ⟨S1x32768, .f32⟩) (bitcastToFloat .f32)
  :: StableHlo.TRef.nullary (.of main_call0_call0_cst : StableHlo.TRef sig ⟨S_, .f32⟩) (constant S_ .f32 0x3F800000#32)
  :: StableHlo.TRef.unary (.of main_call0_call0_cst : StableHlo.TRef sig ⟨S_, .f32⟩) (.of main_call0_call0_v25 : StableHlo.TRef sig ⟨S1x32768, .f32⟩) (broadcastInDim S1x32768 ![] bcast_S_S1x32768)
  :: StableHlo.TRef.binary (.of main_call0_call0_v24 : StableHlo.TRef sig ⟨S1x32768, .f32⟩) (.of main_call0_call0_v25 : StableHlo.TRef sig ⟨S1x32768, .f32⟩) (.of main_call0_call0_v26 : StableHlo.TRef sig ⟨S1x32768, .f32⟩) subf
  :: StableHlo.TRef.binary (.of main_call0_call0_v2 : StableHlo.TRef sig ⟨S1x1, .f32⟩) (.of main_call0_call0_v1 : StableHlo.TRef sig ⟨S1x1, .f32⟩) (.of main_call0_call0_v27 : StableHlo.TRef sig ⟨S1x1, .f32⟩) subf
  :: StableHlo.TRef.unary (.of main_call0_call0_v27 : StableHlo.TRef sig ⟨S1x1, .f32⟩) (.of main_call0_call0_v28 : StableHlo.TRef sig ⟨S1x32768, .f32⟩) (broadcastInDim S1x32768 ![0, 1] bcast_S1x1_S1x32768_0_1)
  :: StableHlo.TRef.binary (.of main_call0_call0_v26 : StableHlo.TRef sig ⟨S1x32768, .f32⟩) (.of main_call0_call0_v28 : StableHlo.TRef sig ⟨S1x32768, .f32⟩) (.of main_call0_call0_v29 : StableHlo.TRef sig ⟨S1x32768, .f32⟩) mulf
  :: StableHlo.TRef.unary (.of main_call0_call0_v1 : StableHlo.TRef sig ⟨S1x1, .f32⟩) (.of main_call0_call0_v30 : StableHlo.TRef sig ⟨S1x32768, .f32⟩) (broadcastInDim S1x32768 ![0, 1] bcast_S1x1_S1x32768_0_1)
  :: StableHlo.TRef.binary (.of main_call0_call0_v29 : StableHlo.TRef sig ⟨S1x32768, .f32⟩) (.of main_call0_call0_v30 : StableHlo.TRef sig ⟨S1x32768, .f32⟩) (.of main_call0_call0_v31 : StableHlo.TRef sig ⟨S1x32768, .f32⟩) addf
  :: StableHlo.TRef.unary (.of main_call0_call0_v1 : StableHlo.TRef sig ⟨S1x1, .f32⟩) (.of main_call0_call0_v32 : StableHlo.TRef sig ⟨S1x32768, .f32⟩) (broadcastInDim S1x32768 ![0, 1] bcast_S1x1_S1x32768_0_1)
  :: StableHlo.TRef.binary (.of main_call0_call0_v32 : StableHlo.TRef sig ⟨S1x32768, .f32⟩) (.of main_call0_call0_v31 : StableHlo.TRef sig ⟨S1x32768, .f32⟩) (.of main_call0_v0 : StableHlo.TRef sig ⟨S1x32768, .f32⟩) maximumf
  :: StableHlo.TRef.unary main_call0_call0.v33 (.of main_call0_v1 : StableHlo.TRef sig ⟨S1x32768, .f32⟩) Host.log
  :: StableHlo.TRef.unary (.of main_call0_v1 : StableHlo.TRef sig ⟨S1x32768, .f32⟩) (.of main_call0_v2 : StableHlo.TRef sig ⟨S1x32768, .f32⟩) Host.negf
  :: StableHlo.TRef.unary (.of main_call0_v2 : StableHlo.TRef sig ⟨S1x32768, .f32⟩) (.of main_call0_v3 : StableHlo.TRef sig ⟨S1x32768, .f32⟩) Host.log
  :: StableHlo.TRef.unary (.of main_call0_v3 : StableHlo.TRef sig ⟨S1x32768, .f32⟩) (.of main_v29 : StableHlo.TRef sig ⟨S1x32768, .f32⟩) Host.negf
  :: [] )

/-- The noise added to the logits. -/
abbrev sumOps : List (HloOp τ sig (Elt F)) :=
  [ StableHlo.binary main_v29 main_v21 main_v30 (addf : (⟨S1x32768, .f32⟩ : BufTy).Contents (Elt F) → (⟨S1x32768, .f32⟩ : BufTy).Contents (Elt F) → (⟨S1x32768, .f32⟩ : BufTy).Contents (Elt F)) ]

/-- The greatest entry of the sum and where it first stands. -/
abbrev pickOps : List (HloOp τ sig (Elt F)) :=
  [ StableHlo.TRef.nullary (.of main_call1_v0 : StableHlo.TRef sig ⟨S1x32768, .i32⟩) (iotaInDim S1x32768 32 1),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_v30 : StableHlo.TRef sig ⟨S1x32768, .f32⟩) (.of main_call1_v0 : StableHlo.TRef sig ⟨S1x32768, .i32⟩) (.of main_call1_cst : StableHlo.TRef sig ⟨S_, .f32⟩) (.of main_call1_c : StableHlo.TRef sig ⟨S_, .i32⟩) (.of main_call1_v1_0 : StableHlo.TRef sig ⟨S1, .f32⟩) (fun x y u v j => (Host.argReduce reducer_argmax_f32_i32 x y u v reducesTo_S1x32768_S1_d1 h_S_ j).1),
    StableHlo.TRef.quaternary (.of main_v30 : StableHlo.TRef sig ⟨S1x32768, .f32⟩) (.of main_call1_v0 : StableHlo.TRef sig ⟨S1x32768, .i32⟩) (.of main_call1_cst : StableHlo.TRef sig ⟨S_, .f32⟩) (.of main_call1_c : StableHlo.TRef sig ⟨S_, .i32⟩) (.of main_v31 : StableHlo.TRef sig ⟨S1, .i32⟩) (fun x y u v j => (Host.argReduce reducer_argmax_f32_i32 x y u v reducesTo_S1x32768_S1_d1 h_S_ j).2) ]

/-- The index with its one axis dropped. -/
abbrev dropOps : List (HloOp τ sig (Elt F)) :=
  [ StableHlo.reshape main_v31 main_v32 (rfl : (.i32 : EltTy) = .i32) shapeCasts_S1_S_ ]

/-- The program is these lines, one after another. -/
theorem main_lines (c : Dev nD) : main (F := F) c = (Pipeline.chain
    [ StableHlo.seq logitOps, StableHlo.seq noiseOps, StableHlo.seq sumOps, StableHlo.seq pickOps, StableHlo.seq dropOps ] :
    Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, StableHlo.chain_seq_cons]
  chain_rfl

end Cert.ReferenceIdeal.Hand

end
-- ==== Proof.Reference.Run.lean ====
/- The reference program runs: it ends with every buffer at what its lines of operations leave there, its arguments as
   they were, and every counter at zero. -/
module

public import proofs.«01_k».proof.Proof.Reference.Ops
public import Idealize.ShloMosaic.Lib.StableHlo.RunHlo

@[expose] public section

set_option maxRecDepth 4000

noncomputable section

namespace Cert.ReferenceIdeal.Hand

open Idealize.ShloMosaic Idealize.ShloMosaic.TcCoe Idealize.SL.Sem
open Facts₀ Facts
open Idealize.ShloMosaic.StableHlo (nullary_bufs_sub unary_bufs_sub binary_bufs_sub reshape_bufs_sub quaternary_bufs_sub)

variable {F : FTy → Type} [FloatOps F]

/-- What `logitOps` writes, in order. -/
abbrev logitWrites : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_c,
   main_c_0, main_v22, main_v23, main_v24, main_c_1, main_v25, main_v26, main_v27, main_v28]

/-- `logitOps` writes these and nothing else. -/
theorem logitOps_writes : (logitOps : List (HloOp τ sig (Elt F))).Forall fun op => op.writes ⊆ (logitWrites.map (Proc.devRef (τ := τ) .tc)).toFinset :=
  StableHlo.forall_writes_sub_of_map rfl

/-- `logitOps` chooses no contents of its own. -/
theorem logitOps_fresh : (logitOps : List (HloOp τ sig (Elt F))).Forall fun op => op.fresh = ∅ :=
  StableHlo.forall_fresh_of_map rfl

/-- `logitOps` touches the core's buffers only. -/
theorem logitOps_sub : (logitOps : List (HloOp τ sig (Elt F))).Forall fun op => op.bufs ⊆ StableHlo.tcRefs τ sig :=
  ⟨unary_bufs_sub .., reshape_bufs_sub .., unary_bufs_sub .., binary_bufs_sub .., unary_bufs_sub ..,
   binary_bufs_sub .., unary_bufs_sub .., binary_bufs_sub .., unary_bufs_sub .., unary_bufs_sub ..,
   binary_bufs_sub .., unary_bufs_sub .., unary_bufs_sub .., binary_bufs_sub .., reshape_bufs_sub ..,
   unary_bufs_sub .., unary_bufs_sub .., binary_bufs_sub .., unary_bufs_sub .., unary_bufs_sub .., unary_bufs_sub ..,
   binary_bufs_sub .., nullary_bufs_sub .., nullary_bufs_sub .., binary_bufs_sub .., unary_bufs_sub ..,
   unary_bufs_sub .., nullary_bufs_sub .., binary_bufs_sub .., unary_bufs_sub .., unary_bufs_sub ..,
   binary_bufs_sub ..⟩

/-- What `noiseOps` writes, in order. -/
abbrev noiseWrites : List (Ref sig .tc) :=
  [main_call0_cst, main_call0_cst_0, main_call0_call0_v0, main_call0_call0_v1, main_call0_call0_v2,
   main_call0_call0_v3, main_call0_call0_v4, main_call0_call0_v5, main_call0_call0_v6, main_call0_call0_v7,
   main_call0_call0_v8, main_call0_call0_c, main_call0_call0_v9, main_call0_call0_v10, main_call0_call0_c_0,
   main_call0_call0_v11, main_call0_call0_v12, main_call0_call0_v13, main_call0_call0_c_1, main_call0_call0_v14,
   main_call0_call0_v15, main_call0_call0_v16, main_call0_call0_v17, main_call0_call0_call0_v0,
   main_call0_call0_call0_c, main_call0_call0_call0_v1, main_call0_call0_call0_v2, main_call0_call0_call0_v3,
   main_call0_call0_call0_v4, main_call0_call0_call0_v5, main_call0_call0_call0_v6, main_call0_call0_call0_c_0,
   main_call0_call0_call0_v7, main_call0_call0_call0_v8, main_call0_call0_call0_c_1, main_call0_call0_call0_v9,
   main_call0_call0_call0_v10, main_call0_call0_call0_v11, main_call0_call0_call0_v12, main_call0_call0_call0_v13,
   main_call0_call0_call0_c_2, main_call0_call0_call0_v14, main_call0_call0_call0_v15, main_call0_call0_call0_c_3,
   main_call0_call0_call0_v16, main_call0_call0_call0_v17, main_call0_call0_call0_v18, main_call0_call0_call0_v19,
   main_call0_call0_call0_v20, main_call0_call0_call0_c_4, main_call0_call0_call0_v21, main_call0_call0_call0_v22,
   main_call0_call0_call0_c_5, main_call0_call0_call0_v23, main_call0_call0_call0_v24, main_call0_call0_call0_v25,
   main_call0_call0_call0_v26, main_call0_call0_call0_v27, main_call0_call0_call0_c_6, main_call0_call0_call0_v28,
   main_call0_call0_call0_v29, main_call0_call0_call0_c_7, main_call0_call0_call0_v30, main_call0_call0_call0_v31,
   main_call0_call0_call0_v32, main_call0_call0_call0_v33, main_call0_call0_call0_v34, main_call0_call0_call0_v35,
   main_call0_call0_call0_v36, main_call0_call0_call0_v37, main_call0_call0_call0_c_8, main_call0_call0_call0_v38,
   main_call0_call0_call0_v39, main_call0_call0_call0_v40, main_call0_call0_call0_c_9, main_call0_call0_call0_v41,
   main_call0_call0_call0_v42, main_call0_call0_call0_c_10, main_call0_call0_call0_v43, main_call0_call0_call0_v44,
   main_call0_call0_call0_v45, main_call0_call0_call0_v46, main_call0_call0_call0_v47, main_call0_call0_call0_c_11,
   main_call0_call0_call0_v48, main_call0_call0_call0_v49, main_call0_call0_call0_c_12, main_call0_call0_call0_v50,
   main_call0_call0_call0_v51, main_call0_call0_call0_v52, main_call0_call0_call0_v53, main_call0_call0_call0_v54,
   main_call0_call0_call0_c_13, main_call0_call0_call0_v55, main_call0_call0_call0_v56, main_call0_call0_call0_c_14,
   main_call0_call0_call0_v57, main_call0_call0_call0_v58, main_call0_call0_call0_v59, main_call0_call0_call0_v60,
   main_call0_call0_call0_v61, main_call0_call0_call0_c_15, main_call0_call0_call0_v62, main_call0_call0_call0_v63,
   main_call0_call0_call0_c_16, main_call0_call0_call0_v64, main_call0_call0_call0_v65, main_call0_call0_call0_v66,
   main_call0_call0_call0_v67, main_call0_call0_call0_v68, main_call0_call0_call0_v69, main_call0_call0_call0_v70,
   main_call0_call0_call0_v71, main_call0_call0_call0_c_17, main_call0_call0_call0_v72, main_call0_call0_call0_v73,
   main_call0_call0_call0_v74, main_call0_call0_call0_c_18, main_call0_call0_call0_v75, main_call0_call0_call0_v76,
   main_call0_call0_call0_c_19, main_call0_call0_call0_v77, main_call0_call0_call0_v78, main_call0_call0_call0_v79,
   main_call0_call0_call0_v80, main_call0_call0_call0_v81, main_call0_call0_call0_c_20, main_call0_call0_call0_v82,
   main_call0_call0_call0_v83, main_call0_call0_call0_c_21, main_call0_call0_call0_v84, main_call0_call0_call0_v85,
   main_call0_call0_call0_v86, main_call0_call0_call0_v87, main_call0_call0_call0_v88, main_call0_call0_call0_c_22,
   main_call0_call0_call0_v89, main_call0_call0_call0_v90, main_call0_call0_call0_c_23, main_call0_call0_call0_v91,
   main_call0_call0_call0_v92, main_call0_call0_call0_v93, main_call0_call0_call0_v94, main_call0_call0_call0_v95,
   main_call0_call0_call0_c_24, main_call0_call0_call0_v96, main_call0_call0_call0_v97, main_call0_call0_call0_c_25,
   main_call0_call0_call0_v98, main_call0_call0_call0_v99, main_call0_call0_call0_v100, main_call0_call0_call0_v101,
   main_call0_call0_call0_v102, main_call0_call0_call0_v103, main_call0_call0_call0_v104,
   main_call0_call0_call0_v105, main_call0_call0_call0_c_26, main_call0_call0_call0_v106,
   main_call0_call0_call0_v107, main_call0_call0_call0_v108, main_call0_call0_call0_c_27,
   main_call0_call0_call0_v109, main_call0_call0_call0_v110, main_call0_call0_call0_c_28,
   main_call0_call0_call0_v111, main_call0_call0_call0_v112, main_call0_call0_call0_v113,
   main_call0_call0_call0_v114, main_call0_call0_call0_v115, main_call0_call0_call0_c_29,
   main_call0_call0_call0_v116, main_call0_call0_call0_v117, main_call0_call0_call0_c_30,
   main_call0_call0_call0_v118, main_call0_call0_call0_v119, main_call0_call0_call0_v120,
   main_call0_call0_call0_v121, main_call0_call0_call0_v122, main_call0_call0_call0_c_31,
   main_call0_call0_call0_v123, main_call0_call0_call0_v124, main_call0_call0_call0_c_32,
   main_call0_call0_call0_v125, main_call0_call0_call0_v126, main_call0_call0_call0_v127,
   main_call0_call0_call0_v128, main_call0_call0_call0_v129, main_call0_call0_call0_c_33,
   main_call0_call0_call0_v130, main_call0_call0_call0_v131, main_call0_call0_call0_c_34,
   main_call0_call0_call0_v132, main_call0_call0_call0_v133, main_call0_call0_call0_v134,
   main_call0_call0_call0_v135, main_call0_call0_call0_v136, main_call0_call0_call0_v137,
   main_call0_call0_call0_v138, main_call0_call0_call0_v139, main_call0_call0_call0_c_35,
   main_call0_call0_call0_v140, main_call0_call0_call0_v141, main_call0_call0_call0_v142,
   main_call0_call0_call0_c_36, main_call0_call0_call0_v143, main_call0_call0_call0_v144,
   main_call0_call0_call0_c_37, main_call0_call0_call0_v145, main_call0_call0_call0_v146,
   main_call0_call0_call0_v147, main_call0_call0_call0_v148, main_call0_call0_call0_v149,
   main_call0_call0_call0_c_38, main_call0_call0_call0_v150, main_call0_call0_call0_v151,
   main_call0_call0_call0_c_39, main_call0_call0_call0_v152, main_call0_call0_call0_v153,
   main_call0_call0_call0_v154, main_call0_call0_call0_v155, main_call0_call0_call0_v156,
   main_call0_call0_call0_c_40, main_call0_call0_call0_v157, main_call0_call0_call0_v158,
   main_call0_call0_call0_c_41, main_call0_call0_call0_v159, main_call0_call0_call0_v160,
   main_call0_call0_call0_v161, main_call0_call0_call0_v162, main_call0_call0_call0_v163,
   main_call0_call0_call0_c_42, main_call0_call0_call0_v164, main_call0_call0_call0_v165,
   main_call0_call0_call0_c_43, main_call0_call0_call0_v166, main_call0_call0_call0_v167,
   main_call0_call0_call0_v168, main_call0_call0_call0_v169, main_call0_call0_call0_v170, main_call0_call0_v18_0,
   main_call0_call0_call0_v172, main_call0_call0_call0_v173, main_call0_call0_call0_c_44,
   main_call0_call0_call0_v174, main_call0_call0_v18_1, main_call0_call0_v19, main_call0_call0_c_2,
   main_call0_call0_v20, main_call0_call0_v21, main_call0_call0_c_3, main_call0_call0_v22, main_call0_call0_v23,
   main_call0_call0_v24, main_call0_call0_cst, main_call0_call0_v25, main_call0_call0_v26, main_call0_call0_v27,
   main_call0_call0_v28, main_call0_call0_v29, main_call0_call0_v30, main_call0_call0_v31, main_call0_call0_v32,
   main_call0_v0, main_call0_v1, main_call0_v2, main_call0_v3, main_v29]

/-- `noiseOps` writes these and nothing else. -/
theorem noiseOps_writes : (noiseOps : List (HloOp τ sig (Elt F))).Forall fun op => op.writes ⊆ (noiseWrites.map (Proc.devRef (τ := τ) .tc)).toFinset :=
  StableHlo.forall_writes_sub_of_map rfl

/-- `noiseOps` chooses no contents of its own. -/
theorem noiseOps_fresh : (noiseOps : List (HloOp τ sig (Elt F))).Forall fun op => op.fresh = ∅ :=
  StableHlo.forall_fresh_of_map rfl

/-- `noiseOps` touches the core's buffers only. -/
theorem noiseOps_sub : (noiseOps : List (HloOp τ sig (Elt F))).Forall fun op => op.bufs ⊆ StableHlo.tcRefs τ sig :=
  ⟨nullary_bufs_sub .., nullary_bufs_sub .., unary_bufs_sub .., unary_bufs_sub .., unary_bufs_sub ..,
   unary_bufs_sub .., reshape_bufs_sub .., unary_bufs_sub .., reshape_bufs_sub .., nullary_bufs_sub ..,
   nullary_bufs_sub .., nullary_bufs_sub .., unary_bufs_sub .., binary_bufs_sub .., nullary_bufs_sub ..,
   unary_bufs_sub .., binary_bufs_sub .., binary_bufs_sub .., nullary_bufs_sub .., unary_bufs_sub ..,
   binary_bufs_sub .., unary_bufs_sub .., unary_bufs_sub .., binary_bufs_sub .., nullary_bufs_sub ..,
   binary_bufs_sub .., unary_bufs_sub .., binary_bufs_sub .., unary_bufs_sub .., binary_bufs_sub ..,
   binary_bufs_sub .., nullary_bufs_sub .., unary_bufs_sub .., binary_bufs_sub .., nullary_bufs_sub ..,
   unary_bufs_sub .., binary_bufs_sub .., binary_bufs_sub .., binary_bufs_sub .., binary_bufs_sub ..,
   nullary_bufs_sub .., unary_bufs_sub .., binary_bufs_sub .., nullary_bufs_sub .., unary_bufs_sub ..,
   binary_bufs_sub .., binary_bufs_sub .., binary_bufs_sub .., binary_bufs_sub .., nullary_bufs_sub ..,
   unary_bufs_sub .., binary_bufs_sub .., nullary_bufs_sub .., unary_bufs_sub .., binary_bufs_sub ..,
   binary_bufs_sub .., binary_bufs_sub .., binary_bufs_sub .., nullary_bufs_sub .., unary_bufs_sub ..,
   binary_bufs_sub .., nullary_bufs_sub .., unary_bufs_sub .., binary_bufs_sub .., binary_bufs_sub ..,
   binary_bufs_sub .., unary_bufs_sub .., binary_bufs_sub .., unary_bufs_sub .., binary_bufs_sub ..,
   nullary_bufs_sub .., unary_bufs_sub .., binary_bufs_sub .., binary_bufs_sub .., nullary_bufs_sub ..,
   unary_bufs_sub .., binary_bufs_sub .., nullary_bufs_sub .., unary_bufs_sub .., binary_bufs_sub ..,
   binary_bufs_sub .., binary_bufs_sub .., binary_bufs_sub .., nullary_bufs_sub .., unary_bufs_sub ..,
   binary_bufs_sub .., nullary_bufs_sub .., unary_bufs_sub .., binary_bufs_sub .., binary_bufs_sub ..,
   binary_bufs_sub .., binary_bufs_sub .., nullary_bufs_sub .., unary_bufs_sub .., binary_bufs_sub ..,
   nullary_bufs_sub .., unary_bufs_sub .., binary_bufs_sub .., binary_bufs_sub .., binary_bufs_sub ..,
   binary_bufs_sub .., nullary_bufs_sub .., unary_bufs_sub .., binary_bufs_sub .., nullary_bufs_sub ..,
   unary_bufs_sub .., binary_bufs_sub .., binary_bufs_sub .., binary_bufs_sub .., unary_bufs_sub ..,
   binary_bufs_sub .., unary_bufs_sub .., binary_bufs_sub .., nullary_bufs_sub .., unary_bufs_sub ..,
   binary_bufs_sub .., binary_bufs_sub .., nullary_bufs_sub .., unary_bufs_sub .., binary_bufs_sub ..,
   nullary_bufs_sub .., unary_bufs_sub .., binary_bufs_sub .., binary_bufs_sub .., binary_bufs_sub ..,
   binary_bufs_sub .., nullary_bufs_sub .., unary_bufs_sub .., binary_bufs_sub .., nullary_bufs_sub ..,
   unary_bufs_sub .., binary_bufs_sub .., binary_bufs_sub .., binary_bufs_sub .., binary_bufs_sub ..,
   nullary_bufs_sub .., unary_bufs_sub .., binary_bufs_sub .., nullary_bufs_sub .., unary_bufs_sub ..,
   binary_bufs_sub .., binary_bufs_sub .., binary_bufs_sub .., binary_bufs_sub .., nullary_bufs_sub ..,
   unary_bufs_sub .., binary_bufs_sub .., nullary_bufs_sub .., unary_bufs_sub .., binary_bufs_sub ..,
   binary_bufs_sub .., binary_bufs_sub .., unary_bufs_sub .., binary_bufs_sub .., unary_bufs_sub ..,
   binary_bufs_sub .., nullary_bufs_sub .., unary_bufs_sub .., binary_bufs_sub .., binary_bufs_sub ..,
   nullary_bufs_sub .., unary_bufs_sub .., binary_bufs_sub .., nullary_bufs_sub .., unary_bufs_sub ..,
   binary_bufs_sub .., binary_bufs_sub .., binary_bufs_sub .., binary_bufs_sub .., nullary_bufs_sub ..,
   unary_bufs_sub .., binary_bufs_sub .., nullary_bufs_sub .., unary_bufs_sub .., binary_bufs_sub ..,
   binary_bufs_sub .., binary_bufs_sub .., binary_bufs_sub .., nullary_bufs_sub .., unary_bufs_sub ..,
   binary_bufs_sub .., nullary_bufs_sub .., unary_bufs_sub .., binary_bufs_sub .., binary_bufs_sub ..,
   binary_bufs_sub .., binary_bufs_sub .., nullary_bufs_sub .., unary_bufs_sub .., binary_bufs_sub ..,
   nullary_bufs_sub .., unary_bufs_sub .., binary_bufs_sub .., binary_bufs_sub .., binary_bufs_sub ..,
   unary_bufs_sub .., binary_bufs_sub .., unary_bufs_sub .., binary_bufs_sub .., nullary_bufs_sub ..,
   unary_bufs_sub .., binary_bufs_sub .., binary_bufs_sub .., nullary_bufs_sub .., unary_bufs_sub ..,
   binary_bufs_sub .., nullary_bufs_sub .., unary_bufs_sub .., binary_bufs_sub .., binary_bufs_sub ..,
   binary_bufs_sub .., binary_bufs_sub .., nullary_bufs_sub .., unary_bufs_sub .., binary_bufs_sub ..,
   nullary_bufs_sub .., unary_bufs_sub .., binary_bufs_sub .., binary_bufs_sub .., binary_bufs_sub ..,
   binary_bufs_sub .., nullary_bufs_sub .., unary_bufs_sub .., binary_bufs_sub .., nullary_bufs_sub ..,
   unary_bufs_sub .., binary_bufs_sub .., binary_bufs_sub .., binary_bufs_sub .., binary_bufs_sub ..,
   nullary_bufs_sub .., unary_bufs_sub .., binary_bufs_sub .., nullary_bufs_sub .., unary_bufs_sub ..,
   binary_bufs_sub .., binary_bufs_sub .., binary_bufs_sub .., unary_bufs_sub .., binary_bufs_sub ..,
   unary_bufs_sub .., binary_bufs_sub .., nullary_bufs_sub .., unary_bufs_sub .., binary_bufs_sub ..,
   binary_bufs_sub .., nullary_bufs_sub .., unary_bufs_sub .., binary_bufs_sub .., nullary_bufs_sub ..,
   unary_bufs_sub .., binary_bufs_sub .., unary_bufs_sub .., nullary_bufs_sub .., unary_bufs_sub ..,
   binary_bufs_sub .., binary_bufs_sub .., unary_bufs_sub .., binary_bufs_sub .., unary_bufs_sub ..,
   binary_bufs_sub .., unary_bufs_sub .., binary_bufs_sub .., unary_bufs_sub .., unary_bufs_sub ..,
   unary_bufs_sub .., unary_bufs_sub ..⟩

/-- What `sumOps` writes, in order. -/
abbrev sumWrites : List (Ref sig .tc) :=
  [main_v30]

/-- `sumOps` writes these and nothing else. -/
theorem sumOps_writes : (sumOps : List (HloOp τ sig (Elt F))).Forall fun op => op.writes ⊆ (sumWrites.map (Proc.devRef (τ := τ) .tc)).toFinset :=
  StableHlo.forall_writes_sub_of_map rfl

/-- `sumOps` chooses no contents of its own. -/
theorem sumOps_fresh : (sumOps : List (HloOp τ sig (Elt F))).Forall fun op => op.fresh = ∅ :=
  StableHlo.forall_fresh_of_map rfl

/-- `sumOps` touches the core's buffers only. -/
theorem sumOps_sub : (sumOps : List (HloOp τ sig (Elt F))).Forall fun op => op.bufs ⊆ StableHlo.tcRefs τ sig :=
  binary_bufs_sub ..

/-- What `pickOps` writes, in order. -/
abbrev pickWrites : List (Ref sig .tc) :=
  [main_call1_v0, main_call1_cst, main_call1_c, main_call1_v1_0, main_v31]

/-- `pickOps` writes these and nothing else. -/
theorem pickOps_writes : (pickOps : List (HloOp τ sig (Elt F))).Forall fun op => op.writes ⊆ (pickWrites.map (Proc.devRef (τ := τ) .tc)).toFinset :=
  StableHlo.forall_writes_sub_of_map rfl

/-- `pickOps` chooses no contents of its own. -/
theorem pickOps_fresh : (pickOps : List (HloOp τ sig (Elt F))).Forall fun op => op.fresh = ∅ :=
  StableHlo.forall_fresh_of_map rfl

/-- `pickOps` touches the core's buffers only. -/
theorem pickOps_sub : (pickOps : List (HloOp τ sig (Elt F))).Forall fun op => op.bufs ⊆ StableHlo.tcRefs τ sig :=
  ⟨nullary_bufs_sub .., nullary_bufs_sub .., nullary_bufs_sub .., quaternary_bufs_sub .., quaternary_bufs_sub ..⟩

/-- What `dropOps` writes, in order. -/
abbrev dropWrites : List (Ref sig .tc) :=
  [main_v32]

/-- `dropOps` writes these and nothing else. -/
theorem dropOps_writes : (dropOps : List (HloOp τ sig (Elt F))).Forall fun op => op.writes ⊆ (dropWrites.map (Proc.devRef (τ := τ) .tc)).toFinset :=
  StableHlo.forall_writes_sub_of_map rfl

/-- `dropOps` chooses no contents of its own. -/
theorem dropOps_fresh : (dropOps : List (HloOp τ sig (Elt F))).Forall fun op => op.fresh = ∅ :=
  StableHlo.forall_fresh_of_map rfl

/-- `dropOps` touches the core's buffers only. -/
theorem dropOps_sub : (dropOps : List (HloOp τ sig (Elt F))).Forall fun op => op.bufs ⊆ StableHlo.tcRefs τ sig :=
  reshape_bufs_sub ..

/-- The whole program, as one line. -/
def allOps : List (HloOp τ sig (Elt F)) := logitOps ++ (noiseOps ++ (sumOps ++ (pickOps ++ dropOps)))

/-- The contents after two lines are the second's from the first's. -/
theorem after_append (xs ys : List (HloOp τ sig (Elt F))) (V : Valuation τ sig (Elt F)) :
    StableHlo.after (xs ++ ys) V = StableHlo.after ys (StableHlo.after xs V) := by
  induction xs generalizing V with
  | nil => rfl
  | cons x xs ih => exact ih _

/-- The program is that line. -/
theorem main_all (c : Dev nD) : main (F := F) c = StableHlo.seq allOps := by
  rw [main_lines]
  have e : ∀ p : Prog (TpuEff nD τ sig (Elt F) (Pipeline.Sig Λ₀ (Fin 0) fun p => (pcfgs (F := F) p).Adm) .tc) PUnit,
      (p >>= fun _ => pure ⟨⟩) = p := fun p => bind_pure p
  simp only [Pipeline.chain, allOps, StableHlo.seq_append, e]

/-- What holds of every operation of each line holds of the whole program's. -/
theorem all_of {p : HloOp τ sig (Elt F) → Prop} (h₀ : logitOps.Forall p) (h₁ : noiseOps.Forall p) (h₂ : sumOps.Forall p)
    (h₃ : pickOps.Forall p) (h₄ : dropOps.Forall p) : allOps.Forall p := by
  rw [List.forall_iff_forall_mem] at *
  intro op h
  simp only [allOps, List.mem_append] at h
  rcases h with h | h | h | h | h
  · exact h₀ op h
  · exact h₁ op h
  · exact h₂ op h
  · exact h₃ op h
  · exact h₄ op h

variable (m : (ℓ : Loc nD τ sig) → Buf (Elt F) ℓ)

/-- The contents once the logits and the key are there. -/
abbrev U1 (c : Dev nD) : Valuation τ sig (Elt F) := StableHlo.after logitOps (StableHlo.launchContents m c)
/-- The contents once the noise is there. -/
abbrev U2 (c : Dev nD) : Valuation τ sig (Elt F) := StableHlo.after noiseOps (U1 m c)
/-- The contents once the sum is there. -/
abbrev U3 (c : Dev nD) : Valuation τ sig (Elt F) := StableHlo.after sumOps (U2 m c)
/-- The contents once the greatest entry is found. -/
abbrev U4 (c : Dev nD) : Valuation τ sig (Elt F) := StableHlo.after pickOps (U3 m c)
/-- The contents at the end. -/
abbrev U5 (c : Dev nD) : Valuation τ sig (Elt F) := StableHlo.after dropOps (U4 m c)

/-- The whole line's contents are the last stretch's. -/
theorem after_all (c : Dev nD) : StableHlo.after allOps (StableHlo.launchContents m c) = U5 m c := by
  simp only [allOps, after_append]

/-- A buffer no line writes ends as it began. -/
theorem U5_of (c : Dev nD) (r : Ref sig .tc) (h₀ : r ∉ logitWrites) (h₁ : r ∉ noiseWrites) (h₂ : r ∉ sumWrites)
    (h₃ : r ∉ pickWrites) (h₄ : r ∉ dropWrites) : U5 m c (Proc.devRef .tc r) = m ((c.tc : Thread nD τ).loc r) := by
  rw [U5, StableHlo.after_of_writes_sub dropOps _ dropOps_writes h₄, U4, StableHlo.after_of_writes_sub pickOps _ pickOps_writes h₃,
    U3, StableHlo.after_of_writes_sub sumOps _ sumOps_writes h₂, U2, StableHlo.after_of_writes_sub noiseOps _ noiseOps_writes h₁,
    U1, StableHlo.after_of_writes_sub logitOps _ logitOps_writes h₀]

/-- The program has no counter to leave raised. -/
theorem no_counter : IsEmpty (SemLoc sig) := Fintype.card_eq_zero_iff.mp (by decide)

/-- Every execution ends with every buffer at its final contents and every counter at zero. -/
theorem run_all (ρ : Dev nD → PrngReg) :
    θ_run defs (onTc (τ := τ) (main (F := F))) ⟨m, fun _ => 0, ρ⟩ (fun r =>
      (∀ (c : Dev nD) (b : Ref sig .tc), r.2.mem ((c.tc : Thread nD τ).loc b) = U5 m c (Proc.devRef .tc b)) ∧ r.2.sem = fun _ => 0) := by
  refine θ_run_mono (StableHlo.run_seq (by decide) (by decide) defs main (fun _ => allOps) main_all
    (fun _ => all_of logitOps_sub noiseOps_sub sumOps_sub pickOps_sub dropOps_sub) m ρ
    (fun _ => List.forall_iff_forall_mem.mp (all_of logitOps_fresh noiseOps_fresh sumOps_fresh pickOps_fresh dropOps_fresh))) ?_
  intro r h
  refine ⟨fun c b => (h c b).trans (congrFun (after_all m c) _), funext fun s => ?_⟩
  exact (no_counter.false s.2).elim

end Cert.ReferenceIdeal.Hand

end
-- ==== Proof.Frames.lean ====
/- Each of the three programs terminates, leaves its arguments alone and leaves every semaphore counter at zero. -/
module

public import proofs.«01_k».proof.Defs
public import proofs.«01_k».proof.Proof.Bits.Launch
public import proofs.«01_k».proof.Proof.Ideal.Launch
public import proofs.«01_k».proof.Proof.Reference.Run

@[expose] public section

set_option maxRecDepth 4000

namespace Cert.Proof

open Idealize.ShloMosaic Idealize.SL.Sem

/-- The kernel at its own number formats terminates with its arguments as they were and every counter at zero. -/
theorem quiescent_Kernel : Cert.quiescent_Kernel := fun m g _ =>
  θ_run_mono (Cert.Kernel.Hand.run_all m g) fun r h => ⟨fun c => ⟨(h.1 c _ (Cert.Kernel.Hand.outlives Cert.Kernel.main_arg0 (by decide))).trans (Cert.Kernel.Gen.V6_main_arg0 m (Cert.Kernel.Hand.left m) c),
    (h.1 c _ (Cert.Kernel.Hand.outlives Cert.Kernel.main_arg1 (by decide))).trans (Cert.Kernel.Gen.V6_main_arg1 m (Cert.Kernel.Hand.left m) c),
    (h.1 c _ (Cert.Kernel.Hand.outlives Cert.Kernel.main_arg2 (by decide))).trans (Cert.Kernel.Gen.V6_main_arg2 m (Cert.Kernel.Hand.left m) c),
    (h.1 c _ (Cert.Kernel.Hand.outlives Cert.Kernel.main_arg3 (by decide))).trans (Cert.Kernel.Gen.V6_main_arg3 m (Cert.Kernel.Hand.left m) c),
    (h.1 c _ (Cert.Kernel.Hand.outlives Cert.Kernel.main_arg4 (by decide))).trans (Cert.Kernel.Gen.V6_main_arg4 m (Cert.Kernel.Hand.left m) c),
    (h.1 c _ (Cert.Kernel.Hand.outlives Cert.Kernel.main_arg5 (by decide))).trans (Cert.Kernel.Gen.V6_main_arg5 m (Cert.Kernel.Hand.left m) c),
    (h.1 c _ (Cert.Kernel.Hand.outlives Cert.Kernel.main_arg6 (by decide))).trans (Cert.Kernel.Gen.V6_main_arg6 m (Cert.Kernel.Hand.left m) c),
    (h.1 c _ (Cert.Kernel.Hand.outlives Cert.Kernel.main_arg7 (by decide))).trans (Cert.Kernel.Gen.V6_main_arg7 m (Cert.Kernel.Hand.left m) c)⟩, h.2⟩

/-- The kernel over the extended reals terminates with its arguments as they were and every counter at zero. -/
theorem quiescent_KernelIdeal : Cert.quiescent_KernelIdeal := fun m g _ =>
  θ_run_mono (Cert.KernelIdeal.Hand.run_all m g) fun r h => ⟨fun c => ⟨(h.1 c _ (Cert.KernelIdeal.Hand.outlives Cert.KernelIdeal.main_arg0 (by decide))).trans (Cert.KernelIdeal.Gen.V6_main_arg0 m (Cert.KernelIdeal.Hand.left m) c),
    (h.1 c _ (Cert.KernelIdeal.Hand.outlives Cert.KernelIdeal.main_arg1 (by decide))).trans (Cert.KernelIdeal.Gen.V6_main_arg1 m (Cert.KernelIdeal.Hand.left m) c),
    (h.1 c _ (Cert.KernelIdeal.Hand.outlives Cert.KernelIdeal.main_arg2 (by decide))).trans (Cert.KernelIdeal.Gen.V6_main_arg2 m (Cert.KernelIdeal.Hand.left m) c),
    (h.1 c _ (Cert.KernelIdeal.Hand.outlives Cert.KernelIdeal.main_arg3 (by decide))).trans (Cert.KernelIdeal.Gen.V6_main_arg3 m (Cert.KernelIdeal.Hand.left m) c),
    (h.1 c _ (Cert.KernelIdeal.Hand.outlives Cert.KernelIdeal.main_arg4 (by decide))).trans (Cert.KernelIdeal.Gen.V6_main_arg4 m (Cert.KernelIdeal.Hand.left m) c),
    (h.1 c _ (Cert.KernelIdeal.Hand.outlives Cert.KernelIdeal.main_arg5 (by decide))).trans (Cert.KernelIdeal.Gen.V6_main_arg5 m (Cert.KernelIdeal.Hand.left m) c),
    (h.1 c _ (Cert.KernelIdeal.Hand.outlives Cert.KernelIdeal.main_arg6 (by decide))).trans (Cert.KernelIdeal.Gen.V6_main_arg6 m (Cert.KernelIdeal.Hand.left m) c),
    (h.1 c _ (Cert.KernelIdeal.Hand.outlives Cert.KernelIdeal.main_arg7 (by decide))).trans (Cert.KernelIdeal.Gen.V6_main_arg7 m (Cert.KernelIdeal.Hand.left m) c)⟩, h.2⟩

/-- The reference over the extended reals terminates with its arguments as they were and every counter at zero. -/
theorem quiescent_ReferenceIdeal : Cert.quiescent_ReferenceIdeal := fun m g _ =>
  θ_run_mono (Cert.ReferenceIdeal.Hand.run_all m g) fun r h => ⟨fun c => ⟨(h.1 c Cert.ReferenceIdeal.main_arg0).trans (Cert.ReferenceIdeal.Hand.U5_of m c Cert.ReferenceIdeal.main_arg0 (by decide) (by decide) (by decide) (by decide) (by decide)),
    (h.1 c Cert.ReferenceIdeal.main_arg1).trans (Cert.ReferenceIdeal.Hand.U5_of m c Cert.ReferenceIdeal.main_arg1 (by decide) (by decide) (by decide) (by decide) (by decide)),
    (h.1 c Cert.ReferenceIdeal.main_arg2).trans (Cert.ReferenceIdeal.Hand.U5_of m c Cert.ReferenceIdeal.main_arg2 (by decide) (by decide) (by decide) (by decide) (by decide)),
    (h.1 c Cert.ReferenceIdeal.main_arg3).trans (Cert.ReferenceIdeal.Hand.U5_of m c Cert.ReferenceIdeal.main_arg3 (by decide) (by decide) (by decide) (by decide) (by decide)),
    (h.1 c Cert.ReferenceIdeal.main_arg4).trans (Cert.ReferenceIdeal.Hand.U5_of m c Cert.ReferenceIdeal.main_arg4 (by decide) (by decide) (by decide) (by decide) (by decide)),
    (h.1 c Cert.ReferenceIdeal.main_arg5).trans (Cert.ReferenceIdeal.Hand.U5_of m c Cert.ReferenceIdeal.main_arg5 (by decide) (by decide) (by decide) (by decide) (by decide)),
    (h.1 c Cert.ReferenceIdeal.main_arg6).trans (Cert.ReferenceIdeal.Hand.U5_of m c Cert.ReferenceIdeal.main_arg6 (by decide) (by decide) (by decide) (by decide) (by decide)),
    (h.1 c Cert.ReferenceIdeal.main_arg7).trans (Cert.ReferenceIdeal.Hand.U5_of m c Cert.ReferenceIdeal.main_arg7 (by decide) (by decide) (by decide) (by decide) (by decide))⟩, h.2⟩

end Cert.Proof

end
-- ==== Proof.Value.Follow.lean ====
/- o straight lines of host operations, run side by side

Two programs that hold the same function each keep a copy of its buffers, at different places. When the
second program's copy of a buffer always lies the same distance after the first's, one walk along both
lines shows that the two copies hold the same values. -/
module

public import Idealize.ShloMosaic.Lib.StableHlo.Run

@[expose] public section

namespace Cert.Value

open Idealize.ShloMosaic Idealize.SL.Sem

variable {τ τ' : Topo} {sig sig' : RefSig} {Val : EltTy → Type} {T Tx Ta Tb Ty : BufTy}

/-- Typed references of one type to buffers in HBM, the second `20` places after the first, which lies
    among the first program's buffers from place `19` up to that of `last`. -/
structure Twin (last : Ref sig .tc) (a : StableHlo.TRef sig T) (b : StableHlo.TRef sig' T) : Prop where
  left : a.ref.space = .hbm
  right : b.ref.space = .hbm
  low : 19 ≤ a.ref.idx.val
  high : a.ref.idx.val ≤ last.idx.val
  apart : b.ref.idx.val = a.ref.idx.val + 20

/-- All such twins hold one value. -/
def Agree (last : Ref sig .tc) (V : Valuation τ sig Val) (W : Valuation τ' sig' Val) : Prop :=
  ∀ (T : BufTy) (a : StableHlo.TRef sig T) (b : StableHlo.TRef sig' T), Twin last a b →
    a.ofBuf (V (Proc.devRef .tc a.ref)) = b.ofBuf (W (Proc.devRef .tc b.ref))

/-- A typed reference reads back what was stored through one to the same buffer. -/
theorem reads_back {y : StableHlo.TRef sig Ty} {a : StableHlo.TRef sig T} (h : a.ref = y.ref) (v : Ty.Contents Val)
    (V : Valuation τ sig Val) (hV : V (Proc.devRef .tc y.ref) = y.toBuf v) :
    HEq (a.ofBuf (V (Proc.devRef .tc a.ref))) v := by
  obtain ⟨r, hr, _, _⟩ := a
  obtain ⟨q, hq, _, _⟩ := y
  subst h; subst hr; subst hq
  simp only [cast_eq] at hV ⊢
  exact heq_of_eq hV

/-- Two references to one space at one place are one reference. -/
theorem ref_ext {a y : Ref sig .tc} (ha : a.space = .hbm) (hy : y.space = .hbm) (h : a.idx.val = y.idx.val) : a = y := by
  obtain ⟨s, i, _⟩ := a
  obtain ⟨q, j, _⟩ := y
  subst ha; subst hy
  have : i = j := Fin.ext h
  subst this; rfl

/-- One more buffer on each side, written with one value, and nothing else changed. -/
theorem Agree.push {last : Ref sig .tc} {V V' : Valuation τ sig Val} {W W' : Valuation τ' sig' Val}
    (h : Agree last V W) {y : StableHlo.TRef sig Ty} {z : StableHlo.TRef sig' Ty}
    (hs : y.ref.idx.val = last.idx.val + 1) (hyz : Twin y.ref y z) (v : Ty.Contents Val)
    (hV : V' (Proc.devRef .tc y.ref) = y.toBuf v) (hW : W' (Proc.devRef .tc z.ref) = z.toBuf v)
    (kV : ∀ r, r ≠ y.ref → V' (Proc.devRef .tc r) = V (Proc.devRef .tc r))
    (kW : ∀ r, r ≠ z.ref → W' (Proc.devRef .tc r) = W (Proc.devRef .tc r)) : Agree y.ref V' W' := by
  intro T a b hab
  by_cases e : a.ref.idx.val = y.ref.idx.val
  · have ea : a.ref = y.ref := ref_ext hab.left hyz.left e
    have eb : b.ref = z.ref := ref_ext hab.right hyz.right (by rw [hab.apart, hyz.apart, e])
    exact eq_of_heq ((reads_back ea v V' hV).trans (reads_back eb v W' hW).symm)
  · have ha := hab.high
    rw [kV a.ref fun q => e (congrArg (fun r : Ref sig .tc => r.idx.val) q),
      kW b.ref fun q => e (by have := congrArg (fun r : Ref sig' .tc => r.idx.val) q
                              have h1 := hab.apart; have h2 := hyz.apart; omega)]
    exact h T a b ⟨hab.left, hab.right, hab.low, by omega, hab.apart⟩

/-- The line `xs` of the first program and the line `ys` of the second take agreement up to `last` to agreement
    up to `stop`. -/
def Follow (last stop : Ref sig .tc) (xs : List (HloOp τ sig Val)) (ys : List (HloOp τ' sig' Val)) : Prop :=
  ∀ V W, Agree last V W → Agree stop (StableHlo.after xs V) (StableHlo.after ys W)

variable {last stop : Ref sig .tc} {xs : List (HloOp τ sig Val)} {ys : List (HloOp τ' sig' Val)}

/-- Nothing left to run. -/
theorem Follow.done : Follow (τ := τ) (τ' := τ') (sig' := sig') (Val := Val) stop stop [] [] := fun _ _ h => h

/-- The same constant on both sides. -/
theorem Follow.nullary {y : StableHlo.TRef sig Ty} {z : StableHlo.TRef sig' Ty} {v : Ty.Contents Val}
    (hs : y.ref.idx.val = last.idx.val + 1) (hyz : Twin y.ref y z) (h : Follow y.ref stop xs ys) :
    Follow last stop (StableHlo.TRef.nullary y v :: xs) (StableHlo.TRef.nullary z v :: ys) := fun V W hVW =>
  h _ _ (hVW.push hs hyz v (StableHlo.nullary_result ..) (StableHlo.nullary_result ..)
    (fun _ hr => StableHlo.nullary_result_ne _ _ _ _ hr) (fun _ hr => StableHlo.nullary_result_ne _ _ _ _ hr))

/-- The same operation of one operand on both sides. -/
theorem Follow.unary {x : StableHlo.TRef sig Tx} {x' : StableHlo.TRef sig' Tx} {y : StableHlo.TRef sig Ty}
    {z : StableHlo.TRef sig' Ty} {f : Tx.Contents Val → Ty.Contents Val}
    (hs : y.ref.idx.val = last.idx.val + 1) (hx : Twin last x x') (hyz : Twin y.ref y z) (h : Follow y.ref stop xs ys) :
    Follow last stop (StableHlo.TRef.unary x y f :: xs) (StableHlo.TRef.unary x' z f :: ys) := fun V W hVW =>
  h _ _ (hVW.push hs hyz (f (x.ofBuf (V (Proc.devRef .tc x.ref)))) (StableHlo.unary_result ..)
    ((StableHlo.unary_result ..).trans (by rw [hVW _ x x' hx]))
    (fun _ hr => StableHlo.unary_result_ne _ _ _ _ _ _ hr) (fun _ hr => StableHlo.unary_result_ne _ _ _ _ _ _ hr))

/-- The same operation of two operands on both sides. -/
theorem Follow.binary {a : StableHlo.TRef sig Ta} {a' : StableHlo.TRef sig' Ta} {b : StableHlo.TRef sig Tb}
    {b' : StableHlo.TRef sig' Tb} {y : StableHlo.TRef sig Ty} {z : StableHlo.TRef sig' Ty}
    {f : Ta.Contents Val → Tb.Contents Val → Ty.Contents Val} (hs : y.ref.idx.val = last.idx.val + 1)
    (ha : Twin last a a') (hb : Twin last b b') (hyz : Twin y.ref y z) (h : Follow y.ref stop xs ys) :
    Follow last stop (StableHlo.TRef.binary a b y f :: xs) (StableHlo.TRef.binary a' b' z f :: ys) := fun V W hVW =>
  h _ _ (hVW.push hs hyz (f (a.ofBuf (V (Proc.devRef .tc a.ref))) (b.ofBuf (V (Proc.devRef .tc b.ref))))
    (StableHlo.binary_result ..) ((StableHlo.binary_result ..).trans (by rw [hVW _ a a' ha, hVW _ b b' hb]))
    (fun _ hr => StableHlo.binary_result_ne _ _ _ _ _ _ _ _ hr) (fun _ hr => StableHlo.binary_result_ne _ _ _ _ _ _ _ _ hr))

/-- A reshape through typed references writes the reshaped value of its operand. -/
theorem reshape_writes_value (x : StableHlo.TRef sig Tx) (y : StableHlo.TRef sig Ty) (he : Tx.elt = Ty.elt)
    (hn : Tx.shape.ShapeCasts Ty.shape) (V : Valuation τ sig Val) :
    (StableHlo.TRef.reshape x y he hn : HloOp τ sig Val).result V (Proc.devRef .tc y.ref)
      = y.toBuf (fun i => he ▸ shapeCast Ty.shape (x.ofBuf (V (Proc.devRef .tc x.ref))) hn i) := by
  refine (StableHlo.reshape_result ..).trans ?_
  obtain ⟨r, hr, _, _⟩ := x
  obtain ⟨q, hq, _, _⟩ := y
  subst hr; subst hq
  rfl

/-- The same reshape on both sides. -/
theorem Follow.reshape {x : StableHlo.TRef sig Tx} {x' : StableHlo.TRef sig' Tx} {y : StableHlo.TRef sig Ty}
    {z : StableHlo.TRef sig' Ty} {he : Tx.elt = Ty.elt} {hn : Tx.shape.ShapeCasts Ty.shape}
    (hs : y.ref.idx.val = last.idx.val + 1) (hx : Twin last x x') (hyz : Twin y.ref y z) (h : Follow y.ref stop xs ys) :
    Follow last stop (StableHlo.TRef.reshape x y he hn :: xs) (StableHlo.TRef.reshape x' z he hn :: ys) := fun V W hVW =>
  h _ _ (hVW.push hs hyz _ (reshape_writes_value x y he hn V)
    ((reshape_writes_value x' z he hn W).trans (by rw [hVW _ x x' hx]))
    (fun _ hr => StableHlo.reshape_result_ne _ _ _ _ _ _ _ hr) (fun _ hr => StableHlo.reshape_result_ne _ _ _ _ _ _ _ hr))

end Cert.Value
-- ==== Proof.Value.Noise.lean ====
/- The noise: both programs draw it from the same constant key by the same operations, in the same order, so the two
   arrays of noise are one. -/
module

public import proofs.«01_k».proof.Proof.Gen.KernelIdeal.Regions
public import proofs.«01_k».proof.Proof.Reference.Run
public import proofs.«01_k».proof.Proof.Value.Follow
public import Idealize.ShloMosaic.Lib.StableHlo.RunRead

@[expose] public section

set_option maxRecDepth 10000

noncomputable section

namespace Cert.Value

open Idealize.ShloMosaic Idealize.ShloMosaic.TcCoe Idealize.SL.Sem
open Cert.ReferenceIdeal.Hand (noiseOps logitOps U1 U2)

variable {F : FTy → Type} [FloatOps F]

set_option maxHeartbeats 40000000 in
/-- The two lines that draw the noise, operation by operation. -/
theorem noise_follow : Follow Cert.KernelIdeal.main_v8 Cert.KernelIdeal.main_v9
    (Cert.KernelIdeal.Gen.hostOps0_1 (F := F)) (noiseOps (F := F)) := by
  unfold Cert.KernelIdeal.Gen.hostOps0_1 noiseOps
  iterate 2
    refine Follow.nullary rfl ⟨rfl, rfl, by decide, by decide, rfl⟩ ?_
  iterate 4
    refine Follow.unary rfl ⟨rfl, rfl, by decide, by decide, rfl⟩ ⟨rfl, rfl, by decide, by decide, rfl⟩ ?_
  refine Follow.reshape rfl ⟨rfl, rfl, by decide, by decide, rfl⟩ ⟨rfl, rfl, by decide, by decide, rfl⟩ ?_
  refine Follow.unary rfl ⟨rfl, rfl, by decide, by decide, rfl⟩ ⟨rfl, rfl, by decide, by decide, rfl⟩ ?_
  refine Follow.reshape rfl ⟨rfl, rfl, by decide, by decide, rfl⟩ ⟨rfl, rfl, by decide, by decide, rfl⟩ ?_
  iterate 3
    refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  iterate 2
    refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 3
    refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 3
    refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 3
    refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 3
    refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 4
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 3
    refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.nullary rfl ⟨rfl, rfl, by decide, by decide, rfl⟩ ?_
  refine Follow.unary rfl ⟨rfl, rfl, by decide, by decide, rfl⟩ ⟨rfl, rfl, by decide, by decide, rfl⟩ ?_
  iterate 2
    refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  refine Follow.unary rfl ⟨rfl, rfl, by decide, by decide, rfl⟩ ⟨rfl, rfl, by decide, by decide, rfl⟩ ?_
  refine Follow.binary rfl ⟨rfl, rfl, by decide, by decide, rfl⟩ ⟨rfl, rfl, by decide, by decide, rfl⟩
      ⟨rfl, rfl, by decide, by decide, rfl⟩ ?_
  iterate 4
    refine Follow.unary rfl ⟨rfl, rfl, by decide, by decide, rfl⟩ ⟨rfl, rfl, by decide, by decide, rfl⟩ ?_
  exact .done

/-- The key the kernel's program draws its noise from: the two words of the seed, made of constants. -/
theorem key_eq (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev 1) : (Cert.KernelIdeal.Gen.V1 m c Cert.KernelIdeal.main_v8 : (⟨Cert.KernelIdeal.S2, .i32⟩ : BufTy).Contents (Elt F))
      = U1 m' c Cert.ReferenceIdeal.main_v28 := by
  unfold Cert.KernelIdeal.Gen.V1 U1
  after_reads_simp
  refine congrArg₂ (fun a b : (⟨Cert.KernelIdeal.S1, .i32⟩ : BufTy).Contents (Elt F) =>
    concatenate Cert.KernelIdeal.S2 0 [⟨Cert.KernelIdeal.S1, a⟩, ⟨Cert.KernelIdeal.S1, b⟩]
      Cert.KernelIdeal.Gen.concatenates_S1_S1_S2_d0) ?_ ?_ <;> after_reads_simp

/-- The two programs draw one array of noise. -/
theorem noise_eq (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev 1) : (Cert.KernelIdeal.Gen.V2 m c Cert.KernelIdeal.main_v9 : (⟨Cert.KernelIdeal.S1x32768, .f32⟩ : BufTy).Contents (Elt F))
      = U2 m' c Cert.ReferenceIdeal.main_v29 := by
  refine noise_follow (Cert.KernelIdeal.Gen.V1 m c) (U1 m' c) (fun T a b h => ?_) _
    (.of Cert.KernelIdeal.main_v9) (.of Cert.ReferenceIdeal.main_v29) ⟨rfl, rfl, by decide, by decide, rfl⟩
  have ha : a.ref = Cert.KernelIdeal.main_v8 := ref_ext h.left rfl (Nat.le_antisymm h.high h.low)
  have hb : b.ref = Cert.ReferenceIdeal.main_v28 := ref_ext h.right rfl (by rw [h.apart, ha]; rfl)
  obtain ⟨r, hr, _, _⟩ := a
  obtain ⟨q, hq, _, _⟩ := b
  simp only at ha hb
  subst ha; subst hb; subst hr
  exact key_eq m m' c

end Cert.Value
-- ==== Proof.Value.Logits.lean ====
/- The logits: at every column both programs leave the same extended real, a bounded value of a weighted sum of
   hyperbolic tangents. -/
module

public import proofs.«01_k».proof.Proof.Ideal.Data
public import proofs.«01_k».proof.Proof.Reference.Run
public import Idealize.ShloMosaic.Lib.StableHlo.ReadAt
public import Idealize.ShloMosaic.Lib.Pointwise

@[expose] public section

set_option maxRecDepth 4000

noncomputable section

namespace Cert.Value

open Idealize.ShloMosaic Idealize.ShloMosaic.TcCoe Idealize.SL.Sem
open Cert.KernelIdeal Cert.KernelIdeal.Gen Cert.KernelIdeal.Hand

/-- The logit of row `n` of the queries: its entries shifted by the projected row `hq`, their hyperbolic tangents
    weighted by `hv` and summed, then the bias, the temperature and the bound (entries 2, 0 and 1 of `sc`). -/
def logit (Q : S32768x1024.Idx → Ideal .f32) (sc : S1x4.Idx → Ideal .f32) (hq hv : S1x1024.Idx → Ideal .f32)
    (n : Fin 32768) : Ideal .f32 :=
  sc (ix2 0 1) * Ideal.tanh (Ideal.div
    (∑ l : Fin 1024, hv (ix2 0 l) * Ideal.tanh (Q (ix2 n l) + hq (ix2 0 l)) + sc (ix2 0 2)) (sc (ix2 0 0)))

/-- A logit with the factors of each product the other way round. -/
theorem logit_comm (Q : S32768x1024.Idx → Ideal .f32) (sc : S1x4.Idx → Ideal .f32) (hq hv : S1x1024.Idx → Ideal .f32)
    (n : Fin 32768) : logit Q sc hq hv n = sc (ix2 0 1) * Ideal.tanh (Ideal.div
      (∑ l : Fin 1024, Ideal.tanh (Q (ix2 n l) + hq (ix2 0 l)) * hv (ix2 0 l) + sc (ix2 0 2)) (sc (ix2 0 0))) := by
  unfold logit
  rw [Finset.sum_congr rfl fun l _ => (_root_.mul_comm _ _ : (hv (ix2 0 l) : EReal) * Ideal.tanh (Q (ix2 n l) + hq (ix2 0 l)) = _)]

/-- Entry `l` of the second hidden row's projection: its product with row `l` of the weights, and the bias. -/
def projection (h : S2x1x1024.Idx → Ideal .f32) (W : S1024x1024.Idx → Ideal .f32) (b : S1024.Idx → Ideal .f32)
    (l : Fin 1024) : Ideal .f32 :=
  ∑ k : Fin 1024, h (ix3 1 0 k) * W (ix2 l k) + b (ix1 l)

/-- The logit as the reference writes it, from the arguments. -/
def logitFrom (h : S2x1x1024.Idx → Ideal .f32) (Q : S32768x1024.Idx → Ideal .f32) (W : S1024x1024.Idx → Ideal .f32)
    (b : S1024.Idx → Ideal .f32) (v : S1x1024.Idx → Ideal .f32) (vb : S1.Idx → Ideal .f32)
    (temperature bound : S_.Idx → BitVec 32) (n : Fin 32768) : Ideal .f32 :=
  FloatOps.sitofp (F := Ideal) .f32 (bound ix0) * Ideal.tanh (Ideal.div
    (∑ l : Fin 1024, Ideal.tanh (Q (ix2 n l) + projection h W b l) * v (ix2 0 l) + vb (ix1 0))
    (FloatOps.sitofp (F := Ideal) .f32 (temperature ix0)))

/-- Row `i` of chunk `j`. -/
abbrev row (j : Fin 16) (i : Fin 2048) : Fin 32768 := ⟨2048 * j.val + i.val, by omega⟩

/-- The two ways of naming an index by its two coordinates. -/
theorem ix2_same {a b : ℕ} (i : Fin a) (j : Fin b) : ValueIdx.ix2 i j = ix2 i j := by
  funext d; match d with | ⟨0, _⟩ => rfl | ⟨1, _⟩ => rfl

/-- The logits a point of the second call computes. -/
theorem pay3_apply (v4 v5 v6 : Ideal .f32) (v36 : Vec Ideal S1x2048x1024 .f32) (v38 v43 : Vec Ideal S1x1024 .f32)
    (i : Fin 2048) : k1_pay3 (F := Ideal) v4 v5 v6 v36 v38 v43 (ix2 0 i)
      = v5 * Ideal.tanh (Ideal.div
          (∑ l : Fin 1024, v43 (ix2 0 l) * Ideal.tanh (v36 (ix3 0 i l) + v38 (ix2 0 l)) + v6) v4) := by
  unfold k1_pay3
  pointwise

section
variable (Q : S32768x1024.Idx → Ideal .f32) (sc : S1x4.Idx → Ideal .f32) (hq hv : S1x1024.Idx → Ideal .f32)
  (g : S1x32768.Idx → Ideal .f32)

/-- A chunk's rows are the queries' rows. -/
theorem chunk_apply (j : Fin 16) (i : Fin 2048) (l : Fin 1024) : chunk (F := Ideal) Q j (ix3 0 i l) = Q (ix2 (row j i) l) :=
  congrArg Q (ix2_same _ _)

/-- A chunk of the noise is that part of the noise. -/
theorem noise_apply (j : Fin 16) (i : Fin 2048) : noise (F := Ideal) g j (ix2 0 i) = g (ix2 0 (row j i)) :=
  congrArg g (ix2_same _ _)

/-- A chunk's logits before they are stored. -/
theorem pay3_chunk (j : Fin 16) (i : Fin 2048) :
    k1_pay3 (F := Ideal) (sc (ValueIdx.ix2 0 0)) (sc (ValueIdx.ix2 0 1)) (sc (ValueIdx.ix2 0 2)) (chunk Q j) hq hv (ix2 0 i)
      = logit Q sc hq hv (row j i) := by
  rw [pay3_apply, ix2_same, ix2_same, ix2_same]
  unfold logit
  simp only [chunk_apply]

/-- A chunk's logits as they are stored. -/
theorem logitsOf_apply (j : Fin 16) (i : Fin 2048) : logitsOf (F := Ideal) Q sc hq hv j (ix2 0 i) = logit Q sc hq hv (row j i) := by
  rw [← pay3_chunk]
  unfold logitsOf k1_pay4
  pointwise

/-- A chunk's scores. -/
theorem scoresOf_apply (j : Fin 16) (i : Fin 2048) :
    scoresOf (F := Ideal) Q sc hq hv g j (ix2 0 i) = logit Q sc hq hv (row j i) + g (ix2 0 (row j i)) := by
  rw [← pay3_chunk, ← noise_apply g]
  unfold scoresOf k1_pay5
  pointwise

/-- The row of all the logits. -/
theorem logitRow_apply (n : Fin 32768) : logitRow (F := Ideal) Q sc hq hv (ix2 0 n) = logit Q sc hq hv n := by
  unfold logitRow
  rw [ix2_same]
  refine (logitsOf_apply Q sc hq hv _ _).trans (congrArg _ (Fin.ext ?_))
  show 2048 * (n.val / 2048) + n.val % 2048 = n.val
  omega
end

/-! ## The operands, from the arguments -/

section
variable (m : (ℓ : Loc nD τ sig) → Buf (Elt Ideal) ℓ) (c : Dev nD)

/-- What an argument holds at launch. -/
abbrev arg (r : Ref sig .tc) : r.ty.Contents (Elt Ideal) := m (c, Proc.devRef .tc r)

theorem opQ_eq : opQ m c = arg m c main_arg1 := by
  unfold opQ
  rw [V3_of m c main_arg1 (by decide), V2_of m c main_arg1 (by decide), V1_of m c main_arg1 (by decide)]

theorem opV_eq : opV m c = arg m c main_arg4 := by
  unfold opV
  rw [V3_of m c main_arg4 (by decide), V2_of m c main_arg4 (by decide), V1_of m c main_arg4 (by decide)]

/-- The noise is untouched after it is drawn. -/
theorem opG_eq : opG m c = V2 m c main_v9 := V3_of m c main_v9 (by decide)

/-- An argument is untouched when the second stretch of host operations ends. -/
theorem V2_arg (r : Ref sig .tc) (h : r ∉ hostOps0_1_W) (h' : r ∉ hostOps0_W) : V2 m c r = arg m c r := by
  rw [V2_of m c r h, V1_of m c r h']

theorem opS_temperature : opS m c (ix2 0 0) = FloatOps.sitofp (F := Ideal) .f32 (arg m c main_arg6 ix0) := by
  rw [← V2_arg m c main_arg6 (by decide) (by decide)]
  unfold opS V3
  after_reads_at
  after_reads_at

theorem opS_bound : opS m c (ix2 0 1) = FloatOps.sitofp (F := Ideal) .f32 (arg m c main_arg7 ix0) := by
  rw [← V2_arg m c main_arg7 (by decide) (by decide)]
  unfold opS V3
  after_reads_at
  after_reads_at

theorem opS_bias : opS m c (ix2 0 2) = arg m c main_arg5 (ix1 0) := by
  rw [← V2_arg m c main_arg5 (by decide) (by decide)]
  unfold opS V3
  after_reads_at
  after_reads_at

theorem hidden_eq (l : Fin 1024) : V3 m c main_v1 (ix2 0 l) = arg m c main_arg0 (ix3 1 0 l) := by
  rw [V3_of m c main_v1 (by decide), V2_of m c main_v1 (by decide)]
  unfold V1
  after_reads_at

theorem shift_eq (l : Fin 1024) : V3 m c main_v19 (ix2 0 l) = arg m c main_arg3 (ix1 l) := by
  rw [← V2_arg m c main_arg3 (by decide) (by decide)]
  unfold V3
  after_reads_at

/-- The projected row is the projection of the second hidden row. -/
theorem projected_apply (l : Fin 1024) : projected m c (ix2 0 l)
    = projection (arg m c main_arg0) (arg m c main_arg2) (arg m c main_arg3) l := by
  have hW : V3 m c main_arg2 = arg m c main_arg2 := by
    rw [V3_of m c main_arg2 (by decide), V2_arg m c main_arg2 (by decide) (by decide)]
  unfold projection projected k0_pay1
  rw [hW]
  pointwise
  exact congrArg₂ (fun a b : EReal => a + b)
    (Finset.sum_congr rfl fun k _ => congrArg (fun a : EReal => a * (arg m c main_arg2 : S1024x1024.Idx → EReal) (ix2 l k)) (hidden_eq m c k))
    (shift_eq m c l)
end

/-! ## The reference's logits -/

section
open Cert.ReferenceIdeal.Hand (U1)
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two programs start from the same arguments. -/
structure SameArgs : Prop where
  a0 : m' (c, Proc.devRef .tc Cert.ReferenceIdeal.main_arg0) = arg m c main_arg0
  a1 : m' (c, Proc.devRef .tc Cert.ReferenceIdeal.main_arg1) = arg m c main_arg1
  a2 : m' (c, Proc.devRef .tc Cert.ReferenceIdeal.main_arg2) = arg m c main_arg2
  a3 : m' (c, Proc.devRef .tc Cert.ReferenceIdeal.main_arg3) = arg m c main_arg3
  a4 : m' (c, Proc.devRef .tc Cert.ReferenceIdeal.main_arg4) = arg m c main_arg4
  a5 : m' (c, Proc.devRef .tc Cert.ReferenceIdeal.main_arg5) = arg m c main_arg5
  a6 : m' (c, Proc.devRef .tc Cert.ReferenceIdeal.main_arg6) = arg m c main_arg6
  a7 : m' (c, Proc.devRef .tc Cert.ReferenceIdeal.main_arg7) = arg m c main_arg7

/-- The reference's logits, from its arguments. -/
theorem reference_reads (n : Fin 32768) :
    (U1 m' c Cert.ReferenceIdeal.main_v21 : S1x32768.Idx → Ideal .f32) (ix2 0 n)
      = logitFrom (m' (c, Proc.devRef .tc Cert.ReferenceIdeal.main_arg0)) (m' (c, Proc.devRef .tc Cert.ReferenceIdeal.main_arg1))
          (m' (c, Proc.devRef .tc Cert.ReferenceIdeal.main_arg2)) (m' (c, Proc.devRef .tc Cert.ReferenceIdeal.main_arg3))
          (m' (c, Proc.devRef .tc Cert.ReferenceIdeal.main_arg4)) (m' (c, Proc.devRef .tc Cert.ReferenceIdeal.main_arg5))
          (m' (c, Proc.devRef .tc Cert.ReferenceIdeal.main_arg6)) (m' (c, Proc.devRef .tc Cert.ReferenceIdeal.main_arg7)) n := by
  unfold logitFrom projection U1
  after_reads_at

/-- The kernel's logits, from its arguments: only the factors of each product stand the other way round. -/
theorem kernel_reads (n : Fin 32768) : logit (opQ m c) (opS m c) (projected m c) (opV m c) n
      = logitFrom (arg m c main_arg0) (arg m c main_arg1) (arg m c main_arg2) (arg m c main_arg3) (arg m c main_arg4)
          (arg m c main_arg5) (arg m c main_arg6) (arg m c main_arg7) n := by
  rw [logit_comm]
  unfold logitFrom
  rw [opS_temperature, opS_bound, opS_bias, opQ_eq, opV_eq]
  simp only [projected_apply]

/-- The reference's logits are the kernel's. -/
theorem reference_logit (h : SameArgs m m' c) (n : Fin 32768) :
    (U1 m' c Cert.ReferenceIdeal.main_v21 : S1x32768.Idx → Ideal .f32) (ix2 0 n)
      = logit (opQ m c) (opS m c) (projected m c) (opV m c) n := by
  rw [kernel_reads, reference_reads, h.a0, h.a1, h.a2, h.a3, h.a4, h.a5, h.a6, h.a7]

/-- All the logits of the reference are all those of the kernel. -/
theorem reference_logits (h : SameArgs m m' c) :
    (U1 m' c Cert.ReferenceIdeal.main_v21 : S1x32768.Idx → Ideal .f32) = allLogits m c := by
  funext x
  have hx : x = ix2 0 (x 1) := by
    funext d
    match d with
    | ⟨0, _⟩ => exact Fin.ext (by have h : (x 0).val < 1 := (x 0).isLt; show (x 0).val = 0; omega)
    | ⟨1, _⟩ => rfl
  rw [hx]
  exact (reference_logit m m' c h (x 1)).trans (logitRow_apply _ _ _ _ (x 1)).symm
end

end Cert.Value
-- ==== Proof.Value.First.lean ====
/- Where the greatest of a row of extended reals first stands: what the kernel's sixteen rounds of a maximum and a least
   index find, and what the reference's one fold over (value, index) pairs finds. -/
module

public import proofs.«01_k».proof.Proof.Value.Logits

@[expose] public section

set_option maxRecDepth 4000

noncomputable section

namespace Cert.Value

open Idealize.ShloMosaic Idealize.ShloMosaic.TcCoe Idealize.SL.Sem
open Cert.KernelIdeal Cert.KernelIdeal.Gen Cert.KernelIdeal.Hand

/-- `k` is the first place of the greatest entry of `s`. -/
structure First (s : Fin 32768 → EReal) (k : Fin 32768) : Prop where
  top : ∀ i, s i ≤ s k
  first : ∀ i, s i = s k → k ≤ i

/-- There is one such place. -/
theorem First.unique {s : Fin 32768 → EReal} {k l : Fin 32768} (hk : First s k) (hl : First s l) : k = l :=
  have e : s k = s l := le_antisymm (hl.top k) (hk.top l)
  le_antisymm (hk.first l e.symm) (hl.first k e)

/-! ## Folds that pick -/

/-- A fold of an operation that returns one of its two operands, the one before the other in an order `le`, returns one
    of what it is given, before all of it. -/
theorem fold_picks {ι α : Type} [DecidableEq ι] (op : α → α → α) [Std.Commutative op] [Std.Associative op] (le : α → α → Prop)
    (refl : ∀ x, le x x) (trans : ∀ x y z, le x y → le y z → le x z) (pick : ∀ x y, op x y = x ∨ op x y = y)
    (left : ∀ x y, le (op x y) x) (right : ∀ x y, le (op x y) y) (b : α) (f : ι → α) (S : Finset ι) :
    (S.fold op b f = b ∨ ∃ i ∈ S, S.fold op b f = f i) ∧ ∀ i ∈ S, le (S.fold op b f) (f i) := by
  induction S using Finset.induction_on with
  | empty => exact ⟨.inl rfl, fun i hi => absurd hi (Finset.notMem_empty i)⟩
  | insert a S ha ih =>
    rw [Finset.fold_insert ha]
    refine ⟨?_, fun i hi => ?_⟩
    · rcases pick (f a) (S.fold op b f) with e | e
      · exact .inr ⟨a, Finset.mem_insert_self a S, e⟩
      · rcases ih.1 with h | ⟨i, hi, h⟩
        · exact .inl (e.trans h)
        · exact .inr ⟨i, Finset.mem_insert_of_mem hi, e.trans h⟩
    · rcases Finset.mem_insert.mp hi with rfl | hi
      · exact left _ _
      · exact trans _ _ _ (right _ _) (ih.2 i hi)

/-- The signed minimum of two words is one of them, and at most either. -/
theorem minsi_pick (x y : BitVec 32) : IntOp.minsi x y = x ∨ IntOp.minsi x y = y := by
  unfold IntOp.minsi; split
  · exact .inl rfl
  · exact .inr rfl

theorem minsi_left (x y : BitVec 32) : (IntOp.minsi x y).toInt ≤ x.toInt := by
  unfold IntOp.minsi; split
  · exact le_refl _
  · next h => rw [BitVec.slt_iff_toInt_lt] at h; exact not_lt.mp h

theorem minsi_right (x y : BitVec 32) : (IntOp.minsi x y).toInt ≤ y.toInt := by
  unfold IntOp.minsi; split
  · next h => rw [BitVec.slt_iff_toInt_lt] at h; exact le_of_lt h
  · exact le_refl _

/-- A small number as a signed word. -/
theorem toInt_small (n : ℕ) (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-! ## One chunk -/

/-- The word of a chunk's least index where its scores equal `M`. -/
abbrev leastWord (S : FVec Ideal S1x2048 .f32) (M : Ideal .f32) : BitVec 32 :=
  extractAt ![0, 0, 0] (k1_pay1 (F := Ideal) S (iota .tc S1x2048 32 [1] iota_S1x2048_d1_w32) (broadcast S1x2048 M)) inpos_S1x1x1_p0_0_0

/-- The greatest of a chunk's scores. -/
abbrev topOf (S : FVec Ideal S1x2048 .f32) : Ideal .f32 :=
  extractAt ![0, 0, 0] (shapeCast S1x1x1 (multiReduction .maximumf [1, 2] S1
    (shapeCast S1x1x2048 S shapeCasts_S1x2048_S1x1x2048) 0xFF800000#32 reduces_S1x1x2048_S1 (.inl rfl) rfl)
    shapeCasts_S1_S1x1x1) inpos_S1x1x1_p0_0_0

/-- The row of one axis of a block of three. -/
theorem lift_apply {α : Type} (S : S1x2048.Idx → α) (i : Fin 2048) :
    shapeCast S1x1x2048 S shapeCasts_S1x2048_S1x1x2048 (ix3 0 0 i) = S (ix2 0 i) := by
  pointwise

/-- Every index of such a block is one of the row. -/
theorem ix3_of (x : S1x1x2048.Idx) : ∃ i : Fin 2048, x = ix3 0 0 i := by
  refine ⟨x 2, ?_⟩
  funext d
  match d with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl

/-- A one-element shape has one index. -/
theorem S1_one (x y : S1.Idx) : x = y := by
  funext d
  match d with
  | ⟨0, _⟩ => exact Fin.ext (by have h : (x 0).val < 1 := (x 0).isLt; have h' : (y 0).val < 1 := (y 0).isLt; show (x 0).val = (y 0).val; omega)

/-- The negative infinity the maxima start from. -/
theorem start_bot : (FloatOps.ofBits .f32 0xFF800000#32 : Ideal .f32) = (⊥ : EReal) := by
  show Ideal.ofBits .f32 0xFF800000#32 = ⊥
  simp [Ideal.ofBits, Ideal.ieee]

/-- The greatest of a chunk's scores bounds them, and is one of them. -/
theorem topOf_spec (S : FVec Ideal S1x2048 .f32) :
    (∀ i, (S (ix2 0 i) : EReal) ≤ topOf S) ∧ ∃ i, topOf S = S (ix2 0 i) := by
  obtain ⟨z, hz⟩ : ∃ z, topOf S = (Finset.univ.filter fun i => reduces_S1x1x2048_S1.drop i = z).fold FloatOps.maximumf
      (FloatOps.ofBits .f32 0xFF800000#32) (shapeCast S1x1x2048 S shapeCasts_S1x2048_S1x1x2048) :=
    ⟨_, multiReduction_maximumf_eq_fold _ _ reduces_S1x1x2048_S1 (.inl rfl) rfl _⟩
  have h := fold_picks (FloatOps.maximumf (F := Ideal) (φ := .f32)) (fun x y : EReal => y ≤ x) (fun _ => le_refl _)
    (fun _ _ _ p q => le_trans q p) (fun x y : EReal => max_choice x y) (fun x y : EReal => le_max_left x y)
    (fun x y : EReal => le_max_right x y) (FloatOps.ofBits .f32 0xFF800000#32)
    (shapeCast S1x1x2048 S shapeCasts_S1x2048_S1x1x2048) (Finset.univ.filter fun i => reduces_S1x1x2048_S1.drop i = z)
  rw [← hz] at h
  have hle : ∀ i, (S (ix2 0 i) : EReal) ≤ topOf S := fun i => by
    have := h.2 (ix3 0 0 i) (Finset.mem_filter.mpr ⟨Finset.mem_univ _, S1_one _ _⟩)
    rwa [lift_apply] at this
  refine ⟨hle, ?_⟩
  rcases h.1 with e | ⟨x, _, e⟩
  · refine ⟨0, ?_⟩
    rw [start_bot] at e
    exact e.trans (le_bot_iff.mp (e ▸ hle 0)).symm
  · obtain ⟨i, rfl⟩ := ix3_of x
    exact ⟨i, e.trans (lift_apply S i)⟩

/-- The least index where a chunk's scores equal a value they take. -/
theorem leastWord_spec (S : FVec Ideal S1x2048 .f32) (M : Ideal .f32) (hM : ∃ i, M = S (ix2 0 i)) :
    ∃ a : Fin 2048, leastWord S M = BitVec.ofNat 32 a.val ∧ S (ix2 0 a) = M ∧ ∀ i, S (ix2 0 i) = M → a ≤ i := by
  obtain ⟨W, hW⟩ : ∃ W : S1x2048.Idx → BitVec 32, W = select (cmpf .oeq S (broadcast S1x2048 M))
    (iota .tc S1x2048 32 [1] iota_S1x2048_d1_w32) (broadcast S1x2048 2048#32) := ⟨_, rfl⟩
  have hWi : ∀ i, W (ix2 0 i) = if S (ix2 0 i) = M then BitVec.ofNat 32 i.val else 2048#32 := fun i => by
    subst hW
    show Scalar.select (Ideal.cmp .oeq (S (ix2 0 i)) M) _ _ = _
    unfold Scalar.select Ideal.cmp
    by_cases e : S (ix2 0 i) = M
    · rw [if_pos e, if_pos (by show BitVec.ofBool (decide _) = 1#1; rw [decide_eq_true e]; rfl)]
      pointwise
    · rw [if_neg e, if_neg (by show ¬ BitVec.ofBool (decide _) = 1#1; rw [decide_eq_false e]; decide)]
      rfl
  obtain ⟨z, hz⟩ : ∃ z, leastWord S M = (Finset.univ.filter fun i => reduces_S1x1x2048_S1.drop i = z).fold IKind.minsi.op
      2147483647#32 (shapeCast S1x1x2048 W shapeCasts_S1x2048_S1x1x2048) := by
    subst hW
    unfold leastWord k1_pay1
    exact ⟨_, multiReductionI_eq_fold .minsi _ _ reduces_S1x1x2048_S1 rfl _⟩
  have h := fold_picks IKind.minsi.op (fun x y : BitVec 32 => x.toInt ≤ y.toInt) (fun _ => le_refl _)
    (fun _ _ _ p q => le_trans p q) minsi_pick minsi_left minsi_right 2147483647#32
    (shapeCast S1x1x2048 W shapeCasts_S1x2048_S1x1x2048) (Finset.univ.filter fun i => reduces_S1x1x2048_S1.drop i = z)
  rw [← hz] at h
  have hle : ∀ i, S (ix2 0 i) = M → (leastWord S M).toInt ≤ i.val := fun i e => by
    have := h.2 (ix3 0 0 i) (Finset.mem_filter.mpr ⟨Finset.mem_univ _, S1_one _ _⟩)
    rw [lift_apply, hWi, if_pos e, toInt_small _ (by omega)] at this
    exact this
  obtain ⟨i₀, h₀⟩ := hM
  have hi₀ := hle i₀ h₀.symm
  rcases h.1 with e | ⟨x, _, e⟩
  · rw [e] at hi₀
    have : (2147483647#32).toInt = 2147483647 := by decide
    omega
  · obtain ⟨a, rfl⟩ := ix3_of x
    rw [lift_apply, hWi] at e
    by_cases q : S (ix2 0 a) = M
    · rw [if_pos q] at e
      refine ⟨a, e, q, fun i hi => ?_⟩
      have := hle i hi
      rw [e, toInt_small _ (by omega)] at this
      exact Fin.le_def.mpr (by exact_mod_cast this)
    · rw [if_neg q] at e
      rw [e] at hi₀
      have : (2048#32).toInt = 2048 := by decide
      omega

end Cert.Value
-- ==== Proof.Value.Rounds.lean ====
/- The kernel's index: after the sixteen chunks its running maximum and index are the first greatest score's. -/
module

public import proofs.«01_k».proof.Proof.Value.First

@[expose] public section

set_option maxRecDepth 4000

noncomputable section

namespace Cert.Value

open Idealize.ShloMosaic Idealize.ShloMosaic.TcCoe Idealize.SL.Sem
open Cert.KernelIdeal Cert.KernelIdeal.Gen Cert.KernelIdeal.Hand

variable (Q : S32768x1024.Idx → Ideal .f32) (sc : S1x4.Idx → Ideal .f32) (hq hv : S1x1024.Idx → Ideal .f32)
  (g : S1x32768.Idx → Ideal .f32)

/-- The score of row `n`: its logit and its noise. -/
def score (n : Fin 32768) : EReal := logit Q sc hq hv n + g (ix2 0 n)

/-- One chunk: its greatest score, and the word of the least index that has it. -/
theorem chunk_spec (j : Fin 16) : ∃ a : Fin 2048, argOf (F := Ideal) Q sc hq hv g j = BitVec.ofNat 32 a.val
    ∧ (maxOf (F := Ideal) Q sc hq hv g j : EReal) = score Q sc hq hv g (row j a)
    ∧ (∀ i, score Q sc hq hv g (row j i) ≤ (maxOf (F := Ideal) Q sc hq hv g j : EReal))
    ∧ ∀ i, score Q sc hq hv g (row j i) = (maxOf (F := Ideal) Q sc hq hv g j : EReal) → a ≤ i := by
  have hs : ∀ i, (scoresOf (F := Ideal) Q sc hq hv g j (ix2 0 i) : EReal) = score Q sc hq hv g (row j i) :=
    fun i => scoresOf_apply Q sc hq hv g j i
  have hm : maxOf (F := Ideal) Q sc hq hv g j = topOf (scoresOf (F := Ideal) Q sc hq hv g j) := rfl
  have ha : argOf (F := Ideal) Q sc hq hv g j = leastWord (scoresOf (F := Ideal) Q sc hq hv g j) (maxOf (F := Ideal) Q sc hq hv g j) := rfl
  obtain ⟨hle, hat⟩ := topOf_spec (scoresOf (F := Ideal) Q sc hq hv g j)
  rw [← hm] at hle hat
  obtain ⟨a, h1, h2, h3⟩ := leastWord_spec _ _ hat
  exact ⟨a, ha.trans h1, h2.symm.trans (hs a), fun i => (hs i) ▸ hle i, fun i e => h3 i ((hs i).trans e)⟩

/-- The comparison the kernel makes between its maxima. -/
theorem greater_of_lt {a b : Ideal .f32} (h : (b : EReal) < a) : Scalar.cmpf (F := Ideal) .ogt a b = 1#1 := by
  show BitVec.ofBool (decide _) = 1#1
  rw [decide_eq_true h]; rfl

theorem not_greater {a b : Ideal .f32} (h : ¬ (b : EReal) < a) : ¬ Scalar.cmpf (F := Ideal) .ogt a b = 1#1 := by
  show ¬ BitVec.ofBool (decide _) = 1#1
  rw [decide_eq_false h]; decide

/-- The running maximum and index after one more point. -/
theorem mS_next (t : ℕ) : mS (F := Ideal) Q sc hq hv g (t + 1)
    = Scalar.select (Scalar.cmpf (F := Ideal) .ogt (maxOf (F := Ideal) Q sc hq hv g (Fin.ofNat 16 t)) (mS (F := Ideal) Q sc hq hv g t))
      (maxOf (F := Ideal) Q sc hq hv g (Fin.ofNat 16 t)) (mS (F := Ideal) Q sc hq hv g t) := by
  rw [mS]; rfl

theorem miS_next (t : ℕ) : miS (F := Ideal) Q sc hq hv g (t + 1)
    = Scalar.select (Scalar.cmpf (F := Ideal) .ogt (maxOf (F := Ideal) Q sc hq hv g (Fin.ofNat 16 t)) (mS (F := Ideal) Q sc hq hv g t))
      (Scalar.addi (Scalar.muli (BitVec.ofNat 32 t) 2048#32) (argOf (F := Ideal) Q sc hq hv g (Fin.ofNat 16 t)))
      (miS (F := Ideal) Q sc hq hv g t) := by
  rw [miS]

/-- What the running maximum and index are before point `t`. -/
theorem rounds (t : ℕ) (ht : t ≤ 16) : ∃ k : ℕ, miS (F := Ideal) Q sc hq hv g t = BitVec.ofNat 32 k
    ∧ (((mS (F := Ideal) Q sc hq hv g t : EReal) = ⊥ ∧ k = 0)
      ∨ ∃ h : k < 32768, k < 2048 * t ∧ (mS (F := Ideal) Q sc hq hv g t : EReal) = score Q sc hq hv g ⟨k, h⟩)
    ∧ ∀ i : Fin 32768, i.val < 2048 * t → score Q sc hq hv g i ≤ (mS (F := Ideal) Q sc hq hv g t : EReal)
        ∧ (i.val < k → score Q sc hq hv g i < (mS (F := Ideal) Q sc hq hv g t : EReal)) := by
  induction t with
  | zero => exact ⟨0, rfl, .inl ⟨start_bot, rfl⟩, fun i hi => absurd hi (by omega)⟩
  | succ t ih =>
    obtain ⟨k, hk, hv', hall⟩ := ih (by omega)
    have hj : (Fin.ofNat 16 t).val = t := Nat.mod_eq_of_lt (by omega)
    obtain ⟨a, ha, hM, hle, hfirst⟩ := chunk_spec Q sc hq hv g (Fin.ofNat 16 t)
    have hcell : ∀ i : Fin 32768, 2048 * t ≤ i.val → i.val < 2048 * (t + 1) →
        ∃ b : Fin 2048, i = row (Fin.ofNat 16 t) b ∧ i.val = 2048 * t + b.val := fun i h1 h2 =>
      ⟨⟨i.val - 2048 * t, by omega⟩, Fin.ext (by show i.val = 2048 * (Fin.ofNat 16 t).val + (i.val - 2048 * t); rw [hj]; omega),
        by show i.val = 2048 * t + (i.val - 2048 * t); omega⟩
    have hrow : (row (Fin.ofNat 16 t) a).val = 2048 * t + a.val := by show 2048 * (Fin.ofNat 16 t).val + a.val = _; rw [hj]
    by_cases hgt : (mS (F := Ideal) Q sc hq hv g t : EReal) < (maxOf (F := Ideal) Q sc hq hv g (Fin.ofNat 16 t) : EReal)
    · have hc : Scalar.cmpf (F := Ideal) .ogt (maxOf (F := Ideal) Q sc hq hv g (Fin.ofNat 16 t)) (mS (F := Ideal) Q sc hq hv g t) = 1#1 := greater_of_lt hgt
      have em : mS (F := Ideal) Q sc hq hv g (t + 1) = maxOf (F := Ideal) Q sc hq hv g (Fin.ofNat 16 t) :=
        (mS_next Q sc hq hv g t).trans (if_pos hc)
      have ei : miS (F := Ideal) Q sc hq hv g (t + 1) = BitVec.ofNat 32 (2048 * t + a.val) := by
        refine (miS_next Q sc hq hv g t).trans ((if_pos hc).trans ?_)
        rw [ha]
        show BitVec.ofNat 32 t * 2048#32 + BitVec.ofNat 32 a.val = _
        rw [BitVec.ofNat_add, Nat.mul_comm, BitVec.ofNat_mul]
      rw [em, ei]
      refine ⟨2048 * t + a.val, rfl, .inr ⟨by omega, by omega, ?_⟩, fun i hi => ?_⟩
      · rw [hM]; exact congrArg _ (Fin.ext hrow)
      · by_cases hb : i.val < 2048 * t
        · exact ⟨le_of_lt (lt_of_le_of_lt (hall i hb).1 hgt), fun _ => lt_of_le_of_lt (hall i hb).1 hgt⟩
        · obtain ⟨b, rfl, e⟩ := hcell i (by omega) hi
          refine ⟨hle b, fun h => lt_of_le_of_ne (hle b) fun q => ?_⟩
          have := Fin.le_def.mp (hfirst b q)
          omega
    · have hc : ¬ Scalar.cmpf (F := Ideal) .ogt (maxOf (F := Ideal) Q sc hq hv g (Fin.ofNat 16 t)) (mS (F := Ideal) Q sc hq hv g t) = 1#1 := not_greater hgt
      have em : mS (F := Ideal) Q sc hq hv g (t + 1) = mS (F := Ideal) Q sc hq hv g t :=
        (mS_next Q sc hq hv g t).trans (if_neg hc)
      have ei : miS (F := Ideal) Q sc hq hv g (t + 1) = miS (F := Ideal) Q sc hq hv g t :=
        (miS_next Q sc hq hv g t).trans (if_neg hc)
      rw [em, ei]
      refine ⟨k, hk, ?_, fun i hi => ?_⟩
      · rcases hv' with h | ⟨h, h1, h2⟩
        · exact .inl h
        · exact .inr ⟨h, by omega, h2⟩
      · by_cases hb : i.val < 2048 * t
        · exact hall i hb
        · obtain ⟨b, rfl, e⟩ := hcell i (by omega) hi
          refine ⟨le_trans (hle b) (not_lt.mp hgt), fun h => ?_⟩
          rcases hv' with ⟨_, h0⟩ | ⟨_, h1, _⟩ <;> omega

/-- The kernel's index is the first greatest score's. -/
theorem kernel_first : ∃ k, First (score Q sc hq hv g) k ∧ miS (F := Ideal) Q sc hq hv g 16 = BitVec.ofNat 32 k.val := by
  obtain ⟨k, hk, hv', hall⟩ := rounds Q sc hq hv g 16 (le_refl _)
  have hle : ∀ i, score Q sc hq hv g i ≤ (mS (F := Ideal) Q sc hq hv g 16 : EReal) := fun i => (hall i (by omega)).1
  have hlt : ∀ i : Fin 32768, i.val < k → score Q sc hq hv g i < (mS (F := Ideal) Q sc hq hv g 16 : EReal) := fun i => (hall i (by omega)).2
  obtain ⟨h, e⟩ : ∃ h : k < 32768, (mS (F := Ideal) Q sc hq hv g 16 : EReal) = score Q sc hq hv g ⟨k, h⟩ := by
    rcases hv' with ⟨h0, rfl⟩ | ⟨h, _, e⟩
    · refine ⟨by omega, ?_⟩
      rw [h0] at hle ⊢
      exact (le_bot_iff.mp (hle _)).symm
    · exact ⟨h, e⟩
  rw [e] at hle hlt
  exact ⟨⟨k, h⟩, ⟨hle, fun i hi => Fin.le_def.mpr (by by_contra q; exact absurd hi (ne_of_lt (hlt i (by simpa using q))))⟩, hk⟩

end Cert.Value
-- ==== Proof.Value.Fold.lean ====
/- The reference's index: its fold over the (value, index) pairs of the scores ends at the first greatest score. -/
module

public import proofs.«01_k».proof.Proof.Value.First

@[expose] public section

set_option maxRecDepth 4000

noncomputable section

namespace Cert.Value

open Idealize.ShloMosaic Idealize.ShloMosaic.TcCoe Idealize.SL.Sem
open Cert.ReferenceIdeal

/-- One pair is no better than another: its value is less, or equal with an index no less. -/
def Worse (p r : EReal × BitVec 32) : Prop := p.1 < r.1 ∨ p.1 = r.1 ∧ r.2.toInt ≤ p.2.toInt

theorem Worse.refl (p : EReal × BitVec 32) : Worse p p := .inr ⟨rfl, le_refl _⟩

theorem Worse.trans {p q r : EReal × BitVec 32} (h : Worse p q) (h' : Worse q r) : Worse p r := by
  rcases h with h | ⟨h, i⟩ <;> rcases h' with h' | ⟨h', i'⟩
  · exact .inl (lt_trans h h')
  · exact .inl (h' ▸ h)
  · exact .inl (h ▸ h')
  · exact .inr ⟨h.trans h', le_trans i' i⟩

/-- The reducer, of extended reals and words. -/
abbrev better (a b : EReal × BitVec 32) : EReal × BitVec 32 := reducer_argmax_f32_i32 (F := Ideal) a b

/-- What the reducer returns when the first pair is to be kept, and when the second is. -/
theorem better_spec (a b : EReal × BitVec 32) :
    (better a b = a ∧ Worse b a) ∨ (better a b = b ∧ Worse a b) := by
  have e : better a b
      = (Scalar.select (IntOp.ori (BitVec.ofBool (decide (b.1 < a.1))) (BitVec.ofBool (decide (a.1 ≠ a.1)))) a.1 b.1,
        Scalar.select (IntOp.ori (IntOp.ori (BitVec.ofBool (decide (b.1 < a.1))) (BitVec.ofBool (decide (a.1 ≠ a.1))))
          (IntOp.andi (BitVec.ofBool (decide (a.1 = b.1))) (BitVec.ofBool (a.2.slt b.2)))) a.2 b.2) := rfl
  rw [e, decide_eq_false (not_not_intro rfl)]
  rcases lt_trichotomy a.1 b.1 with h | h | h
  · right
    rw [decide_eq_false (not_lt_of_gt h), decide_eq_false (ne_of_lt h)]
    refine ⟨?_, .inl h⟩
    cases a.2.slt b.2 <;> rfl
  · rw [decide_eq_false (by rw [h]; exact lt_irrefl _), decide_eq_true h]
    cases hs : a.2.slt b.2
    · right
      refine ⟨rfl, .inr ⟨h, ?_⟩⟩
      by_contra q
      rw [not_le, ← BitVec.slt_iff_toInt_lt] at q
      exact absurd (hs.symm.trans q) (by decide)
    · left
      refine ⟨Prod.ext h.symm rfl, .inr ⟨h.symm, le_of_lt (BitVec.slt_iff_toInt_lt.mp hs)⟩⟩
  · left
    rw [decide_eq_true h, decide_eq_false (ne_of_gt h)]
    refine ⟨?_, .inl h⟩
    cases a.2.slt b.2 <;> rfl

/-- The fold ends at one of the pairs it is given, no worse than any of them. -/
theorem fold_better (l : List (EReal × BitVec 32)) (a : EReal × BitVec 32) :
    (l.foldl better a = a ∨ l.foldl better a ∈ l) ∧ Worse a (l.foldl better a) ∧ ∀ p ∈ l, Worse p (l.foldl better a) := by
  induction l generalizing a with
  | nil => exact ⟨.inl rfl, Worse.refl a, fun p hp => absurd hp (List.not_mem_nil)⟩
  | cons b l ih =>
    obtain ⟨h1, h2, h3⟩ := ih (better a b)
    rw [List.foldl_cons]
    rcases better_spec a b with ⟨e, w⟩ | ⟨e, w⟩ <;> rw [e] at h1 h2 h3 ⊢
    · refine ⟨h1.imp id (List.mem_cons_of_mem _), h2, fun p hp => ?_⟩
      rcases List.mem_cons.mp hp with rfl | hp
      · exact w.trans h2
      · exact h3 p hp
    · refine ⟨.inr ?_, w.trans h2, fun p hp => ?_⟩
      · rcases h1 with h | h
        · rw [h]; exact List.mem_cons_self
        · exact List.mem_cons_of_mem _ h
      · rcases List.mem_cons.mp hp with rfl | hp
        · exact h2
        · exact h3 p hp

/-- The pairs the reference folds: each score with its index. -/
theorem mem_fiber (hr : S1x32768.ReducesTo [1] S1) (x : S1x32768.Idx → EReal) (j : S1.Idx) (p : EReal × BitVec 32) :
    p ∈ Host.argReduceFiber x (iotaInDim S1x32768 32 1) hr j
      ↔ ∃ n : Fin 32768, p = (x (ix2 0 n), BitVec.ofNat 32 n.val) := by
  unfold Host.argReduceFiber
  rw [List.mem_map]
  constructor
  · rintro ⟨n, _, rfl⟩
    generalize S1x32768.rowMajor.symm n = i
    have hi : i = ix2 0 (i 1) := by
      funext d
      match d with
      | ⟨0, _⟩ => exact Fin.ext (by have h : (i 0).val < 1 := (i 0).isLt; show (i 0).val = 0; omega)
      | ⟨1, _⟩ => rfl
    refine ⟨i 1, Prod.ext (congrArg x hi) ?_⟩
    rfl
  · rintro ⟨n, rfl⟩
    refine ⟨S1x32768.rowMajor (ix2 0 n), List.mem_filter.mpr ⟨List.mem_finRange _, decide_eq_true (S1_one _ _)⟩, ?_⟩
    rw [Equiv.symm_apply_apply]
    rfl

/-- The reference's index is that of the first greatest entry. -/
theorem reference_first (hr : S1x32768.ReducesTo [1] S1) (hu : 0 < S_.numel) (x : S1x32768.Idx → EReal) (j : S1.Idx) : ∃ k, First (fun n => x (ix2 0 n)) k
    ∧ (Host.argReduce (F := Ideal) (φ := .f32) reducer_argmax_f32_i32 x (iotaInDim S1x32768 32 1) (constant S_ .f32 0xFF800000#32)
        (constantI S_ 32 0#32) hr hu j).2 = BitVec.ofNat 32 k.val := by
  have e := congrFun (Ideal.argReduce_eq_reduce2 (φ := .f32) (reducer_argmax_f32_i32 (F := Ideal)) x (iotaInDim S1x32768 32 1)
    (constant (F := Ideal) S_ .f32 0xFF800000#32) (constantI S_ 32 0#32) hr hu) j
  rw [e, Host.reduce2_eq_foldl_fiber]
  have h := fold_better (Host.argReduceFiber x (iotaInDim S1x32768 32 1) hr j)
    ((constant (F := Ideal) S_ .f32 0xFF800000#32) (Shape.Idx.first hu), (constantI S_ 32 0#32) (Shape.Idx.first hu))
  have hb : (constant (F := Ideal) S_ .f32 0xFF800000#32 (Shape.Idx.first hu) : EReal) = ⊥ := start_bot
  have hz : (constantI S_ 32 0#32 (Shape.Idx.first hu)) = 0#32 := rfl
  rw [hb, hz] at h
  rw [hb, hz]
  generalize hf : (Host.argReduceFiber x (iotaInDim S1x32768 32 1) hr j).foldl better (⊥, 0#32) = r at h
  have hw : ∀ n : Fin 32768, Worse (x (ix2 0 n), BitVec.ofNat 32 n.val) r := fun n => h.2.2 _ ((mem_fiber hr x j _).mpr ⟨n, rfl⟩)
  obtain ⟨k, h1, h2⟩ : ∃ k : Fin 32768, r.1 = x (ix2 0 k) ∧ r.2 = BitVec.ofNat 32 k.val := by
    rcases h.1 with e | hm
    · refine ⟨0, ?_, by rw [e]; rfl⟩
      rcases hw 0 with q | ⟨q, _⟩
      · rw [e] at q; exact absurd q not_lt_bot
      · exact q.symm
    · obtain ⟨n, e⟩ := (mem_fiber hr x j r).mp hm
      exact ⟨n, by rw [e], by rw [e]⟩
  refine ⟨k, ⟨fun i => ?_, fun i hi => ?_⟩, ?_⟩
  · rcases hw i with q | ⟨q, _⟩
    · exact h1 ▸ le_of_lt q
    · exact h1 ▸ le_of_eq q
  · rcases hw i with q | ⟨_, q⟩
    · exact absurd (hi.trans h1.symm) (ne_of_lt q)
    · rw [h2, toInt_small _ (by omega), toInt_small _ (by omega)] at q
      exact Fin.le_def.mpr (by exact_mod_cast q)
  · rw [← h2, ← hf]

end Cert.Value
-- ==== Proof.Value.Algebraic.lean ====
/- The two results: the kernel and the reference leave the same index and the same logits. -/
module

public import proofs.«01_k».proof.Defs
public import proofs.«01_k».proof.Proof.Ideal.Launch
public import proofs.«01_k».proof.Proof.Value.Noise
public import proofs.«01_k».proof.Proof.Value.Rounds
public import proofs.«01_k».proof.Proof.Value.Fold

@[expose] public section

set_option maxRecDepth 4000

noncomputable section

namespace Cert.Value

open Idealize.ShloMosaic Idealize.ShloMosaic.TcCoe Idealize.SL.Sem
open Cert.KernelIdeal Cert.KernelIdeal.Gen Cert.KernelIdeal.Hand
open Cert.ReferenceIdeal.Hand (U1 U2 U3 U4 U5)

/-- The reference's sum at one column, from any contents before it. -/
theorem sum_after (V : Valuation Cert.ReferenceIdeal.τ Cert.ReferenceIdeal.sig (Elt Ideal)) (x : S1x32768.Idx) (a b : EReal)
    (ha : (V Cert.ReferenceIdeal.main_v29 : S1x32768.Idx → EReal) x = a)
    (hb : (V Cert.ReferenceIdeal.main_v21 : S1x32768.Idx → EReal) x = b) :
    (StableHlo.after Cert.ReferenceIdeal.Hand.sumOps V Cert.ReferenceIdeal.main_v30 : S1x32768.Idx → EReal) x = b + a := by
  have e : (StableHlo.after Cert.ReferenceIdeal.Hand.sumOps V Cert.ReferenceIdeal.main_v30 : S1x32768.Idx → EReal)
      = addf (F := Ideal) (φ := .f32) (V Cert.ReferenceIdeal.main_v29) (V Cert.ReferenceIdeal.main_v21) := by
    after_reads_simp
  exact (congrFun e x).trans ((congrArg₂ (fun p q : EReal => p + q) ha hb).trans (_root_.add_comm a b))

/-- Drawing the noise leaves the logits alone. -/
theorem noise_keeps (V : Valuation Cert.ReferenceIdeal.τ Cert.ReferenceIdeal.sig (Elt Ideal)) :
    StableHlo.after Cert.ReferenceIdeal.Hand.noiseOps V Cert.ReferenceIdeal.main_v21 = V Cert.ReferenceIdeal.main_v21 :=
  StableHlo.after_of_writes_sub Cert.ReferenceIdeal.Hand.noiseOps V Cert.ReferenceIdeal.Hand.noiseOps_writes (by decide)

/-- The reference's index, from any contents before it. -/
theorem pick_after (V : Valuation Cert.ReferenceIdeal.τ Cert.ReferenceIdeal.sig (Elt Ideal)) (j : Cert.ReferenceIdeal.S1.Idx) :
    (StableHlo.after Cert.ReferenceIdeal.Hand.pickOps V Cert.ReferenceIdeal.main_v31 : Cert.ReferenceIdeal.S1.Idx → BitVec 32) j
      = (Host.argReduce (F := Ideal) (φ := .f32) Cert.ReferenceIdeal.reducer_argmax_f32_i32 (V Cert.ReferenceIdeal.main_v30)
          (iotaInDim Cert.ReferenceIdeal.S1x32768 32 1) (constant Cert.ReferenceIdeal.S_ .f32 0xFF800000#32)
          (constantI Cert.ReferenceIdeal.S_ 32 0#32) Cert.ReferenceIdeal.Gen.reducesTo_S1x32768_S1_d1 Cert.ReferenceIdeal.Gen.h_S_ j).2 := by
  after_reads_simp
  rfl

/-- An index whose one axis is dropped is itself. -/
theorem drop_after (V : Valuation Cert.ReferenceIdeal.τ Cert.ReferenceIdeal.sig (Elt Ideal)) (w : BitVec 32)
    (h : ∀ j, (V Cert.ReferenceIdeal.main_v31 : Cert.ReferenceIdeal.S1.Idx → BitVec 32) j = w) :
    (StableHlo.after Cert.ReferenceIdeal.Hand.dropOps V Cert.ReferenceIdeal.main_v32 : S_.Idx → BitVec 32) = fun _ => w := by
  funext x
  after_reads_simp
  exact h _

/-- The same of the kernel's index. -/
theorem kernel_drop_after (V : Valuation τ sig (Elt Ideal)) (w : BitVec 32) (h : (V main_v21_1 : S1x1.Idx → BitVec 32) = fun _ => w) :
    (StableHlo.after (hostOps2 (F := Ideal)) V main_v22 : S_.Idx → BitVec 32) = fun _ => w := by
  funext x
  after_reads_simp
  exact congrFun h _

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The row the index is found in: at every column the kernel's score. -/
theorem sum_score (h : SameArgs m m' c) (n : Fin 32768) :
    (U3 m' c Cert.ReferenceIdeal.main_v30 : S1x32768.Idx → EReal) (ix2 0 n)
      = score (opQ m c) (opS m c) (projected m c) (opV m c) (opG m c) n :=
  sum_after (U2 m' c) (ix2 0 n) _ _ (congrFun ((opG_eq m c).trans (noise_eq m m' c)) (ix2 0 n)).symm
    ((congrFun (noise_keeps (U1 m' c)) (ix2 0 n)).trans (reference_logit m m' c h n))

/-- The reference's index is the kernel's. -/
theorem index_eq (h : SameArgs m m' c) (j : Cert.ReferenceIdeal.S1.Idx) :
    (U4 m' c Cert.ReferenceIdeal.main_v31 : Cert.ReferenceIdeal.S1.Idx → BitVec 32) j
      = miS (F := Ideal) (opQ m c) (opS m c) (projected m c) (opV m c) (opG m c) 16 := by
  obtain ⟨k, hk, e⟩ := reference_first Cert.ReferenceIdeal.Gen.reducesTo_S1x32768_S1_d1 Cert.ReferenceIdeal.Gen.h_S_
    (U3 m' c Cert.ReferenceIdeal.main_v30) j
  obtain ⟨l, hl, f⟩ := kernel_first (opQ m c) (opS m c) (projected m c) (opV m c) (opG m c)
  rw [funext (sum_score m m' c h)] at hk
  exact (pick_after (U3 m' c) j).trans (e.trans ((congrArg (fun k : Fin 32768 => BitVec.ofNat 32 k.val) (hk.unique hl)).trans f.symm))

/-- The reference's first result. -/
theorem reference_index (h : SameArgs m m' c) :
    (U5 m' c Cert.ReferenceIdeal.main_v32 : S_.Idx → BitVec 32)
      = fun _ => miS (F := Ideal) (opQ m c) (opS m c) (projected m c) (opV m c) (opG m c) 16 :=
  drop_after (U4 m' c) _ (index_eq m m' c h)

/-- The kernel's first result. -/
theorem kernel_index : (V6 m (left m) c main_v22 : S_.Idx → BitVec 32)
      = fun _ => miS (F := Ideal) (opQ m c) (opS m c) (projected m c) (opV m c) (opG m c) 16 :=
  kernel_drop_after (V5 m (left m) c) _ ((congrFun (V5_left m c) _).trans (W5_v21_1 m c))

/-- The kernel's second result. -/
theorem kernel_logits : (V6 m (left m) c main_v21_0 : S1x32768.Idx → Ideal .f32) = allLogits m c :=
  (V6_of m (left m) c main_v21_0 (by decide)).trans ((congrFun (V5_left m c) _).trans (W5_v21_0 m c))

/-- The reference's second result. -/
theorem reference_result (h : SameArgs m m' c) :
    (U5 m' c Cert.ReferenceIdeal.main_v21 : S1x32768.Idx → Ideal .f32) = allLogits m c := by
  have e : U5 m' c Cert.ReferenceIdeal.main_v21 = U1 m' c Cert.ReferenceIdeal.main_v21 :=
    (StableHlo.after_of_writes_sub Cert.ReferenceIdeal.Hand.dropOps _ Cert.ReferenceIdeal.Hand.dropOps_writes (by decide)).trans <|
    (StableHlo.after_of_writes_sub Cert.ReferenceIdeal.Hand.pickOps _ Cert.ReferenceIdeal.Hand.pickOps_writes (by decide)).trans <|
    (StableHlo.after_of_writes_sub Cert.ReferenceIdeal.Hand.sumOps _ Cert.ReferenceIdeal.Hand.sumOps_writes (by decide)).trans <|
    StableHlo.after_of_writes_sub Cert.ReferenceIdeal.Hand.noiseOps _ Cert.ReferenceIdeal.Hand.noiseOps_writes (by decide)
  exact e.trans (reference_logits m m' c h)

end Cert.Value

namespace Cert.Proof

open Idealize.ShloMosaic Idealize.ShloMosaic.TcCoe Idealize.SL.Sem

/-- Over the extended reals the kernel's two results are the reference's. -/
theorem algebraic_KernelIdeal_ReferenceIdeal : Cert.algebraic_KernelIdeal_ReferenceIdeal := by
  intro m g m' g' _ hsame
  have same : ∀ c, Cert.Value.SameArgs m m' c := fun c =>
    ⟨(hsame c).1, (hsame c).2.1, (hsame c).2.2.1, (hsame c).2.2.2.1, (hsame c).2.2.2.2.1, (hsame c).2.2.2.2.2.1, (hsame c).2.2.2.2.2.2.1, (hsame c).2.2.2.2.2.2.2⟩
  refine ⟨fun c => fun _ => Cert.KernelIdeal.Hand.miS (F := Ideal) (Cert.KernelIdeal.Hand.opQ m c) (Cert.KernelIdeal.Hand.opS m c)
      (Cert.KernelIdeal.Hand.projected m c) (Cert.KernelIdeal.Hand.opV m c) (Cert.KernelIdeal.Hand.opG m c) 16,
    fun c => Cert.KernelIdeal.Hand.allLogits m c, ?_, ?_⟩
  · refine θ_run_mono (Cert.KernelIdeal.Hand.run_all m g) fun r h c => ?_
    have at_end := fun (b : Ref Cert.KernelIdeal.sig .tc) hb => h.1 c _ (Cert.KernelIdeal.Hand.outlives b hb)
    exact ⟨(at_end Cert.KernelIdeal.main_v22 (by decide)).trans (Cert.Value.kernel_index m c),
      (at_end Cert.KernelIdeal.main_v21_0 (by decide)).trans (Cert.Value.kernel_logits m c),
      (at_end Cert.KernelIdeal.main_arg0 (by decide)).trans (Cert.KernelIdeal.Gen.V6_main_arg0 m (Cert.KernelIdeal.Hand.left m) c),
      (at_end Cert.KernelIdeal.main_arg1 (by decide)).trans (Cert.KernelIdeal.Gen.V6_main_arg1 m (Cert.KernelIdeal.Hand.left m) c),
      (at_end Cert.KernelIdeal.main_arg2 (by decide)).trans (Cert.KernelIdeal.Gen.V6_main_arg2 m (Cert.KernelIdeal.Hand.left m) c),
      (at_end Cert.KernelIdeal.main_arg3 (by decide)).trans (Cert.KernelIdeal.Gen.V6_main_arg3 m (Cert.KernelIdeal.Hand.left m) c),
      (at_end Cert.KernelIdeal.main_arg4 (by decide)).trans (Cert.KernelIdeal.Gen.V6_main_arg4 m (Cert.KernelIdeal.Hand.left m) c),
      (at_end Cert.KernelIdeal.main_arg5 (by decide)).trans (Cert.KernelIdeal.Gen.V6_main_arg5 m (Cert.KernelIdeal.Hand.left m) c),
      (at_end Cert.KernelIdeal.main_arg6 (by decide)).trans (Cert.KernelIdeal.Gen.V6_main_arg6 m (Cert.KernelIdeal.Hand.left m) c),
      (at_end Cert.KernelIdeal.main_arg7 (by decide)).trans (Cert.KernelIdeal.Gen.V6_main_arg7 m (Cert.KernelIdeal.Hand.left m) c)⟩
  · refine θ_run_mono (Cert.ReferenceIdeal.Hand.run_all m' g') fun r h c => ?_
    exact ⟨(h.1 c Cert.ReferenceIdeal.main_v32).trans (Cert.Value.reference_index m m' c (same c)),
      (h.1 c Cert.ReferenceIdeal.main_v21).trans (Cert.Value.reference_result m m' c (same c)),
      (h.1 c Cert.ReferenceIdeal.main_arg0).trans (Cert.ReferenceIdeal.Hand.U5_of m' c Cert.ReferenceIdeal.main_arg0 (by decide) (by decide) (by decide) (by decide) (by decide)),
      (h.1 c Cert.ReferenceIdeal.main_arg1).trans (Cert.ReferenceIdeal.Hand.U5_of m' c Cert.ReferenceIdeal.main_arg1 (by decide) (by decide) (by decide) (by decide) (by decide)),
      (h.1 c Cert.ReferenceIdeal.main_arg2).trans (Cert.ReferenceIdeal.Hand.U5_of m' c Cert.ReferenceIdeal.main_arg2 (by decide) (by decide) (by decide) (by decide) (by decide)),
      (h.1 c Cert.ReferenceIdeal.main_arg3).trans (Cert.ReferenceIdeal.Hand.U5_of m' c Cert.ReferenceIdeal.main_arg3 (by decide) (by decide) (by decide) (by decide) (by decide)),
      (h.1 c Cert.ReferenceIdeal.main_arg4).trans (Cert.ReferenceIdeal.Hand.U5_of m' c Cert.ReferenceIdeal.main_arg4 (by decide) (by decide) (by decide) (by decide) (by decide)),
      (h.1 c Cert.ReferenceIdeal.main_arg5).trans (Cert.ReferenceIdeal.Hand.U5_of m' c Cert.ReferenceIdeal.main_arg5 (by decide) (by decide) (by decide) (by decide) (by decide)),
      (h.1 c Cert.ReferenceIdeal.main_arg6).trans (Cert.ReferenceIdeal.Hand.U5_of m' c Cert.ReferenceIdeal.main_arg6 (by decide) (by decide) (by decide) (by decide) (by decide)),
      (h.1 c Cert.ReferenceIdeal.main_arg7).trans (Cert.ReferenceIdeal.Hand.U5_of m' c Cert.ReferenceIdeal.main_arg7 (by decide) (by decide) (by decide) (by decide) (by decide))⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  quiescent_Kernel, quiescent_KernelIdeal, quiescent_ReferenceIdeal, trivial,
  algebraic_KernelIdeal_ReferenceIdeal⟩

end Cert.Proof

end
